-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v69) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8_1)) (v1 : (c : Dev Cert.Kernel2Ideal.nD) → Buf (Elt Ideal) ((c.tc : Thread Cert.Kernel2Ideal.nD Cert.Kernel2Ideal.τ).loc Cert.Kernel2Ideal.main_v8_0)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)) (v7 : (c : Dev Cert.Kernel2Ideal.nD) → Buf (Elt Ideal) ((c.tc : Thread Cert.Kernel2Ideal.nD Cert.Kernel2Ideal.τ).loc Cert.Kernel2Ideal.main_v8_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_1) = v0 c
          ∧ r.2.mem ((c.tc : Thread Cert.Kernel2Ideal.nD Cert.Kernel2Ideal.τ).loc Cert.Kernel2Ideal.main_v8_0) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_v8_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_v105) = v1 c
          ∧ r.2.mem ((c.tc : Thread Cert.Reference2Ideal.nD Cert.Reference2Ideal.τ).loc Cert.Reference2Ideal.main_v106) = v2 c
          ∧ r.2.mem ((c.tc : Thread Cert.Reference2Ideal.nD Cert.Reference2Ideal.τ).loc Cert.Reference2Ideal.main_v107) = v3 c
          ∧ r.2.mem ((c.tc : Thread Cert.Reference2Ideal.nD Cert.Reference2Ideal.τ).loc Cert.Reference2Ideal.main_v108) = v4 c
          ∧ r.2.mem ((c.tc : Thread Cert.Reference2Ideal.nD Cert.Reference2Ideal.τ).loc Cert.Reference2Ideal.main_v109) = v5 c
          ∧ r.2.mem ((c.tc : Thread Cert.Reference2Ideal.nD Cert.Reference2Ideal.τ).loc Cert.Reference2Ideal.main_v110) = v6 c
          ∧ r.2.mem ((c.tc : Thread Cert.Reference2Ideal.nD Cert.Reference2Ideal.τ).loc Cert.Reference2Ideal.main_v111) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_v11) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S1x8208x16x64 : Shape := ⟨4, ![1, 8208, 16, 64]⟩
abbrev S1x8208x4x64 : Shape := ⟨4, ![1, 8208, 4, 64]⟩
abbrev S1x8208x1024 : Shape := ⟨3, ![1, 8208, 1024]⟩
abbrev S_ : Shape := ⟨0, ![]⟩

class Facts : Prop where
  bcast_S_S1x8208x16x64 : S_.BroadcastsInDim S1x8208x16x64 (![] : Fin 0 → Fin S1x8208x16x64.rank)
  reducesTo_S1x8208x16x64_S_d0_1_2_3 : S1x8208x16x64.ReducesTo [0, 1, 2, 3] S_
  h_S_ : 0 < S_.numel
  bcast_S_S1x8208x4x64 : S_.BroadcastsInDim S1x8208x4x64 (![] : Fin 0 → Fin S1x8208x4x64.rank)
  reducesTo_S1x8208x4x64_S_d0_1_2_3 : S1x8208x4x64.ReducesTo [0, 1, 2, 3] S_
  bcast_S_S1x8208x1024 : S_.BroadcastsInDim S1x8208x1024 (![] : Fin 0 → Fin S1x8208x1024.rank)
  reducesTo_S1x8208x1024_S_d0_1_2 : S1x8208x1024.ReducesTo [0, 1, 2] S_

variable [Facts]

def fn_part1 {F : FTy → Type} [FloatOps F] (main_v13 : IVec S_ 1) (main_v16 : IVec S1x8208x1024 1) : IVec S_ 1 :=
  let main_c_5 : IVec S_ 1 := constantI S_ 1 1#1
  let main_v17 : IVec S_ 1 := (fun x v => Host.reduce IntOp.andi x v reducesTo_S1x8208x1024_S_d0_1_2 h_S_) main_v16 main_c_5
  let main_v18 : IVec S_ 1 := andi main_v13 main_v17
  main_v18

def fn {F : FTy → Type} [FloatOps F] (main_arg0 : FVec F S1x8208x16x64 .f32) (main_arg1 : FVec F S1x8208x4x64 .f32) (main_arg2 : FVec F S1x8208x4x64 .f32) (main_arg3 : FVec F S1x8208x1024 .f32) : IVec S_ 1 :=
  let main_v0 : FVec F S1x8208x16x64 .f32 := Host.absf main_arg0
  let main_cst : FVec F S_ .f32 := constant S_ .f32 0x7F800000#32
  let main_v1 : FVec F S1x8208x16x64 .f32 := broadcastInDim S1x8208x16x64 ![] bcast_S_S1x8208x16x64 main_cst
  let main_v2 : IVec S1x8208x16x64 1 := cmpf .olt main_v0 main_v1
  let main_c : IVec S_ 1 := constantI S_ 1 1#1
  let main_v3 : IVec S_ 1 := (fun x v => Host.reduce IntOp.andi x v reducesTo_S1x8208x16x64_S_d0_1_2_3 h_S_) main_v2 main_c
  let main_v4 : FVec F S1x8208x4x64 .f32 := Host.absf main_arg1
  let main_cst_0 : FVec F S_ .f32 := constant S_ .f32 0x7F800000#32
  let main_v5 : FVec F S1x8208x4x64 .f32 := broadcastInDim S1x8208x4x64 ![] bcast_S_S1x8208x4x64 main_cst_0
  let main_v6 : IVec S1x8208x4x64 1 := cmpf .olt main_v4 main_v5
  let main_c_1 : IVec S_ 1 := constantI S_ 1 1#1
  let main_v7 : IVec S_ 1 := (fun x v => Host.reduce IntOp.andi x v reducesTo_S1x8208x4x64_S_d0_1_2_3 h_S_) main_v6 main_c_1
  let main_v8 : IVec S_ 1 := andi main_v3 main_v7
  let main_v9 : FVec F S1x8208x4x64 .f32 := Host.absf main_arg2
  let main_cst_2 : FVec F S_ .f32 := constant S_ .f32 0x7F800000#32
  let main_v10 : FVec F S1x8208x4x64 .f32 := broadcastInDim S1x8208x4x64 ![] bcast_S_S1x8208x4x64 main_cst_2
  let main_v11 : IVec S1x8208x4x64 1 := cmpf .olt main_v9 main_v10
  let main_c_3 : IVec S_ 1 := constantI S_ 1 1#1
  let main_v12 : IVec S_ 1 := (fun x v => Host.reduce IntOp.andi x v reducesTo_S1x8208x4x64_S_d0_1_2_3 h_S_) main_v11 main_c_3
  let main_v13 : IVec S_ 1 := andi main_v8 main_v12
  let main_v14 : FVec F S1x8208x1024 .f32 := Host.absf main_arg3
  let main_cst_4 : FVec F S_ .f32 := constant S_ .f32 0x7F800000#32
  let main_v15 : FVec F S1x8208x1024 .f32 := broadcastInDim S1x8208x1024 ![] bcast_S_S1x8208x1024 main_cst_4
  let main_v16 : IVec S1x8208x1024 1 := cmpf .olt main_v14 main_v15
  fn_part1 (F := F) main_v13 main_v16
-- ==== Kernel.lean ====
abbrev S1x8208x16x64 : Shape := ⟨4, ![1, 8208, 16, 64]⟩
abbrev S1x8208x4x64 : Shape := ⟨4, ![1, 8208, 4, 64]⟩
abbrev S1x8208x1024 : Shape := ⟨3, ![1, 8208, 1024]⟩
abbrev S8208x16x64 : Shape := ⟨3, ![8208, 16, 64]⟩
abbrev S8208x4x4x64 : Shape := ⟨4, ![8208, 4, 4, 64]⟩
abbrev S8208x4x64 : Shape := ⟨3, ![8208, 4, 64]⟩
abbrev S4x8208x8208x4 : Shape := ⟨4, ![4, 8208, 8208, 4]⟩
abbrev S4x4x8208x8208 : Shape := ⟨4, ![4, 4, 8208, 8208]⟩
abbrev S_ : Shape := ⟨0, ![]⟩
abbrev S4x4x8208 : Shape := ⟨3, ![4, 4, 8208]⟩
abbrev S4x4x8208x1 : Shape := ⟨4, ![4, 4, 8208, 1]⟩
abbrev S4x64x4x8208 : Shape := ⟨4, ![4, 64, 4, 8208]⟩
abbrev S4x4x64x8208 : Shape := ⟨4, ![4, 4, 64, 8208]⟩
abbrev S16x1x8448 : Shape := ⟨3, ![16, 1, 8448]⟩
abbrev S16x64x8208 : Shape := ⟨3, ![16, 64, 8208]⟩
abbrev S16x64x8448 : Shape := ⟨3, ![16, 64, 8448]⟩
abbrev S16x63x8448 : Shape := ⟨3, ![16, 63, 8448]⟩
abbrev S16x128x8448 : Shape := ⟨3, ![16, 128, 8448]⟩
abbrev S4x8208x1 : Shape := ⟨3, ![4, 8208, 1]⟩
abbrev S4x240x1 : Shape := ⟨3, ![4, 240, 1]⟩
abbrev S4x8448x1 : Shape := ⟨3, ![4, 8448, 1]⟩
abbrev S4x8208x64 : Shape := ⟨3, ![4, 8208, 64]⟩
abbrev S4x8448x64 : Shape := ⟨3, ![4, 8448, 64]⟩
abbrev S4x8448x63 : Shape := ⟨3, ![4, 8448, 63]⟩
abbrev S4x8448x128 : Shape := ⟨3, ![4, 8448, 128]⟩
abbrev S4x64x8208 : Shape := ⟨3, ![4, 64, 8208]⟩
abbrev S4x64x8448 : Shape := ⟨3, ![4, 64, 8448]⟩
abbrev S8208x1024 : Shape := ⟨2, ![8208, 1024]⟩
abbrev S1024x8208 : Shape := ⟨2, ![1024, 8208]⟩
abbrev S1024x8448 : Shape := ⟨2, ![1024, 8448]⟩
abbrev S4x4x8448 : Shape := ⟨3, ![4, 4, 8448]⟩
abbrev S4x128x768 : Shape := ⟨3, ![4, 128, 768]⟩
abbrev S1x768x128 : Shape := ⟨3, ![1, 768, 128]⟩
abbrev S1x64x768 : Shape := ⟨3, ![1, 64, 768]⟩
abbrev S256x768 : Shape := ⟨2, ![256, 768]⟩
abbrev S1x4x768 : Shape := ⟨3, ![1, 4, 768]⟩
abbrev S1x768x64 : Shape := ⟨3, ![1, 768, 64]⟩
abbrev S256x8448 : Shape := ⟨2, ![256, 8448]⟩
abbrev S768x128 : Shape := ⟨2, ![768, 128]⟩
abbrev S64x768 : Shape := ⟨2, ![64, 768]⟩
abbrev S768x64 : Shape := ⟨2, ![768, 64]⟩
abbrev S1x128x768 : Shape := ⟨3, ![1, 128, 768]⟩
abbrev S128x768 : Shape := ⟨2, ![128, 768]⟩
abbrev S768x768 : Shape := ⟨2, ![768, 768]⟩
abbrev S768 : Shape := ⟨1, ![768]⟩
abbrev S1x768 : Shape := ⟨2, ![1, 768]⟩
abbrev S1x1x768 : Shape := ⟨3, ![1, 1, 768]⟩

abbrev nBuf : Space → Nat
  | .hbm => 102
  | .vmem => 20
  | .smem => 0
  | _ => 0

abbrev bufTy : (tb : Table) → Fin (tcTables nBuf tb) → BufTy
  | .hbm, ⟨0, _⟩ => ⟨S1x8208x16x64, .f32⟩
  | .hbm, ⟨1, _⟩ => ⟨S1x8208x4x64, .f32⟩
  | .hbm, ⟨2, _⟩ => ⟨S1x8208x4x64, .f32⟩
  | .hbm, ⟨3, _⟩ => ⟨S1x8208x1024, .f32⟩
  | .hbm, ⟨4, _⟩ => ⟨S8208x16x64, .f32⟩
  | .hbm, ⟨5, _⟩ => ⟨S8208x4x4x64, .f32⟩
  | .hbm, ⟨6, _⟩ => ⟨S8208x4x64, .f32⟩
  | .hbm, ⟨7, _⟩ => ⟨S4x8208x8208x4, .f32⟩
  | .hbm, ⟨8, _⟩ => ⟨S4x4x8208x8208, .f32⟩
  | .hbm, ⟨9, _⟩ => ⟨S_, .f32⟩
  | .hbm, ⟨10, _⟩ => ⟨S4x4x8208x8208, .f32⟩
  | .hbm, ⟨11, _⟩ => ⟨S4x4x8208x8208, .f32⟩
  | .hbm, ⟨12, _⟩ => ⟨S_, .f32⟩
  | .hbm, ⟨13, _⟩ => ⟨S4x4x8208, .f32⟩
  | .hbm, ⟨14, _⟩ => ⟨S4x4x8208x1, .f32⟩
  | .hbm, ⟨15, _⟩ => ⟨S4x4x8208x8208, .f32⟩
  | .hbm, ⟨16, _⟩ => ⟨S4x4x8208x8208, .f32⟩
  | .hbm, ⟨17, _⟩ => ⟨S4x4x8208x8208, .f32⟩
  | .hbm, ⟨18, _⟩ => ⟨S_, .f32⟩
  | .hbm, ⟨19, _⟩ => ⟨S4x4x8208, .f32⟩
  | .hbm, ⟨20, _⟩ => ⟨S4x4x8208, .f32⟩
  | .hbm, ⟨21, _⟩ => ⟨S4x4x8208, .f32⟩
  | .hbm, ⟨22, _⟩ => ⟨S4x4x8208x1, .f32⟩
  | .hbm, ⟨23, _⟩ => ⟨S4x4x8208x8208, .f32⟩
  | .hbm, ⟨24, _⟩ => ⟨S4x4x8208x8208, .f32⟩
  | .hbm, ⟨25, _⟩ => ⟨S8208x4x64, .f32⟩
  | .hbm, ⟨26, _⟩ => ⟨S4x64x4x8208, .f32⟩
  | .hbm, ⟨27, _⟩ => ⟨S4x4x64x8208, .f32⟩
  | .hbm, ⟨28, _⟩ => ⟨S_, .f32⟩
  | .hbm, ⟨29, _⟩ => ⟨S16x1x8448, .f32⟩
  | .hbm, ⟨30, _⟩ => ⟨S8208x16x64, .f32⟩
  | .hbm, ⟨31, _⟩ => ⟨S_, .f32⟩
  | .hbm, ⟨32, _⟩ => ⟨S8208x16x64, .f32⟩
  | .hbm, ⟨33, _⟩ => ⟨S8208x16x64, .f32⟩
  | .hbm, ⟨34, _⟩ => ⟨S16x64x8208, .f32⟩
  | .hbm, ⟨35, _⟩ => ⟨S_, .i32⟩
  | .hbm, ⟨36, _⟩ => ⟨S_, .f32⟩
  | .hbm, ⟨37, _⟩ => ⟨S16x64x8448, .f32⟩
  | .hbm, ⟨38, _⟩ => ⟨S_, .f32⟩
  | .hbm, ⟨39, _⟩ => ⟨S16x63x8448, .f32⟩
  | .hbm, ⟨40, _⟩ => ⟨S16x128x8448, .f32⟩
  | .hbm, ⟨41, _⟩ => ⟨S16x128x8448, .bf16⟩
  | .hbm, ⟨42, _⟩ => ⟨S_, .f32⟩
  | .hbm, ⟨43, _⟩ => ⟨S4x8208x1, .f32⟩
  | .hbm, ⟨44, _⟩ => ⟨S_, .f32⟩
  | .hbm, ⟨45, _⟩ => ⟨S4x240x1, .f32⟩
  | .hbm, ⟨46, _⟩ => ⟨S4x8448x1, .f32⟩
  | .hbm, ⟨47, _⟩ => ⟨S8208x4x64, .f32⟩
  | .hbm, ⟨48, _⟩ => ⟨S4x8208x64, .f32⟩
  | .hbm, ⟨49, _⟩ => ⟨S_, .i32⟩
  | .hbm, ⟨50, _⟩ => ⟨S_, .f32⟩
  | .hbm, ⟨51, _⟩ => ⟨S4x8448x64, .f32⟩
  | .hbm, ⟨52, _⟩ => ⟨S_, .f32⟩
  | .hbm, ⟨53, _⟩ => ⟨S4x8448x63, .f32⟩
  | .hbm, ⟨54, _⟩ => ⟨S4x8448x128, .f32⟩
  | .hbm, ⟨55, _⟩ => ⟨S4x8448x128, .bf16⟩
  | .hbm, ⟨56, _⟩ => ⟨S8208x4x64, .f32⟩
  | .hbm, ⟨57, _⟩ => ⟨S4x64x8208, .f32⟩
  | .hbm, ⟨58, _⟩ => ⟨S_, .i32⟩
  | .hbm, ⟨59, _⟩ => ⟨S_, .f32⟩
  | .hbm, ⟨60, _⟩ => ⟨S4x64x8448, .f32⟩
  | .hbm, ⟨61, _⟩ => ⟨S4x64x8448, .bf16⟩
  | .hbm, ⟨62, _⟩ => ⟨S8208x4x64, .f32⟩
  | .hbm, ⟨63, _⟩ => ⟨S4x8208x64, .f32⟩
  | .hbm, ⟨64, _⟩ => ⟨S_, .i32⟩
  | .hbm, ⟨65, _⟩ => ⟨S_, .f32⟩
  | .hbm, ⟨66, _⟩ => ⟨S4x8448x64, .f32⟩
  | .hbm, ⟨67, _⟩ => ⟨S_, .f32⟩
  | .hbm, ⟨68, _⟩ => ⟨S4x8448x1, .f32⟩
  | .hbm, ⟨69, _⟩ => ⟨S_, .f32⟩
  | .hbm, ⟨70, _⟩ => ⟨S4x8448x63, .f32⟩
  | .hbm, ⟨71, _⟩ => ⟨S4x8448x128, .f32⟩
  | .hbm, ⟨72, _⟩ => ⟨S4x8448x128, .bf16⟩
  | .hbm, ⟨73, _⟩ => ⟨S8208x1024, .f32⟩
  | .hbm, ⟨74, _⟩ => ⟨S1024x8208, .f32⟩
  | .hbm, ⟨75, _⟩ => ⟨S_, .i32⟩
  | .hbm, ⟨76, _⟩ => ⟨S_, .f32⟩
  | .hbm, ⟨77, _⟩ => ⟨S1024x8448, .f32⟩
  | .hbm, ⟨78, _⟩ => ⟨S1024x8448, .bf16⟩
  | .hbm, ⟨79, _⟩ => ⟨S1024x8208, .f32⟩
  | .hbm, ⟨80, _⟩ => ⟨S_, .i32⟩
  | .hbm, ⟨81, _⟩ => ⟨S_, .f32⟩
  | .hbm, ⟨82, _⟩ => ⟨S1024x8448, .f32⟩
  | .hbm, ⟨83, _⟩ => ⟨S_, .i32⟩
  | .hbm, ⟨84, _⟩ => ⟨S_, .f32⟩
  | .hbm, ⟨85, _⟩ => ⟨S4x4x8448, .f32⟩
  | .hbm, ⟨86, _⟩ => ⟨S4x8448x128, .f32⟩
  | .hbm, ⟨87, _⟩ => ⟨S4x8448x64, .f32⟩
  | .hbm, ⟨88, _⟩ => ⟨S1024x8448, .f32⟩
  | .hbm, ⟨89, _⟩ => ⟨S16x64x8448, .f32⟩
  | .hbm, ⟨90, _⟩ => ⟨S16x64x8208, .f32⟩
  | .hbm, ⟨91, _⟩ => ⟨S8208x16x64, .f32⟩
  | .hbm, ⟨92, _⟩ => ⟨S1x8208x16x64, .f32⟩
  | .hbm, ⟨93, _⟩ => ⟨S_, .f32⟩
  | .hbm, ⟨94, _⟩ => ⟨S1x8208x16x64, .f32⟩
  | .hbm, ⟨95, _⟩ => ⟨S1x8208x16x64, .f32⟩
  | .hbm, ⟨96, _⟩ => ⟨S4x8208x64, .f32⟩
  | .hbm, ⟨97, _⟩ => ⟨S8208x4x64, .f32⟩
  | .hbm, ⟨98, _⟩ => ⟨S1x8208x4x64, .f32⟩
  | .hbm, ⟨99, _⟩ => ⟨S4x8208x64, .f32⟩
  | .hbm, ⟨100, _⟩ => ⟨S8208x4x64, .f32⟩
  | .hbm, ⟨101, _⟩ => ⟨S1x8208x4x64, .f32⟩
  | .local _ .vmem, ⟨0, _⟩ => ⟨S4x128x768, .bf16⟩
  | .local _ .vmem, ⟨1, _⟩ => ⟨S4x128x768, .bf16⟩
  | .local _ .vmem, ⟨2, _⟩ => ⟨S1x768x128, .bf16⟩
  | .local _ .vmem, ⟨3, _⟩ => ⟨S1x768x128, .bf16⟩
  | .local _ .vmem, ⟨4, _⟩ => ⟨S1x64x768, .bf16⟩
  | .local _ .vmem, ⟨5, _⟩ => ⟨S1x64x768, .bf16⟩
  | .local _ .vmem, ⟨6, _⟩ => ⟨S1x768x128, .bf16⟩
  | .local _ .vmem, ⟨7, _⟩ => ⟨S1x768x128, .bf16⟩
  | .local _ .vmem, ⟨8, _⟩ => ⟨S256x768, .bf16⟩
  | .local _ .vmem, ⟨9, _⟩ => ⟨S256x768, .bf16⟩
  | .local _ .vmem, ⟨10, _⟩ => ⟨S256x768, .f32⟩
  | .local _ .vmem, ⟨11, _⟩ => ⟨S256x768, .f32⟩
  | .local _ .vmem, ⟨12, _⟩ => ⟨S1x4x768, .f32⟩
  | .local _ .vmem, ⟨13, _⟩ => ⟨S1x4x768, .f32⟩
  | .local _ .vmem, ⟨14, _⟩ => ⟨S1x768x128, .f32⟩
  | .local _ .vmem, ⟨15, _⟩ => ⟨S1x768x128, .f32⟩
  | .local _ .vmem, ⟨16, _⟩ => ⟨S1x768x64, .f32⟩
  | .local _ .vmem, ⟨17, _⟩ => ⟨S1x768x64, .f32⟩
  | .local _ .vmem, ⟨18, _⟩ => ⟨S256x8448, .f32⟩
  | .local _ .vmem, ⟨19, _⟩ => ⟨S256x8448, .f32⟩
  | _, _ => ⟨S1x8208x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_call1_v0 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_call2_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_call3_v0 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_call4_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_call5_v0 : Ref sig .tc := ⟨.hbm, 81, rfl⟩
abbrev main_v55 : Ref sig .tc := ⟨.hbm, 82, rfl⟩
abbrev main_c_15 : Ref sig .tc := ⟨.hbm, 83, rfl⟩
abbrev main_call6_v0 : Ref sig .tc := ⟨.hbm, 84, rfl⟩
abbrev main_v56 : Ref sig .tc := ⟨.hbm, 85, rfl⟩
abbrev main_v57_0 : Ref sig .tc := ⟨.hbm, 86, rfl⟩
abbrev main_v57_1 : Ref sig .tc := ⟨.hbm, 87, rfl⟩
abbrev main_v57_2 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_16 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 11, 11], ![false, false, false]⟩

def k0_mult1 (i : grid0.Coords) : BitVec 32 :=
  let arg2 : BitVec 32 := BitVec.ofNat 32 (i 2).val
  let c768_i32 : BitVec 32 := 768#32
  let v14 : BitVec 32 := Scalar.muli arg2 c768_i32
  v14
def k0_off1 (i : grid0.Coords) : Fin 2 → Nat :=
  let c0_38 : Index := 0#32
  let arg2 : BitVec 32 := BitVec.ofNat 32 (i 2).val
  let c768_i32 : BitVec 32 := 768#32
  let v14 : BitVec 32 := Scalar.muli arg2 c768_i32
  let v15 : BitVec 32 := v14
  let v54 : Index := Scalar.indexCast v15
  ![0, v54.toNat]
def k0_off2 (i : grid0.Coords) : Fin 2 → Nat :=
  let c64_59 : Index := 64#32
  let arg2 : BitVec 32 := BitVec.ofNat 32 (i 2).val
  let c768_i32 : BitVec 32 := 768#32
  let v14 : BitVec 32 := Scalar.muli arg2 c768_i32
  let v15 : BitVec 32 := v14
  let v91 : Index := Scalar.indexCast v15
  ![64, v91.toNat]
def k0_off3 (i : grid0.Coords) : Fin 2 → Nat :=
  let c128_80 : Index := 128#32
  let arg2 : BitVec 32 := BitVec.ofNat 32 (i 2).val
  let c768_i32 : BitVec 32 := 768#32
  let v14 : BitVec 32 := Scalar.muli arg2 c768_i32
  let v15 : BitVec 32 := v14
  let v128 : Index := Scalar.indexCast v15
  ![128, v128.toNat]
def k0_off4 (i : grid0.Coords) : Fin 2 → Nat :=
  let c192_96 : Index := 192#32
  let arg2 : BitVec 32 := BitVec.ofNat 32 (i 2).val
  let c768_i32 : BitVec 32 := 768#32
  let v14 : BitVec 32 := Scalar.muli arg2 c768_i32
  let v15 : BitVec 32 := v14
  let v159 : Index := Scalar.indexCast v15
  ![192, v159.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x4x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x768x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x8448 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferenceIdeal.lean ====
abbrev S1x8208x16x64 : Shape := ⟨4, ![1, 8208, 16, 64]⟩
abbrev S1x8208x4x64 : Shape := ⟨4, ![1, 8208, 4, 64]⟩
abbrev S1x8208x1024 : Shape := ⟨3, ![1, 8208, 1024]⟩
abbrev S1x8208x4x4x64 : Shape := ⟨5, ![1, 8208, 4, 4, 64]⟩
abbrev S1x4x8208x8208x4 : Shape := ⟨5, ![1, 4, 8208, 8208, 4]⟩
abbrev S1x4x4x8208x8208 : Shape := ⟨5, ![1, 4, 4, 8208, 8208]⟩
abbrev S_ : Shape := ⟨0, ![]⟩
abbrev S1x4x4x8208 : Shape := ⟨4, ![1, 4, 4, 8208]⟩
abbrev S1x4x4x8208x1 : Shape := ⟨5, ![1, 4, 4, 8208, 1]⟩
abbrev S1x4x64x4x8208 : Shape := ⟨5, ![1, 4, 64, 4, 8208]⟩
abbrev S1x4x64x8208 : Shape := ⟨4, ![1, 4, 64, 8208]⟩
abbrev S4x4x8208 : Shape := ⟨3, ![4, 4, 8208]⟩
abbrev S1x4x8208x4x64 : Shape := ⟨5, ![1, 4, 8208, 4, 64]⟩
abbrev S1x4x8208x64 : Shape := ⟨4, ![1, 4, 8208, 64]⟩

abbrev nBuf : Space → Nat
  | .hbm => 80
  | .vmem => 0
  | .smem => 0
  | _ => 0

abbrev bufTy : (tb : Table) → Fin (tcTables nBuf tb) → BufTy
  | .hbm, ⟨0, _⟩ => ⟨S1x8208x16x64, .f32⟩
  | .hbm, ⟨1, _⟩ => ⟨S1x8208x4x64, .f32⟩
  | .hbm, ⟨2, _⟩ => ⟨S1x8208x4x64, .f32⟩
  | .hbm, ⟨3, _⟩ => ⟨S1x8208x1024, .f32⟩
  | .hbm, ⟨4, _⟩ => ⟨S1x8208x4x4x64, .f32⟩
  | .hbm, ⟨5, _⟩ => ⟨S1x4x8208x8208x4, .f32⟩
  | .hbm, ⟨6, _⟩ => ⟨S1x4x4x8208x8208, .f32⟩
  | .hbm, ⟨7, _⟩ => ⟨S_, .f32⟩
  | .hbm, ⟨8, _⟩ => ⟨S1x4x4x8208x8208, .f32⟩
  | .hbm, ⟨9, _⟩ => ⟨S1x4x4x8208x8208, .f32⟩
  | .hbm, ⟨10, _⟩ => ⟨S_, .f32⟩
  | .hbm, ⟨11, _⟩ => ⟨S1x4x4x8208, .f32⟩
  | .hbm, ⟨12, _⟩ => ⟨S1x4x4x8208x1, .f32⟩
  | .hbm, ⟨13, _⟩ => ⟨S1x4x4x8208x8208, .f32⟩
  | .hbm, ⟨14, _⟩ => ⟨S1x4x4x8208x8208, .i1⟩
  | .hbm, ⟨15, _⟩ => ⟨S1x4x4x8208x8208, .f32⟩
  | .hbm, ⟨16, _⟩ => ⟨S_, .f32⟩
  | .hbm, ⟨17, _⟩ => ⟨S1x4x4x8208, .f32⟩
  | .hbm, ⟨18, _⟩ => ⟨S_, .f32⟩
  | .hbm, ⟨19, _⟩ => ⟨S1x4x4x8208, .f32⟩
  | .hbm, ⟨20, _⟩ => ⟨S1x4x4x8208, .f32⟩
  | .hbm, ⟨21, _⟩ => ⟨S_, .f32⟩
  | .hbm, ⟨22, _⟩ => ⟨S1x4x4x8208, .f32⟩
  | .hbm, ⟨23, _⟩ => ⟨S1x4x4x8208, .i1⟩
  | .hbm, ⟨24, _⟩ => ⟨S_, .f32⟩
  | .hbm, ⟨25, _⟩ => ⟨S1x4x4x8208, .f32⟩
  | .hbm, ⟨26, _⟩ => ⟨S1x4x4x8208, .i1⟩
  | .hbm, ⟨27, _⟩ => ⟨S_, .f32⟩
  | .hbm, ⟨28, _⟩ => ⟨S1x4x4x8208, .f32⟩
  | .hbm, ⟨29, _⟩ => ⟨S_, .f32⟩
  | .hbm, ⟨30, _⟩ => ⟨S1x4x4x8208, .f32⟩
  | .hbm, ⟨31, _⟩ => ⟨S_, .f32⟩
  | .hbm, ⟨32, _⟩ => ⟨S1x4x4x8208, .f32⟩
  | .hbm, ⟨33, _⟩ => ⟨S1x4x4x8208, .f32⟩
  | .hbm, ⟨34, _⟩ => ⟨S1x4x4x8208, .f32⟩
  | .hbm, ⟨35, _⟩ => ⟨S1x4x4x8208x1, .f32⟩
  | .hbm, ⟨36, _⟩ => ⟨S1x4x4x8208x8208, .f32⟩
  | .hbm, ⟨37, _⟩ => ⟨S1x4x4x8208x8208, .f32⟩
  | .hbm, ⟨38, _⟩ => ⟨S1x4x4x8208x8208, .f32⟩
  | .hbm, ⟨39, _⟩ => ⟨S_, .f32⟩
  | .hbm, ⟨40, _⟩ => ⟨S1x4x4x8208, .f32⟩
  | .hbm, ⟨41, _⟩ => ⟨S1x4x4x8208x1, .f32⟩
  | .hbm, ⟨42, _⟩ => ⟨S1x4x4x8208x8208, .f32⟩
  | .hbm, ⟨43, _⟩ => ⟨S1x4x4x8208x8208, .f32⟩
  | .hbm, ⟨44, _⟩ => ⟨S1x4x4x8208x1, .f32⟩
  | .hbm, ⟨45, _⟩ => ⟨S_, .f32⟩
  | .hbm, ⟨46, _⟩ => ⟨S1x4x4x8208x1, .f32⟩
  | .hbm, ⟨47, _⟩ => ⟨S1x4x4x8208x1, .f32⟩
  | .hbm, ⟨48, _⟩ => ⟨S1x4x64x4x8208, .f32⟩
  | .hbm, ⟨49, _⟩ => ⟨S1x8208x4x4x64, .f32⟩
  | .hbm, ⟨50, _⟩ => ⟨S1x8208x1024, .f32⟩
  | .hbm, ⟨51, _⟩ => ⟨S1x8208x4x4x64, .f32⟩
  | .hbm, ⟨52, _⟩ => ⟨S1x4x64x4x8208, .f32⟩
  | .hbm, ⟨53, _⟩ => ⟨S1x4x4x8208x8208, .f32⟩
  | .hbm, ⟨54, _⟩ => ⟨S1x4x64x8208, .f32⟩
  | .hbm, ⟨55, _⟩ => ⟨S1x8208x4x64, .f32⟩
  | .hbm, ⟨56, _⟩ => ⟨S1x4x4x8208x8208, .f32⟩
  | .hbm, ⟨57, _⟩ => ⟨S1x4x4x8208x8208, .f32⟩
  | .hbm, ⟨58, _⟩ => ⟨S1x4x4x8208x8208, .f32⟩
  | .hbm, ⟨59, _⟩ => ⟨S_, .f32⟩
  | .hbm, ⟨60, _⟩ => ⟨S1x4x4x8208, .f32⟩
  | .hbm, ⟨61, _⟩ => ⟨S1x4x4x8208x1, .f32⟩
  | .hbm, ⟨62, _⟩ => ⟨S1x4x4x8208x1, .f32⟩
  | .hbm, ⟨63, _⟩ => ⟨S1x4x4x8208x8208, .f32⟩
  | .hbm, ⟨64, _⟩ => ⟨S1x4x4x8208x8208, .f32⟩
  | .hbm, ⟨65, _⟩ => ⟨S_, .f32⟩
  | .hbm, ⟨66, _⟩ => ⟨S4x4x8208, .f32⟩
  | .hbm, ⟨67, _⟩ => ⟨S1x4x4x8208, .f32⟩
  | .hbm, ⟨68, _⟩ => ⟨S1x4x4x8208x8208, .f32⟩
  | .hbm, ⟨69, _⟩ => ⟨S1x4x4x8208x8208, .f32⟩
  | .hbm, ⟨70, _⟩ => ⟨S1x4x4x8208x8208, .f32⟩
  | .hbm, ⟨71, _⟩ => ⟨S_, .f32⟩
  | .hbm, ⟨72, _⟩ => ⟨S1x4x4x8208x8208, .f32⟩
  | .hbm, ⟨73, _⟩ => ⟨S1x4x4x8208x8208, .f32⟩
  | .hbm, ⟨74, _⟩ => ⟨S1x4x8208x8208x4, .f32⟩
  | .hbm, ⟨75, _⟩ => ⟨S1x4x8208x4x64, .f32⟩
  | .hbm, ⟨76, _⟩ => ⟨S1x8208x4x4x64, .f32⟩
  | .hbm, ⟨77, _⟩ => ⟨S1x4x8208x64, .f32⟩
  | .hbm, ⟨78, _⟩ => ⟨S1x8208x4x64, .f32⟩
  | .hbm, ⟨79, _⟩ => ⟨S1x8208x16x64, .f32⟩
  | _, _ => ⟨S1x8208x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel2.lean ====
abbrev S8448x1024 : Shape := ⟨2, ![8448, 1024]⟩
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1024x8x512 : Shape := ⟨3, ![1024, 8, 512]⟩
abbrev S8x1024x512 : Shape := ⟨3, ![8, 1024, 512]⟩
abbrev S8x512x1024 : Shape := ⟨3, ![8, 512, 1024]⟩
abbrev S1x1024 : Shape := ⟨2, ![1, 1024]⟩
abbrev S8x128 : Shape := ⟨2, ![8, 128]⟩
abbrev S8448x4096 : Shape := ⟨2, ![8448, 4096]⟩
abbrev S384x1024 : Shape := ⟨2, ![384, 1024]⟩
abbrev S384x4096 : Shape := ⟨2, ![384, 4096]⟩
abbrev S2 : Shape := ⟨1, ![2]⟩
abbrev S1 : Shape := ⟨1, ![1]⟩
abbrev S384 : Shape := ⟨1, ![384]⟩
abbrev S384x1 : Shape := ⟨2, ![384, 1]⟩
abbrev S1x1024x512 : Shape := ⟨3, ![1, 1024, 512]⟩
abbrev S1024x512 : Shape := ⟨2, ![1024, 512]⟩
abbrev S384x512 : Shape := ⟨2, ![384, 512]⟩
abbrev S1x512x1024 : Shape := ⟨3, ![1, 512, 1024]⟩
abbrev S512x1024 : Shape := ⟨2, ![512, 1024]⟩
abbrev S1x384x1 : Shape := ⟨3, ![1, 384, 1]⟩
abbrev S1x1x1 : Shape := ⟨3, ![1, 1, 1]⟩

abbrev nBuf : Space → Nat
  | .hbm => 24
  | .vmem => 22
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S_, .i32⟩
  | .hbm, ⟨7, _⟩ => ⟨S_, .f32⟩
  | .hbm, ⟨8, _⟩ => ⟨S8448x1024, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | .hbm, ⟨12, _⟩ => ⟨S8x512x1024, .f32⟩
  | .hbm, ⟨13, _⟩ => ⟨S8x512x1024, .bf16⟩
  | .hbm, ⟨14, _⟩ => ⟨S1x1024, .f32⟩
  | .hbm, ⟨15, _⟩ => ⟨S1x1024, .f32⟩
  | .hbm, ⟨16, _⟩ => ⟨S8448x1024, .f32⟩
  | .hbm, ⟨17, _⟩ => ⟨S8x128, .f32⟩
  | .hbm, ⟨18, _⟩ => ⟨S1x1024, .f32⟩
  | .hbm, ⟨19, _⟩ => ⟨S1x1024, .f32⟩
  | .hbm, ⟨20, _⟩ => ⟨S8448x1024, .bf16⟩
  | .hbm, ⟨21, _⟩ => ⟨S8448x4096, .bf16⟩
  | .hbm, ⟨22, _⟩ => ⟨S8448x4096, .bf16⟩
  | .hbm, ⟨23, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S8x128, .f32⟩
  | .local _ .vmem, ⟨9, _⟩ => ⟨S1x1024, .f32⟩
  | .local _ .vmem, ⟨10, _⟩ => ⟨S1x1024, .f32⟩
  | .local _ .vmem, ⟨11, _⟩ => ⟨S384x1024, .bf16⟩
  | .local _ .vmem, ⟨12, _⟩ => ⟨S384x1024, .bf16⟩
  | .local _ .vmem, ⟨13, _⟩ => ⟨S384x4096, .bf16⟩
  | .local _ .vmem, ⟨14, _⟩ => ⟨S384x4096, .bf16⟩
  | .local _ .vmem, ⟨15, _⟩ => ⟨S384x4096, .bf16⟩
  | .local _ .vmem, ⟨16, _⟩ => ⟨S384x4096, .bf16⟩
  | .local _ .vmem, ⟨17, _⟩ => ⟨S384x1024, .bf16⟩
  | .local _ .vmem, ⟨18, _⟩ => ⟨S384x1024, .bf16⟩
  | .local _ .vmem, ⟨19, _⟩ => ⟨S8x1024x512, .bf16⟩
  | .local _ .vmem, ⟨20, _⟩ => ⟨S8x512x1024, .bf16⟩
  | .local _ .vmem, ⟨21, _⟩ => ⟨S384x4096, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8448x1024 : Shape := ⟨2, ![8448, 1024]⟩
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x4096 : Shape := ⟨2, ![8448, 4096]⟩
abbrev S8192 : Shape := ⟨1, ![8192]⟩
abbrev S8x128 : Shape := ⟨2, ![8, 128]⟩

abbrev nBuf : Space → Nat
  | .hbm => 151
  | .vmem => 0
  | .smem => 0
  | _ => 0

abbrev hbmTy0_0 (i : Nat) : BufTy := match i % 128 with
  | 0 => ⟨S8448x1024, .f32⟩
  | 1 => ⟨S8192x1024, .f32⟩
  | 2 => ⟨S1024, .f32⟩
  | 3 => ⟨S1024, .f32⟩
  | 4 => ⟨S1024x4096, .f32⟩
  | 5 => ⟨S4096x1024, .f32⟩
  | 6 => ⟨S8448x1024, .f32⟩
  | 7 => ⟨S_, .f32⟩
  | 8 => ⟨S8448, .f32⟩
  | 9 => ⟨S8448x1, .f32⟩
  | 10 => ⟨S_, .f32⟩
  | 11 => ⟨S8448x1, .f32⟩
  | 12 => ⟨S8448x1, .f32⟩
  | 13 => ⟨S_, .f32⟩
  | 14 => ⟨S8448x1, .f32⟩
  | 15 => ⟨S8448x1, .f32⟩
  | 16 => ⟨S8448x1, .f32⟩
  | 17 => ⟨S8448x1, .f32⟩
  | 18 => ⟨S_, .f32⟩
  | 19 => ⟨S8448x1, .f32⟩
  | 20 => ⟨S8448x1, .f32⟩
  | 21 => ⟨S8448x1024, .f32⟩
  | 22 => ⟨S8448x1024, .f32⟩
  | 23 => ⟨S1x1024, .f32⟩
  | 24 => ⟨S8448x1024, .f32⟩
  | 25 => ⟨S8448x1024, .f32⟩
  | 26 => ⟨S8448x4096, .f32⟩
  | 27 => ⟨S_, .f32⟩
  | 28 => ⟨S8448x4096, .f32⟩
  | 29 => ⟨S8448x4096, .f32⟩
  | 30 => ⟨S_, .f32⟩
  | 31 => ⟨S8448x4096, .f32⟩
  | 32 => ⟨S8448x4096, .i1⟩
  | 33 => ⟨S_, .f32⟩
  | 34 => ⟨S8448x4096, .f32⟩
  | 35 => ⟨S8448x4096, .f32⟩
  | 36 => ⟨S_, .f32⟩
  | 37 => ⟨S8448x4096, .f32⟩
  | 38 => ⟨S8448x4096, .f32⟩
  | 39 => ⟨S8448x1024, .f32⟩
  | 40 => ⟨S8448x1024, .f32⟩
  | 41 => ⟨S8448x1024, .f32⟩
  | 42 => ⟨S_, .f32⟩
  | 43 => ⟨S8448, .f32⟩
  | 44 => ⟨S8448x1, .f32⟩
  | 45 => ⟨S_, .f32⟩
  | 46 => ⟨S8448x1, .f32⟩
  | 47 => ⟨S8448x1, .f32⟩
  | 48 => ⟨S_, .f32⟩
  | 49 => ⟨S8448x1, .f32⟩
  | 50 => ⟨S8448x1, .f32⟩
  | 51 => ⟨S8448x1, .f32⟩
  | 52 => ⟨S8448x1, .f32⟩
  | 53 => ⟨S_, .f32⟩
  | 54 => ⟨S8448x1, .f32⟩
  | 55 => ⟨S8448x1, .f32⟩
  | 56 => ⟨S8448x1024, .f32⟩
  | 57 => ⟨S8448x1024, .f32⟩
  | 58 => ⟨S1x1024, .f32⟩
  | 59 => ⟨S8448x1024, .f32⟩
  | 60 => ⟨S8448x1024, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192, .f32⟩
  | 69 => ⟨S_, .f32⟩
  | 70 => ⟨S8192, .f32⟩
  | 71 => ⟨S8192, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S8192, .f32⟩
  | 80 => ⟨S_, .f32⟩
  | 81 => ⟨S8192, .f32⟩
  | 82 => ⟨S8192, .f32⟩
  | 83 => ⟨S8192x1024, .f32⟩
  | 84 => ⟨S8192x1024, .f32⟩
  | 85 => ⟨S_, .f32⟩
  | 86 => ⟨S8448x1024, .f32⟩
  | 87 => ⟨S8448x1024, .f32⟩
  | 88 => ⟨S_, .f32⟩
  | 89 => ⟨S1024, .f32⟩
  | 90 => ⟨S1x1024, .f32⟩
  | 91 => ⟨S8448x1024, .f32⟩
  | 92 => ⟨S8448x1024, .f32⟩
  | 93 => ⟨S_, .f32⟩
  | 94 => ⟨S1024, .f32⟩
  | 95 => ⟨S8448x1024, .f32⟩
  | 96 => ⟨S_, .f32⟩
  | 97 => ⟨S8448, .f32⟩
  | 98 => ⟨S8448x1, .f32⟩
  | 99 => ⟨S8448x1024, .f32⟩
  | 100 => ⟨S8448x1024, .f32⟩
  | 101 => ⟨S8448x1, .f32⟩
  | 102 => ⟨S_, .f32⟩
  | 103 => ⟨S8448x1, .f32⟩
  | 104 => ⟨S8448x1, .f32⟩
  | 105 => ⟨S_, .f32⟩
  | 106 => ⟨S8448, .f32⟩
  | 107 => ⟨S8448x1024, .f32⟩
  | 108 => ⟨S8448x1024, .f32⟩
  | 109 => ⟨S8448x1024, .f32⟩
  | 110 => ⟨S8448x1024, .f32⟩
  | 111 => ⟨S8448x1024, .f32⟩
  | 112 => ⟨S8448x4096, .f32⟩
  | 113 => ⟨S8448x4096, .f32⟩
  | 114 => ⟨S_, .f32⟩
  | 115 => ⟨S8448x4096, .f32⟩
  | 116 => ⟨S8448x4096, .f32⟩
  | 117 => ⟨S8448x1024, .f32⟩
  | 118 => ⟨S8448x1024, .f32⟩
  | 119 => ⟨S_, .f32⟩
  | 120 => ⟨S1024, .f32⟩
  | 121 => ⟨S1x1024, .f32⟩
  | 122 => ⟨S8448x1024, .f32⟩
  | 123 => ⟨S8448x1024, .f32⟩
  | 124 => ⟨S_, .f32⟩
  | 125 => ⟨S1024, .f32⟩
  | 126 => ⟨S8448x1024, .f32⟩
  | 127 => ⟨S_, .f32⟩
  | _ => ⟨S8448x1024, .f32⟩

abbrev hbmTy0_1 (i : Nat) : BufTy := match i % 128 with
  | 0 => ⟨S8448, .f32⟩
  | 1 => ⟨S8448x1, .f32⟩
  | 2 => ⟨S8448x1024, .f32⟩
  | 3 => ⟨S8448x1024, .f32⟩
  | 4 => ⟨S8448x1, .f32⟩
  | 5 => ⟨S_, .f32⟩
  | 6 => ⟨S8448x1, .f32⟩
  | 7 => ⟨S8448x1, .f32⟩
  | 8 => ⟨S_, .f32⟩
  | 9 => ⟨S8448, .f32⟩
  | 10 => ⟨S8448x1024, .f32⟩
  | 11 => ⟨S8448x1024, .f32⟩
  | 12 => ⟨S8448x1024, .f32⟩
  | 13 => ⟨S8448x1024, .f32⟩
  | 14 => ⟨S8448x1024, .f32⟩
  | 15 => ⟨S8x128, .f32⟩
  | 16 => ⟨S8448x1024, .f32⟩
  | 17 => ⟨S1x1024, .f32⟩
  | 18 => ⟨S1x1024, .f32⟩
  | 19 => ⟨S8448x1024, .bf16⟩
  | 20 => ⟨S8448x4096, .bf16⟩
  | 21 => ⟨S8448x4096, .bf16⟩
  | 22 => ⟨S8448x1024, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_cst_15 : Ref sig .tc := ⟨.hbm, 76, rfl⟩
abbrev main_cst_16 : Ref sig .tc := ⟨.hbm, 77, rfl⟩
abbrev main_v52 : Ref sig .tc := ⟨.hbm, 78, rfl⟩
abbrev main_v53 : Ref sig .tc := ⟨.hbm, 79, rfl⟩
abbrev main_cst_17 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_18 : Ref sig .tc := ⟨.hbm, 85, rfl⟩
abbrev main_v58 : Ref sig .tc := ⟨.hbm, 86, rfl⟩
abbrev main_v59 : Ref sig .tc := ⟨.hbm, 87, rfl⟩
abbrev main_cst_19 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_20 : Ref sig .tc := ⟨.hbm, 93, rfl⟩
abbrev main_v64 : Ref sig .tc := ⟨.hbm, 94, rfl⟩
abbrev main_v65 : Ref sig .tc := ⟨.hbm, 95, rfl⟩
abbrev main_cst_21 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_22 : Ref sig .tc := ⟨.hbm, 102, rfl⟩
abbrev main_v71 : Ref sig .tc := ⟨.hbm, 103, rfl⟩
abbrev main_v72 : Ref sig .tc := ⟨.hbm, 104, rfl⟩
abbrev main_cst_23 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_24 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_25 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_26 : Ref sig .tc := ⟨.hbm, 124, rfl⟩
abbrev main_v89 : Ref sig .tc := ⟨.hbm, 125, rfl⟩
abbrev main_v90 : Ref sig .tc := ⟨.hbm, 126, rfl⟩
abbrev main_cst_27 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_28 : Ref sig .tc := ⟨.hbm, 133, rfl⟩
abbrev main_v96 : Ref sig .tc := ⟨.hbm, 134, rfl⟩
abbrev main_v97 : Ref sig .tc := ⟨.hbm, 135, rfl⟩
abbrev main_cst_29 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]
-- ==== Kernel3.lean ====
abbrev S8448x1024 : Shape := ⟨2, ![8448, 1024]⟩
abbrev S8448x4096 : Shape := ⟨2, ![8448, 4096]⟩
abbrev S1024x4096 : Shape := ⟨2, ![1024, 4096]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S1024x4096, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x1024 : Shape := ⟨2, ![8448, 1024]⟩
abbrev S8448x4096 : Shape := ⟨2, ![8448, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S_, .f32⟩
  | .hbm, ⟨3, _⟩ => ⟨S1024x4096, .f32⟩
  | .hbm, ⟨4, _⟩ => ⟨S8448x1024, .f32⟩
  | .hbm, ⟨5, _⟩ => ⟨S8448x4096, .f32⟩
  | .hbm, ⟨6, _⟩ => ⟨S8448x4096, .f32⟩
  | .hbm, ⟨7, _⟩ => ⟨S4096x1024, .f32⟩
  | .hbm, ⟨8, _⟩ => ⟨S1024x4096, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8448x4096 : Shape := ⟨2, ![8448, 4096]⟩
abbrev S8448x1024 : Shape := ⟨2, ![8448, 1024]⟩
abbrev S4096x1024 : Shape := ⟨2, ![4096, 1024]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S4096x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x4096 : Shape := ⟨2, ![8448, 4096]⟩
abbrev S8448x1024 : Shape := ⟨2, ![8448, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S_, .f32⟩
  | .hbm, ⟨3, _⟩ => ⟨S4096x1024, .f32⟩
  | .hbm, ⟨4, _⟩ => ⟨S8448x4096, .f32⟩
  | .hbm, ⟨5, _⟩ => ⟨S8448x1024, .f32⟩
  | .hbm, ⟨6, _⟩ => ⟨S8448x1024, .f32⟩
  | .hbm, ⟨7, _⟩ => ⟨S1024x4096, .f32⟩
  | .hbm, ⟨8, _⟩ => ⟨S4096x1024, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8x528x1024 : Shape := ⟨3, ![8, 528, 1024]⟩
abbrev S528x1024 : Shape := ⟨2, ![528, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x528x1024, .bf16⟩
  | .hbm, ⟨1, _⟩ => ⟨S528x1024, .f32⟩
  | .hbm, ⟨2, _⟩ => ⟨S528x1024, .f32⟩
  | .hbm, ⟨3, _⟩ => ⟨S528x1024, .f32⟩
  | .hbm, ⟨4, _⟩ => ⟨S528x1024, .f32⟩
  | .hbm, ⟨5, _⟩ => ⟨S528x1024, .f32⟩
  | .hbm, ⟨6, _⟩ => ⟨S528x1024, .f32⟩
  | .hbm, ⟨7, _⟩ => ⟨S528x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x528x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8x528x1024 : Shape := ⟨3, ![8, 528, 1024]⟩
abbrev S528x1024 : Shape := ⟨2, ![528, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x528x1024, .bf16⟩
  | .hbm, ⟨1, _⟩ => ⟨S528x1024, .f32⟩
  | .hbm, ⟨2, _⟩ => ⟨S528x1024, .f32⟩
  | .hbm, ⟨3, _⟩ => ⟨S528x1024, .f32⟩
  | .hbm, ⟨4, _⟩ => ⟨S8x528x1024, .f32⟩
  | .hbm, ⟨5, _⟩ => ⟨S_, .f32⟩
  | .hbm, ⟨6, _⟩ => ⟨S528x1024, .f32⟩
  | .hbm, ⟨7, _⟩ => ⟨S_, .f32⟩
  | .hbm, ⟨8, _⟩ => ⟨S528x1024, .f32⟩
  | .hbm, ⟨9, _⟩ => ⟨S528x1024, .f32⟩
  | .hbm, ⟨10, _⟩ => ⟨S_, .f32⟩
  | .hbm, ⟨11, _⟩ => ⟨S528x1024, .f32⟩
  | .hbm, ⟨12, _⟩ => ⟨S528x1024, .f32⟩
  | .hbm, ⟨13, _⟩ => ⟨S528x1024, .f32⟩
  | .hbm, ⟨14, _⟩ => ⟨S_, .f32⟩
  | .hbm, ⟨15, _⟩ => ⟨S528x1024, .f32⟩
  | .hbm, ⟨16, _⟩ => ⟨S528x1024, .f32⟩
  | .hbm, ⟨17, _⟩ => ⟨S528x1024, .f32⟩
  | .hbm, ⟨18, _⟩ => ⟨S_, .f32⟩
  | .hbm, ⟨19, _⟩ => ⟨S528x1024, .f32⟩
  | .hbm, ⟨20, _⟩ => ⟨S528x1024, .f32⟩
  | .hbm, ⟨21, _⟩ => ⟨S528x1024, .f32⟩
  | .hbm, ⟨22, _⟩ => ⟨S_, .f32⟩
  | .hbm, ⟨23, _⟩ => ⟨S528x1024, .f32⟩
  | .hbm, ⟨24, _⟩ => ⟨S528x1024, .f32⟩
  | .hbm, ⟨25, _⟩ => ⟨S_, .f32⟩
  | .hbm, ⟨26, _⟩ => ⟨S528x1024, .f32⟩
  | .hbm, ⟨27, _⟩ => ⟨S528x1024, .f32⟩
  | .hbm, ⟨28, _⟩ => ⟨S528x1024, .f32⟩
  | .hbm, ⟨29, _⟩ => ⟨S_, .f32⟩
  | .hbm, ⟨30, _⟩ => ⟨S528x1024, .f32⟩
  | .hbm, ⟨31, _⟩ => ⟨S528x1024, .f32⟩
  | .hbm, ⟨32, _⟩ => ⟨S528x1024, .f32⟩
  | .hbm, ⟨33, _⟩ => ⟨S_, .f32⟩
  | .hbm, ⟨34, _⟩ => ⟨S528x1024, .f32⟩
  | .hbm, ⟨35, _⟩ => ⟨S528x1024, .f32⟩
  | .hbm, ⟨36, _⟩ => ⟨S528x1024, .f32⟩
  | .hbm, ⟨37, _⟩ => ⟨S_, .f32⟩
  | .hbm, ⟨38, _⟩ => ⟨S528x1024, .f32⟩
  | .hbm, ⟨39, _⟩ => ⟨S528x1024, .f32⟩
  | _, _ => ⟨S8x528x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel6.lean ====
abbrev S8x272x1024 : Shape := ⟨3, ![8, 272, 1024]⟩
abbrev S272x1024 : Shape := ⟨2, ![272, 1024]⟩
abbrev S1x272x1024 : Shape := ⟨3, ![1, 272, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x272x1024, .f32⟩
  | .hbm, ⟨1, _⟩ => ⟨S272x1024, .f32⟩
  | .hbm, ⟨2, _⟩ => ⟨S272x1024, .f32⟩
  | .hbm, ⟨3, _⟩ => ⟨S272x1024, .f32⟩
  | .hbm, ⟨4, _⟩ => ⟨S272x1024, .f32⟩
  | .hbm, ⟨5, _⟩ => ⟨S272x1024, .f32⟩
  | .hbm, ⟨6, _⟩ => ⟨S272x1024, .f32⟩
  | .hbm, ⟨7, _⟩ => ⟨S272x1024, .f32⟩
  | .local _ .vmem, ⟨0, _⟩ => ⟨S8x272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | _, _ => ⟨S8x272x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x272x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S272x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S272x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S272x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S272x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S272x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S272x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S272x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S8x272x1024 : Shape := ⟨3, ![8, 272, 1024]⟩
abbrev S272x1024 : Shape := ⟨2, ![272, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x272x1024, .f32⟩
  | .hbm, ⟨1, _⟩ => ⟨S272x1024, .f32⟩
  | .hbm, ⟨2, _⟩ => ⟨S272x1024, .f32⟩
  | .hbm, ⟨3, _⟩ => ⟨S272x1024, .f32⟩
  | .hbm, ⟨4, _⟩ => ⟨S_, .f32⟩
  | .hbm, ⟨5, _⟩ => ⟨S272x1024, .f32⟩
  | .hbm, ⟨6, _⟩ => ⟨S_, .f32⟩
  | .hbm, ⟨7, _⟩ => ⟨S272x1024, .f32⟩
  | .hbm, ⟨8, _⟩ => ⟨S272x1024, .f32⟩
  | .hbm, ⟨9, _⟩ => ⟨S_, .f32⟩
  | .hbm, ⟨10, _⟩ => ⟨S272x1024, .f32⟩
  | .hbm, ⟨11, _⟩ => ⟨S272x1024, .f32⟩
  | .hbm, ⟨12, _⟩ => ⟨S272x1024, .f32⟩
  | .hbm, ⟨13, _⟩ => ⟨S_, .f32⟩
  | .hbm, ⟨14, _⟩ => ⟨S272x1024, .f32⟩
  | .hbm, ⟨15, _⟩ => ⟨S272x1024, .f32⟩
  | .hbm, ⟨16, _⟩ => ⟨S272x1024, .f32⟩
  | .hbm, ⟨17, _⟩ => ⟨S_, .f32⟩
  | .hbm, ⟨18, _⟩ => ⟨S272x1024, .f32⟩
  | .hbm, ⟨19, _⟩ => ⟨S272x1024, .f32⟩
  | .hbm, ⟨20, _⟩ => ⟨S272x1024, .f32⟩
  | .hbm, ⟨21, _⟩ => ⟨S_, .f32⟩
  | .hbm, ⟨22, _⟩ => ⟨S272x1024, .f32⟩
  | .hbm, ⟨23, _⟩ => ⟨S272x1024, .f32⟩
  | .hbm, ⟨24, _⟩ => ⟨S_, .f32⟩
  | .hbm, ⟨25, _⟩ => ⟨S272x1024, .f32⟩
  | .hbm, ⟨26, _⟩ => ⟨S272x1024, .f32⟩
  | .hbm, ⟨27, _⟩ => ⟨S272x1024, .f32⟩
  | .hbm, ⟨28, _⟩ => ⟨S_, .f32⟩
  | .hbm, ⟨29, _⟩ => ⟨S272x1024, .f32⟩
  | .hbm, ⟨30, _⟩ => ⟨S272x1024, .f32⟩
  | .hbm, ⟨31, _⟩ => ⟨S272x1024, .f32⟩
  | .hbm, ⟨32, _⟩ => ⟨S_, .f32⟩
  | .hbm, ⟨33, _⟩ => ⟨S272x1024, .f32⟩
  | .hbm, ⟨34, _⟩ => ⟨S272x1024, .f32⟩
  | .hbm, ⟨35, _⟩ => ⟨S272x1024, .f32⟩
  | .hbm, ⟨36, _⟩ => ⟨S_, .f32⟩
  | .hbm, ⟨37, _⟩ => ⟨S272x1024, .f32⟩
  | .hbm, ⟨38, _⟩ => ⟨S272x1024, .f32⟩
  | _, _ => ⟨S8x272x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel7.lean ====
abbrev S8448x1024 : Shape := ⟨2, ![8448, 1024]⟩
abbrev S8448x512 : Shape := ⟨2, ![8448, 512]⟩
abbrev S8448x2048 : Shape := ⟨2, ![8448, 2048]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1024x8448 : Shape := ⟨2, ![1024, 8448]⟩
abbrev S1x512 : Shape := ⟨2, ![1, 512]⟩
abbrev S384x1024 : Shape := ⟨2, ![384, 1024]⟩
abbrev S384x512 : Shape := ⟨2, ![384, 512]⟩
abbrev S1024x384 : Shape := ⟨2, ![1024, 384]⟩
abbrev S384x2048 : Shape := ⟨2, ![384, 2048]⟩

abbrev nBuf : Space → Nat
  | .hbm => 21
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x1024, .f32⟩
  | .hbm, ⟨5, _⟩ => ⟨S8448x2048, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1024, .f32⟩
  | .hbm, ⟨10, _⟩ => ⟨S1024x1024, .f32⟩
  | .hbm, ⟨11, _⟩ => ⟨S1024x1024, .f32⟩
  | .hbm, ⟨12, _⟩ => ⟨S1024x8448, .f32⟩
  | .hbm, ⟨13, _⟩ => ⟨S1024x8448, .bf16⟩
  | .hbm, ⟨14, _⟩ => ⟨S1x512, .f32⟩
  | .hbm, ⟨15, _⟩ => ⟨S512x512, .bf16⟩
  | .hbm, ⟨16, _⟩ => ⟨S1x512, .f32⟩
  | .hbm, ⟨17, _⟩ => ⟨S512x1024, .bf16⟩
  | .hbm, ⟨18, _⟩ => ⟨S1024x1024, .bf16⟩
  | .hbm, ⟨19, _⟩ => ⟨S1024x1024, .bf16⟩
  | .hbm, ⟨20, _⟩ => ⟨S8448x1024, .f32⟩
  | .local _ .vmem, ⟨0, _⟩ => ⟨S384x1024, .f32⟩
  | .local _ .vmem, ⟨1, _⟩ => ⟨S384x1024, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S1024x384, .bf16⟩
  | .local _ .vmem, ⟨9, _⟩ => ⟨S1024x384, .bf16⟩
  | .local _ .vmem, ⟨10, _⟩ => ⟨S384x2048, .f32⟩
  | .local _ .vmem, ⟨11, _⟩ => ⟨S384x2048, .f32⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S384x1024, .f32⟩
  | .local _ .vmem, ⟨19, _⟩ => ⟨S384x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S384x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S8448x1024 : Shape := ⟨2, ![8448, 1024]⟩
abbrev S8448x512 : Shape := ⟨2, ![8448, 512]⟩
abbrev S8448x2048 : Shape := ⟨2, ![8448, 2048]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1x512 : Shape := ⟨2, ![1, 512]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x1024, .f32⟩
  | .hbm, ⟨5, _⟩ => ⟨S8448x2048, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1024, .f32⟩
  | .hbm, ⟨10, _⟩ => ⟨S1024x1024, .f32⟩
  | .hbm, ⟨11, _⟩ => ⟨S1024x1024, .f32⟩
  | .hbm, ⟨12, _⟩ => ⟨S1x512, .f32⟩
  | .hbm, ⟨13, _⟩ => ⟨S8448x512, .f32⟩
  | .hbm, ⟨14, _⟩ => ⟨S8448x512, .f32⟩
  | .hbm, ⟨15, _⟩ => ⟨S8448x512, .f32⟩
  | .hbm, ⟨16, _⟩ => ⟨S8448x512, .f32⟩
  | .hbm, ⟨17, _⟩ => ⟨S_, .f32⟩
  | .hbm, ⟨18, _⟩ => ⟨S8448x512, .f32⟩
  | .hbm, ⟨19, _⟩ => ⟨S8448x512, .f32⟩
  | .hbm, ⟨20, _⟩ => ⟨S8448x512, .f32⟩
  | .hbm, ⟨21, _⟩ => ⟨S_, .f32⟩
  | .hbm, ⟨22, _⟩ => ⟨S8448x512, .f32⟩
  | .hbm, ⟨23, _⟩ => ⟨S8448x512, .f32⟩
  | .hbm, ⟨24, _⟩ => ⟨S8448x512, .f32⟩
  | .hbm, ⟨25, _⟩ => ⟨S8448x512, .f32⟩
  | .hbm, ⟨26, _⟩ => ⟨S8448x512, .f32⟩
  | .hbm, ⟨27, _⟩ => ⟨S1x512, .f32⟩
  | .hbm, ⟨28, _⟩ => ⟨S8448x512, .f32⟩
  | .hbm, ⟨29, _⟩ => ⟨S8448x512, .f32⟩
  | .hbm, ⟨30, _⟩ => ⟨S8448x512, .f32⟩
  | .hbm, ⟨31, _⟩ => ⟨S8448x512, .f32⟩
  | .hbm, ⟨32, _⟩ => ⟨S_, .f32⟩
  | .hbm, ⟨33, _⟩ => ⟨S8448x512, .f32⟩
  | .hbm, ⟨34, _⟩ => ⟨S8448x512, .f32⟩
  | .hbm, ⟨35, _⟩ => ⟨S_, .f32⟩
  | .hbm, ⟨36, _⟩ => ⟨S8448x512, .f32⟩
  | .hbm, ⟨37, _⟩ => ⟨S8448x512, .f32⟩
  | .hbm, ⟨38, _⟩ => ⟨S8448x512, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S_, .f32⟩
  | .hbm, ⟨44, _⟩ => ⟨S8448x1024, .f32⟩
  | .hbm, ⟨45, _⟩ => ⟨S8448x1024, .f32⟩
  | .hbm, ⟨46, _⟩ => ⟨S_, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S_, .f32⟩
  | .hbm, ⟨54, _⟩ => ⟨S8448x1024, .f32⟩
  | .hbm, ⟨55, _⟩ => ⟨S8448x1024, .f32⟩
  | .hbm, ⟨56, _⟩ => ⟨S_, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .f32⟩
  | .hbm, ⟨63, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proof.Block.lean ====
module

public import proofs.«01_k».proof.Proof.Gen.KernelIdeal.Skeleton
public import Idealize.ShloMosaic.Lib.Pipeline.FrameBody
public import Idealize.ShloMosaic.Lib.Pointwise

/-! # One point of the grid, as functions of the blocks it reads

The body handles the four query heads of a key head one after another with the same arithmetic. This
module names that arithmetic once, for a head `r`, and states what the body adds to its three output
blocks. -/

@[expose] public section

set_option maxRecDepth 16384

noncomputable section

namespace Cert.KernelIdeal.Block

open Idealize.ShloMosaic Idealize.ShloMosaic.TcCoe
open Cert.KernelIdeal Cert.KernelIdeal.Gen

variable {F : FTy → Type} [FloatOps F]

/-- The queries of head `r`. -/
def qRow (x : Vec F S4x128x768 .bf16) (r : Fin 4) : Vec F S1x128x768 .bf16 :=
  View.ld x (Rect.unit (s := S4x128x768) ![r.val, 0, 0] S1x128x768.size
    (by obtain ⟨r, hr⟩ := r; intro a; fin_cases a <;> simp [S4x128x768, S1x128x768] <;> omega))

/-- The rows of head `r` of the incoming gradient. -/
def gRow (x : Vec F S256x768 .bf16) (r : Fin 4) : Vec F S64x768 .bf16 :=
  View.ld x (Rect.unit (s := S256x768) ![64 * r.val, 0] S64x768.size
    (by obtain ⟨r, hr⟩ := r; intro a; fin_cases a <;> simp [S256x768, S64x768] <;> omega))

/-- The rows of head `r` of the saved output. -/
def oRow (x : Vec F S256x768 .f32) (r : Fin 4) : Vec F S64x768 .f32 :=
  View.ld x (Rect.unit (s := S256x768) ![64 * r.val, 0] S64x768.size
    (by obtain ⟨r, hr⟩ := r; intro a; fin_cases a <;> simp [S256x768, S64x768] <;> omega))

/-- The row of head `r` of the saved logarithms. -/
def lRow (x : Vec F S1x4x768 .f32) (r : Fin 4) : Vec F S1x1x768 .f32 :=
  View.ld x (Rect.unit (s := S1x4x768) ![0, r.val, 0] S1x1x768.size
    (by obtain ⟨r, hr⟩ := r; intro a; fin_cases a <;> simp [S1x4x768, S1x1x768] <;> omega))

/-- The value block without its padding lanes. -/
def vPart (x : Vec F S1x768x128 .bf16) : Vec F S1x768x64 .bf16 :=
  View.ld x (Rect.unit (s := S1x768x128) ![0, 0, 0] S1x768x64.size inb_S1x768x128_S1x768x64_0_0_0)

section
variable (x0 : Vec F S4x128x768 .bf16) (x1 : Vec F S1x768x128 .bf16) (x2 : Vec F S1x64x768 .bf16)
  (x3 : Vec F S1x768x128 .bf16) (x4 : Vec F S256x768 .bf16) (x5 : Vec F S256x768 .f32) (x6 : Vec F S1x4x768 .f32)

/-- The scores of head `r`: keys by queries. -/
def st (r : Fin 4) : FVec F S768x768 .f32 := k0_pay10 x1 (qRow x0 r)
/-- The products of the values and the incoming gradient of head `r`. -/
def dp (r : Fin 4) : FVec F S768x768 .f32 := k0_pay11 (vPart x3) (gRow x4 r)
/-- `acc` and what head `r` adds to the gradient of the values. -/
def dvStep (r : Fin 4) (acc : FVec F S768x64 .f32) : FVec F S768x64 .f32 :=
  k0_pay17 acc (st x0 x1 r) (gRow x4 r) (lRow x6 r)
/-- `acc` and what head `r` adds to the gradient of the keys. -/
def dkStep (r : Fin 4) (acc : FVec F S768x128 .f32) : FVec F S768x128 .f32 :=
  k0_pay18 acc (st x0 x1 r) (dp x3 x4 r) (qRow x0 r) (gRow x4 r) (oRow x5 r) (lRow x6 r)
/-- `w` and what head `r` adds to the gradient of the queries. -/
def dqStep (r : Fin 4) (w : Vec F S64x768 .f32) : FVec F S64x768 .f32 :=
  k0_pay19 (k0_pay6 x2) (st x0 x1 r) (dp x3 x4 r) (gRow x4 r) (oRow x5 r) (lRow x6 r) w

/-- The block of the gradient of the values after the point. -/
def out8 (y : Vec F S1x768x64 .f32) : FVec F S1x768x64 .f32 :=
  k0_pay1 (dvStep x0 x1 x4 x6 3 (dvStep x0 x1 x4 x6 2 (dvStep x0 x1 x4 x6 1 (dvStep x0 x1 x4 x6 0 k0_pay9)))) y
/-- The block of the gradient of the keys after the point. -/
def out7 (y : Vec F S1x768x128 .f32) : FVec F S1x768x128 .f32 :=
  k0_pay43 (st x0 x1 3) (dp x3 x4 3)
    (dkStep x0 x1 x3 x4 x5 x6 2 (dkStep x0 x1 x3 x4 x5 x6 1 (dkStep x0 x1 x3 x4 x5 x6 0 k0_pay8)))
    (qRow x0 3) (gRow x4 3) (oRow x5 3) (lRow x6 3) y

/-- The window of head `r` and query block `b` of the gradient of the queries. -/
def win (y : Vec F S256x8448 .f32) (b : Fin 11) (r : Fin 4) : Vec F S64x768 .f32 :=
  View.ld y (Rect.unit (s := S256x8448) ![64 * r.val, 768 * b.val] S64x768.size
    (by obtain ⟨r, hr⟩ := r; obtain ⟨b, hb⟩ := b; intro a; fin_cases a <;> simp [S256x8448, S64x768] <;> omega))

/-- The block of the gradient of the queries after the point whose query block is `b`. -/
def out9 (b : Fin 11) (y : Vec F S256x8448 .f32) : Vec F S256x8448 .f32 := fun x =>
  if h : 768 * b.val ≤ (x 1).val ∧ (x 1).val < 768 * b.val + 768 then
    dqStep x0 x1 x2 x3 x4 x5 x6 ⟨(x 0).val / 64, by have := (x 0).isLt; simp [S256x8448] at this; omega⟩
      (win y b ⟨(x 0).val / 64, by have := (x 0).isLt; simp [S256x8448] at this; omega⟩)
      (ix2 ⟨(x 0).val % 64, Nat.mod_lt _ (by norm_num)⟩ ⟨(x 1).val - 768 * b.val, by omega⟩)
  else y x
end

/-! The four copies of the arithmetic are one. -/
/-- The second head's scores are the first head's term. -/
theorem pay12 : k0_pay12 (F := F) = k0_pay10 := rfl
/-- The second head's products of the values and the incoming gradient are the first head's term. -/
theorem pay13 (v : Vec F S1x768x64 .bf16) (d : Vec F S64x768 .bf16) : k0_pay13 (k0_pay7 v) d = k0_pay11 v d := rfl
/-- So are the third head's scores. -/
theorem pay21 (k : Vec F S1x768x128 .bf16) (q : Vec F S1x128x768 .bf16) :
    k0_pay21 (k0_pay5 k) (k0_pay20 q) (constant S768x768 .f32 0x00000000#32) = k0_pay10 k q := rfl
/-- So are the third head's products. -/
theorem pay22 (v : Vec F S1x768x64 .bf16) (d : Vec F S64x768 .bf16) : k0_pay22 (k0_pay7 v) d = k0_pay11 v d := rfl
/-- The second head's step of the values' gradient is the first head's term. -/
theorem pay26 (s : FVec F S768x768 .f32) (a g l) : k0_pay26 s a g l = k0_pay17 a s g l := rfl
/-- So is its step of the keys' gradient. -/
theorem pay27 (s d : FVec F S768x768 .f32) (a q g o l) : k0_pay27 s d a q g o l = k0_pay18 a s d q g o l := rfl
/-- So is its step of the queries' gradient. -/
theorem pay28 : k0_pay28 (F := F) = k0_pay19 := rfl
/-- So are the fourth head's scores. -/
theorem pay30 (k : Vec F S1x768x128 .bf16) (q : Vec F S1x128x768 .bf16) :
    k0_pay30 (k0_pay5 k) (k0_pay29 q) = k0_pay10 k q := rfl
/-- So are the fourth head's products. -/
theorem pay31 (v : Vec F S1x768x64 .bf16) (d : Vec F S64x768 .bf16) : k0_pay31 (k0_pay7 v) d = k0_pay11 v d := rfl
/-- The third head's step of the values' gradient is the first head's term. -/
theorem pay35 (s : FVec F S768x768 .f32) (a g l) : k0_pay35 s a g l = k0_pay17 a s g l := rfl
/-- So is its step of the keys' gradient. -/
theorem pay36 (s d : FVec F S768x768 .f32) (a q g o l) : k0_pay36 s d a q g o l = k0_pay18 a s d q g o l := rfl
/-- So is its step of the queries' gradient. -/
theorem pay37 : k0_pay37 (F := F) = k0_pay19 := rfl
/-- The fourth head's step of the values' gradient is the first head's term. -/
theorem pay41 (s : FVec F S768x768 .f32) (a g l) : k0_pay41 s a g l = k0_pay17 a s g l := rfl
/-- So is its step of the queries' gradient. -/
theorem pay42 : k0_pay42 (F := F) = k0_pay19 := rfl

end Cert.KernelIdeal.Block

end
-- ==== Proof.Windows.lean ====
module

public import proofs.«01_k».proof.Proof.Block
public import Idealize.ShloMosaic.Lib.VecWindow
public import Idealize.ShloMosaic.Lib.WritesUnit
public import Idealize.ShloMosaic.Lib.Pipeline.Value

/-! # What the body's loads read and its stores leave -/

@[expose] public section

set_option maxRecDepth 16384

noncomputable section

namespace Cert.KernelIdeal.Block

open Idealize.ShloMosaic Idealize.ShloMosaic.TcCoe
open Cert.KernelIdeal Cert.KernelIdeal.Gen

variable {F : FTy → Type} [FloatOps F]

/-! ## What whole loads and stores leave -/

/-- A load of a whole block of keys or values gives the block. -/
theorem ld1 {e} (x : Vec F S1x768x128 e) (inb) : View.ld x (Rect.unit (s := S1x768x128) ![0, 0, 0] ![1, 768, 128] inb) = x :=
  View.ld_unit_zero (S := S1x768x128) (by funext a; fin_cases a <;> rfl) inb x
/-- A load of a whole block of transposed keys gives the block. -/
theorem ld2 {e} (x : Vec F S1x64x768 e) (inb) : View.ld x (Rect.unit (s := S1x64x768) ![0, 0, 0] ![1, 64, 768] inb) = x :=
  View.ld_unit_zero (S := S1x64x768) (by funext a; fin_cases a <;> rfl) inb x
/-- A load of the values' whole accumulator gives it. -/
theorem ld8 {e} (x : Vec F S1x768x64 e) (inb) : View.ld x (Rect.unit (s := S1x768x64) ![0, 0, 0] ![1, 768, 64] inb) = x :=
  View.ld_unit_zero (S := S1x768x64) (by funext a; fin_cases a <;> rfl) inb x
/-- A store over the keys' whole accumulator is what is read back. -/
theorem cov7 (v : View sig .tc .vmem S1x768x128 .f32) (w : Vec F S1x768x128 .f32) (inb inb') :
    v.readCov [(⟨Rect.unit (s := S1x768x128) ![0, 0, 0] ![1, 768, 128] inb, w⟩ : View.Piece (Elt F) S1x768x128 .f32)]
      (Rect.unit (s := S1x768x128) ![0, 0, 0] ![1, 768, 128] inb').toLoadRect = w :=
  View.readCov_full (s := S1x768x128) v inb' inb w []
/-- A store over the values' whole accumulator is what is read back. -/
theorem cov8 (v : View sig .tc .vmem S1x768x64 .f32) (w : Vec F S1x768x64 .f32) (inb inb') :
    v.readCov [(⟨Rect.unit (s := S1x768x64) ![0, 0, 0] ![1, 768, 64] inb, w⟩ : View.Piece (Elt F) S1x768x64 .f32)]
      (Rect.unit (s := S1x768x64) ![0, 0, 0] ![1, 768, 64] inb').toLoadRect = w :=
  View.readCov_full (s := S1x768x64) v inb' inb w []
/-- A store over the queries' whole accumulator is what is read back. -/
theorem fill9 (v : View sig .tc .vmem S256x8448 .f32) (f) (w : Vec F S256x8448 .f32) (inb) :
    v.read (Elt F) (v.writes (Elt F) f [(⟨Rect.unit (s := S256x8448) ![0, 0] ![256, 8448] inb, w⟩ : View.Piece (Elt F) S256x8448 .f32)]) = w :=
  View.read_writes_full (s := S256x8448) v f inb w []

/-! ## The four windows of the gradient of the queries -/

/-- A load does not see a store to other rows. -/
theorem ld_skip (v : View sig .tc .vmem S256x8448 .f32) (f) (o o' : Fin 2 → ℕ) (inb inb') (w : Vec F S64x768 .f32)
    (L : List (View.Piece (Elt F) S256x8448 .f32)) (h : o 0 + 64 ≤ o' 0) :
    View.ld (v.read (Elt F) (v.writes (Elt F) f ((⟨Rect.unit (s := S256x8448) o ![64, 768] inb, w⟩ : View.Piece (Elt F) S256x8448 .f32) :: L)))
        (Rect.unit (s := S256x8448) o' ![64, 768] inb')
      = View.ld (v.read (Elt F) (v.writes (Elt F) f L)) (Rect.unit (s := S256x8448) o' ![64, 768] inb') := by
  funext x
  exact View.read_writes_cons_unit_of_not_mem v f inb w L _ rfl (0 : Fin 2) (.inr (by
    show o 0 + 64 ≤ o' 0 + 1 * (x 0).val
    omega))

/-- A load at the place of a window is the window. -/
theorem ld_win (y : Vec F S256x8448 .f32) (o : Fin 2 → ℕ) (inb) (b : Fin 11) (r : Fin 4) (h : o = ![64 * r.val, 768 * b.val]) :
    View.ld y (Rect.unit (s := S256x8448) o ![64, 768] inb) = win y b r := by
  subst h; rfl

/-- The four stores to the windows of a query block leave the block's columns as told and the others alone. -/
theorem close9 (x0 : Vec F S4x128x768 .bf16) (x1 : Vec F S1x768x128 .bf16) (x2 : Vec F S1x64x768 .bf16) (x3 : Vec F S1x768x128 .bf16) (x4 : Vec F S256x768 .bf16) (x5 : Vec F S256x768 .f32) (x6 : Vec F S1x4x768 .f32)
    (v : View sig .tc .vmem S256x8448 .f32) (f) (L : List (View.Piece (Elt F) S256x8448 .f32))
    (y : Vec F S256x8448 .f32) (hf : v.read (Elt F) (v.writes (Elt F) f L) = y) (b : Fin 11)
    (o : Fin 4 → Fin 2 → ℕ) (ho : ∀ r : Fin 4, o r = ![64 * r.val, 768 * b.val]) (inb : ∀ (r : Fin 4) (a : Fin 2), o r a + (![64, 768] : Fin 2 → ℕ) a ≤ S256x8448.size a) (w : Fin 4 → Vec F S64x768 .f32)
    (hw : ∀ r, w r = dqStep x0 x1 x2 x3 x4 x5 x6 r (win y b r)) :
    v.read (Elt F) (v.writes (Elt F) f (⟨Rect.unit (s := S256x8448) (o 3) ![64, 768] (inb 3), w 3⟩ :: ⟨Rect.unit (s := S256x8448) (o 2) ![64, 768] (inb 2), w 2⟩ ::
        ⟨Rect.unit (s := S256x8448) (o 1) ![64, 768] (inb 1), w 1⟩ :: ⟨Rect.unit (s := S256x8448) (o 0) ![64, 768] (inb 0), w 0⟩ :: L))
      = out9 x0 x1 x2 x3 x4 x5 x6 b y := by
  funext x
  unfold out9
  have hx0 : (x 0).val < 256 := (x 0).isLt
  have hit : ∀ (r : Fin 4) (L : List (View.Piece (Elt F) S256x8448 .f32)) (hr : (x 0).val / 64 = r.val)
      (h : 768 * b.val ≤ (x 1).val ∧ (x 1).val < 768 * b.val + 768),
      v.read (Elt F) (v.writes (Elt F) f ((⟨Rect.unit (s := S256x8448) (o r) ![64, 768] (inb r), w r⟩ : View.Piece (Elt F) S256x8448 .f32) :: L)) x
        = w r (ix2 ⟨(x 0).val % 64, Nat.mod_lt _ (by norm_num)⟩ ⟨(x 1).val - 768 * b.val, by omega⟩) := by
    intro r L hr h
    refine View.read_writes_cons_unit_of_mem v f (inb r) (w r) L x _ (ho r) fun a => ?_
    fin_cases a
    · show (x 0).val = 64 * r.val + (x 0).val % 64
      omega
    · show (x 1).val = 768 * b.val + ((x 1).val - 768 * b.val)
      omega
  have miss : ∀ (r : Fin 4) (L : List (View.Piece (Elt F) S256x8448 .f32)) (hr : (x 0).val / 64 ≠ r.val),
      v.read (Elt F) (v.writes (Elt F) f ((⟨Rect.unit (s := S256x8448) (o r) ![64, 768] (inb r), w r⟩ : View.Piece (Elt F) S256x8448 .f32) :: L)) x
        = v.read (Elt F) (v.writes (Elt F) f L) x := by
    intro r L hr
    refine View.read_writes_cons_unit_of_not_mem v f (inb r) (w r) L x (ho r) (0 : Fin 2) ?_
    show (x 0).val < 64 * r.val ∨ 64 * r.val + 64 ≤ (x 0).val
    omega
  have off : ∀ (r : Fin 4) (L : List (View.Piece (Elt F) S256x8448 .f32)) (h : ¬ (768 * b.val ≤ (x 1).val ∧ (x 1).val < 768 * b.val + 768)),
      v.read (Elt F) (v.writes (Elt F) f ((⟨Rect.unit (s := S256x8448) (o r) ![64, 768] (inb r), w r⟩ : View.Piece (Elt F) S256x8448 .f32) :: L)) x
        = v.read (Elt F) (v.writes (Elt F) f L) x := by
    intro r L h
    refine View.read_writes_cons_unit_of_not_mem v f (inb r) (w r) L x (ho r) (1 : Fin 2) ?_
    show (x 1).val < 768 * b.val ∨ 768 * b.val + 768 ≤ (x 1).val
    omega
  by_cases h : 768 * b.val ≤ (x 1).val ∧ (x 1).val < 768 * b.val + 768
  · rw [dif_pos h, ← hw]
    obtain hr | hr | hr | hr : (x 0).val / 64 = 0 ∨ (x 0).val / 64 = 1 ∨ (x 0).val / 64 = 2 ∨ (x 0).val / 64 = 3 := by omega
    · rw [miss 3 _ (by rw [hr]; decide), miss 2 _ (by rw [hr]; decide), miss 1 _ (by rw [hr]; decide), hit 0 _ hr h]
      simp only [hr]; rfl
    · rw [miss 3 _ (by rw [hr]; decide), miss 2 _ (by rw [hr]; decide), hit 1 _ hr h]
      simp only [hr]; rfl
    · rw [miss 3 _ (by rw [hr]; decide), hit 2 _ hr h]
      simp only [hr]; rfl
    · rw [hit 3 _ hr h]
      simp only [hr]; rfl
  · rw [dif_neg h, off 3 _ h, off 2 _ h, off 1 _ h, off 0 _ h, ← hf]

end Cert.KernelIdeal.Block

end
-- ==== Proof.Run.lean ====
module

public import proofs.«01_k».proof.Proof.Windows
public import Idealize.ShloMosaic.Lib.Tactic.Stretches
public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Block

variable {F : FTy → Type} [FloatOps F]

local notation "𝕄" => MT nD τ sig Unit (Elt F) ℕ (UR sig nD τ) ℕ

/-- The point is the first of its key head: the gradient of the queries is filled with zeros. -/
abbrev cond0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The point's query block is the first: the gradients of the keys and values are filled with zeros. -/
abbrev cond1 (i : grid0.Coords) : Prop := (Scalar.cmpi .ne (Scalar.extui (Scalar.cmpi .eq (BitVec.ofNat 32 (i 2).val) 0#32)) 0#32) = 1#1

set_option maxHeartbeats 8000000 in
/-- What the body does at a grid point, its ten blocks at given contents: the inputs stay; the gradients of the keys
and of the values gain the point's part, over zero at the first query block and over what they held otherwise; the
gradient of the queries gains its part in the columns of the query block, over zero at a key head's first point. -/
theorem run (c : Dev nD) (i : grid0.Coords) (arg3 : Memref sig .tc .vmem S4x128x768 .bf16) (harg3 : arg3.IsWhole) (arg4 : Memref sig .tc .vmem S1x768x128 .bf16) (harg4 : arg4.IsWhole) (arg5 : Memref sig .tc .vmem S1x64x768 .bf16) (harg5 : arg5.IsWhole) (arg6 : Memref sig .tc .vmem S1x768x128 .bf16) (harg6 : arg6.IsWhole) (arg7 : Memref sig .tc .vmem S256x768 .bf16) (harg7 : arg7.IsWhole) (arg8 : Memref sig .tc .vmem S256x768 .f32) (harg8 : arg8.IsWhole) (arg9 : Memref sig .tc .vmem S1x4x768 .f32) (harg9 : arg9.IsWhole) (arg10 : Memref sig .tc .vmem S1x768x128 .f32) (harg10 : arg10.IsWhole) (arg11 : Memref sig .tc .vmem S1x768x64 .f32) (harg11 : arg11.IsWhole) (arg12 : Memref sig .tc .vmem S256x8448 .f32) (harg12 : arg12.IsWhole)
    (x0 : Vec F S4x128x768 .bf16) (x1 : Vec F S1x768x128 .bf16) (x2 : Vec F S1x64x768 .bf16) (x3 : Vec F S1x768x128 .bf16) (x4 : Vec F S256x768 .bf16) (x5 : Vec F S256x768 .f32) (x6 : Vec F S1x4x768 .f32)
    (y7 : Vec F S1x768x128 .f32) (y8 : Vec F S1x768x64 .f32) (y9 : Vec F S256x8448 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out7 x0 x1 x3 x4 x5 x6 (if cond1 i then k0_pay3 else y7)) ∗ owns (c : Thread nD τ) arg11 fullShare (out8 x0 x1 x4 x6 (if cond1 i then k0_pay4 else y8)) ∗ owns (c : Thread nD τ) arg12 fullShare (out9 x0 x1 x2 x3 x4 x5 x6 (i 2) (if cond0 i then k0_pay2 else y9))) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    obtain rfl := harg10.eq_unread hf7; obtain rfl := harg11.eq_unread hf8; obtain rfl := harg12.eq_unread hf9
    by_cases hc0 : cond0 i <;> by_cases hc1 : cond1 i <;> (first | rw [if_pos hc0] | rw [if_neg hc0]) <;>
      (first | rw [if_pos hc1, if_pos hc1] | rw [if_neg hc1, if_neg hc1]) <;>
    · sl_exec (disch := first | sl_exact hc0 | sl_exact hc1)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; swap; · iexact H7
        ipureintro
        sl_open_run
        simp only [View.readAt_eq_ld, Memref.IsWhole.read_unread, pay12, pay13, pay21, pay22, pay26, pay27, pay28, pay30, pay31, pay35, pay36, pay37, pay41, pay42, ld1, ld2, ld8, cov7]
        exact (View.read_writes_full (s := S1x768x128) _ _ _ _ _).trans rfl
      isplitl [H8]
      · iexists _; isplitr; swap; · iexact H8
        ipureintro
        sl_open_run
        simp only [View.readAt_eq_ld, Memref.IsWhole.read_unread, pay12, pay13, pay21, pay22, pay26, pay27, pay28, pay30, pay31, pay35, pay36, pay37, pay41, pay42, ld1, ld2, ld8, cov8]
        exact (View.read_writes_full (s := S1x768x64) _ _ _ _ _).trans rfl
      iexists _; isplitr; swap; · iexact H9
      ipureintro
      sl_open_run
      simp only [View.readAt_eq_ld, Memref.IsWhole.read_unread, pay12, pay13, pay21, pay22, pay26, pay27, pay28, pay30, pay31, pay35, pay36, pay37, pay41, pay42, ld1, ld2, ld8]
      have ho : ∀ r : Fin 4, (![k0_off1 i, k0_off2 i, k0_off3 i, k0_off4 i] : Fin 4 → Fin 2 → ℕ) r = ![64 * r.val, 768 * (i 2).val] := by
        intro r
        fin_cases r
        · exact k0_off1_eq i
        · exact k0_off2_eq i
        · exact k0_off3_eq i
        · exact k0_off4_eq i
      refine close9 x0 x1 x2 x3 x4 x5 x6 arg12.view _ _ _ ?_ (i 2) ![k0_off1 i, k0_off2 i, k0_off3 i, k0_off4 i] ho ?_ ![_, _, _, _] ?_
      · first | exact fill9 _ _ _ _ | exact harg12.read_unread _
      · intro r
        fin_cases r
        · exact k0_off1_inb i
        · exact k0_off2_inb i
        · exact k0_off3_inb i
        · exact k0_off4_inb i
      · intro r
        fin_cases r
        · refine congrArg (dqStep x0 x1 x2 x3 x4 x5 x6 0) ?_
          first
            | exact ld_win _ _ _ _ _ (ho 0)
            | · rw [fill9]
                exact ld_win _ _ _ _ _ (ho 0)
                all_goals (simp only [k0_off1_eq, k0_off2_eq, k0_off3_eq, k0_off4_eq]; simp)
        · refine congrArg (dqStep x0 x1 x2 x3 x4 x5 x6 1) ?_
          first
            | exact ld_win _ _ _ _ _ (ho 1)
            | · rw [ld_skip, fill9]
                exact ld_win _ _ _ _ _ (ho 1)
                all_goals (simp only [k0_off1_eq, k0_off2_eq, k0_off3_eq, k0_off4_eq]; simp)
        · refine congrArg (dqStep x0 x1 x2 x3 x4 x5 x6 2) ?_
          first
            | exact ld_win _ _ _ _ _ (ho 2)
            | · rw [ld_skip, ld_skip, fill9]
                exact ld_win _ _ _ _ _ (ho 2)
                all_goals (simp only [k0_off1_eq, k0_off2_eq, k0_off3_eq, k0_off4_eq]; simp)
        · refine congrArg (dqStep x0 x1 x2 x3 x4 x5 x6 3) ?_
          first
            | exact ld_win _ _ _ _ _ (ho 3)
            | · rw [ld_skip, ld_skip, ld_skip, fill9]
                exact ld_win _ _ _ _ _ (ho 3)
                all_goals (simp only [k0_off1_eq, k0_off2_eq, k0_off3_eq, k0_off4_eq]; simp)

end Cert.KernelIdeal.Run

end
-- ==== Proof.Frame.lean ====
module

public import proofs.«01_k».proof.Proof.Run
public import Idealize.ShloMosaic.Lib.Claim

@[expose] public section

/-!
# The launch, with what the output blocks hold

`acc7`, `acc8` and `acc9` say what the three output blocks hold after each grid point: the gradients of the keys and of
the values restart every eleven points, the gradient of the queries every hundred and twenty-one. With the body's run
(`Run.run`) this is the launch's whole proof, and its result holds the output arrays as well as the arguments.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Block

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- The points at which a key head starts are the multiples of 121. -/
theorem cond0_iff (t : Fin cfg0.N) : cond0 (grid0.coords t) ↔ t.val % 121 = 0 := by
  have hN : t.val < 484 := lt_of_lt_of_eq t.isLt (show cfg0.N = 484 from N_0)
  have e1 : ((grid0.coords t) 1).val = t.val / 11 % 11 := Pipeline.Grid.coords_val t 1 (by decide) rfl
  have e2 : ((grid0.coords t) 2).val = t.val / 1 % 11 := Pipeline.Grid.coords_val t 2 (by decide) rfl
  simp only [cond0, e1, e2]
  word_cmp

/-- The points at which a key block starts are the multiples of 11. -/
theorem cond1_iff (t : Fin cfg0.N) : cond1 (grid0.coords t) ↔ t.val % 11 = 0 := by
  have hN : t.val < 484 := lt_of_lt_of_eq t.isLt (show cfg0.N = 484 from N_0)
  have e2 : ((grid0.coords t) 2).val = t.val / 1 % 11 := Pipeline.Grid.coords_val t 2 (by decide) rfl
  simp only [cond1, e2]
  word_cmp

/-- A point's query block is the point's number modulo 11. -/
theorem coord2 (t : Fin cfg0.N) : ((grid0.coords t) 2).val = t.val % 11 := by
  have e2 : ((grid0.coords t) 2).val = t.val / 1 % 11 := Pipeline.Grid.coords_val t 2 (by decide) rfl
  rw [e2, Nat.div_one]

/-! ## What the output blocks hold -/

/-- The part a point adds to the gradient of the keys. -/
def step7 (c : Dev nD) (t : Fin cfg0.N) (y : Vec F S1x768x128 .f32) : Vec F S1x768x128 .f32 :=
  out7 (iblk m c 0 t) (iblk m c 1 t) (iblk m c 3 t) (iblk m c 4 t) (iblk m c 5 t) (iblk m c 6 t) y

/-- The part a point adds to the gradient of the values. -/
def step8 (c : Dev nD) (t : Fin cfg0.N) (y : Vec F S1x768x64 .f32) : Vec F S1x768x64 .f32 :=
  out8 (iblk m c 0 t) (iblk m c 1 t) (iblk m c 4 t) (iblk m c 6 t) y

/-- The part a point adds to the gradient of the queries. -/
def step9 (c : Dev nD) (t : Fin cfg0.N) (y : Vec F S256x8448 .f32) : Vec F S256x8448 .f32 :=
  out9 (iblk m c 0 t) (iblk m c 1 t) (iblk m c 2 t) (iblk m c 3 t) (iblk m c 4 t) (iblk m c 5 t) (iblk m c 6 t)
    ((grid0.coords t) 2) y

/-- The gradient of the keys' block after point `n`. -/
def acc7 (c : Dev nD) : (n : ℕ) → n < cfg0.N → Vec F S1x768x128 .f32
  | 0, h => step7 m c ⟨0, h⟩ k0_pay3
  | n + 1, h => step7 m c ⟨n + 1, h⟩ (if (n + 1) % 11 = 0 then k0_pay3 else acc7 c n (Nat.lt_of_succ_lt h))

/-- The gradient of the values' block after point `n`. -/
def acc8 (c : Dev nD) : (n : ℕ) → n < cfg0.N → Vec F S1x768x64 .f32
  | 0, h => step8 m c ⟨0, h⟩ k0_pay4
  | n + 1, h => step8 m c ⟨n + 1, h⟩ (if (n + 1) % 11 = 0 then k0_pay4 else acc8 c n (Nat.lt_of_succ_lt h))

/-- The gradient of the queries' block after point `n`. -/
def acc9 (c : Dev nD) : (n : ℕ) → n < cfg0.N → Vec F S256x8448 .f32
  | 0, h => step9 m c ⟨0, h⟩ k0_pay2
  | n + 1, h => step9 m c ⟨n + 1, h⟩ (if (n + 1) % 121 = 0 then k0_pay2 else acc9 c n (Nat.lt_of_succ_lt h))

/-! ## The pipeline's proof data -/

/-- The arrays as the host lines leave them; each input's block in place, the outputs' blocks at `acc7`, `acc8`, `acc9`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => acc7 m c t.val t.isLt
    | ⟨8, _⟩ => acc8 m c t.val t.isLt
    | ⟨9, _⟩ => acc9 m c t.val t.isLt
  Φ _ := Pipeline.ΦA spec0 c
  q _ := fullShare
  owed _ := 0

/-- The call begins with the arrays that the host code left. -/
theorem A_eq (c : Dev nD) (w : Fin cfg0.W) : (dats m 0 c).A w = V m c (Pipeline.arrRef spec0 w) := by
  dsimp only [dats]

/-- A point leaves the block of the queries as it was. -/
theorem after_0 (c : Dev nD) (t : Fin cfg0.N) : (dats m 0 c).after 0 t = iblk m c 0 t := by dsimp only [dats]
/-- A point leaves the block of the keys as it was. -/
theorem after_1 (c : Dev nD) (t : Fin cfg0.N) : (dats m 0 c).after 1 t = iblk m c 1 t := by dsimp only [dats]
/-- A point leaves the block of the transposed keys as it was. -/
theorem after_2 (c : Dev nD) (t : Fin cfg0.N) : (dats m 0 c).after 2 t = iblk m c 2 t := by dsimp only [dats]
/-- A point leaves the block of the values as it was. -/
theorem after_3 (c : Dev nD) (t : Fin cfg0.N) : (dats m 0 c).after 3 t = iblk m c 3 t := by dsimp only [dats]
/-- A point leaves the block of the incoming gradient as it was. -/
theorem after_4 (c : Dev nD) (t : Fin cfg0.N) : (dats m 0 c).after 4 t = iblk m c 4 t := by dsimp only [dats]
/-- A point leaves the block of the saved output as it was. -/
theorem after_5 (c : Dev nD) (t : Fin cfg0.N) : (dats m 0 c).after 5 t = iblk m c 5 t := by dsimp only [dats]
/-- A point leaves the block of the saved logarithms as it was. -/
theorem after_6 (c : Dev nD) (t : Fin cfg0.N) : (dats m 0 c).after 6 t = iblk m c 6 t := by dsimp only [dats]
/-- After a point the keys' accumulator holds its fold so far. -/
theorem after_7 (c : Dev nD) (t : Fin cfg0.N) : (dats m 0 c).after 7 t = acc7 m c t.val t.isLt := by dsimp only [dats]
/-- After a point the values' accumulator holds its fold so far. -/
theorem after_8 (c : Dev nD) (t : Fin cfg0.N) : (dats m 0 c).after 8 t = acc8 m c t.val t.isLt := by dsimp only [dats]
/-- After a point the queries' accumulator holds its fold so far. -/
theorem after_9 (c : Dev nD) (t : Fin cfg0.N) : (dats m 0 c).after 9 t = acc9 m c t.val t.isLt := by dsimp only [dats]

/-- A point finds the block of the queries. -/
theorem before_0 (c : Dev nD) (t : Fin cfg0.N) (d) : (dats m 0 c).before 0 t d = iblk m c 0 t :=
  before0_0_of m (dats m 0 c) (A_eq m c 0) (after_0 m c) t d
/-- A point finds the block of the keys. -/
theorem before_1 (c : Dev nD) (t : Fin cfg0.N) (d) : (dats m 0 c).before 1 t d = iblk m c 1 t :=
  before0_1_of m (dats m 0 c) (A_eq m c 1) (after_1 m c) t d
/-- A point finds the block of the transposed keys. -/
theorem before_2 (c : Dev nD) (t : Fin cfg0.N) (d) : (dats m 0 c).before 2 t d = iblk m c 2 t :=
  before0_2_of m (dats m 0 c) (A_eq m c 2) (after_2 m c) t d
/-- A point finds the block of the values. -/
theorem before_3 (c : Dev nD) (t : Fin cfg0.N) (d) : (dats m 0 c).before 3 t d = iblk m c 3 t :=
  before0_3_of m (dats m 0 c) (A_eq m c 3) (after_3 m c) t d
/-- A point finds the block of the incoming gradient. -/
theorem before_4 (c : Dev nD) (t : Fin cfg0.N) (d) : (dats m 0 c).before 4 t d = iblk m c 4 t :=
  before0_4_of m (dats m 0 c) (A_eq m c 4) (after_4 m c) t d
/-- A point finds the block of the saved output. -/
theorem before_5 (c : Dev nD) (t : Fin cfg0.N) (d) : (dats m 0 c).before 5 t d = iblk m c 5 t :=
  before0_5_of m (dats m 0 c) (A_eq m c 5) (after_5 m c) t d
/-- A point finds the block of the saved logarithms. -/
theorem before_6 (c : Dev nD) (t : Fin cfg0.N) (d) : (dats m 0 c).before 6 t d = iblk m c 6 t :=
  before0_6_of m (dats m 0 c) (A_eq m c 6) (after_6 m c) t d

/-- What the body leaves in the gradient of the keys' block is what the proof data says. -/
theorem left7 (c : Dev nD) (t : Fin cfg0.N) (d) :
    step7 m c t (if cond1 (grid0.coords t) then k0_pay3 else (dats m 0 c).before 7 t d) = (dats m 0 c).after 7 t := by
  rw [after_7]
  by_cases h : t.val % 11 = 0
  · rw [if_pos ((cond1_iff t).mpr h)]
    obtain ⟨n, hn⟩ := t
    cases n with
    | zero => rfl
    | succ n => simp only [acc7]; rw [if_pos h]
  · rw [if_neg (fun hc => h ((cond1_iff t).mp hc))]
    have h0 : t.val ≠ 0 := fun h0 => h (by rw [h0])
    rw [(dats m 0 c).before_out_kept 7 rfl t h0 ?_ (fun _ => rfl) (fun _ _ => rfl) d, after_7]
    · obtain ⟨n, hn⟩ := t
      cases n with
      | zero => exact absurd rfl h0
      | succ n => simp only [acc7]; rw [if_neg h]; rfl
    · rw [Bool.eq_false_iff]
      intro hf
      have := (flush0_7 _).mp hf
      simp only at this
      omega

/-- The same for the gradient of the values. -/
theorem left8 (c : Dev nD) (t : Fin cfg0.N) (d) :
    step8 m c t (if cond1 (grid0.coords t) then k0_pay4 else (dats m 0 c).before 8 t d) = (dats m 0 c).after 8 t := by
  rw [after_8]
  by_cases h : t.val % 11 = 0
  · rw [if_pos ((cond1_iff t).mpr h)]
    obtain ⟨n, hn⟩ := t
    cases n with
    | zero => rfl
    | succ n => simp only [acc8]; rw [if_pos h]
  · rw [if_neg (fun hc => h ((cond1_iff t).mp hc))]
    have h0 : t.val ≠ 0 := fun h0 => h (by rw [h0])
    rw [(dats m 0 c).before_out_kept 8 rfl t h0 ?_ (fun _ => rfl) (fun _ _ => rfl) d, after_8]
    · obtain ⟨n, hn⟩ := t
      cases n with
      | zero => exact absurd rfl h0
      | succ n => simp only [acc8]; rw [if_neg h]; rfl
    · rw [Bool.eq_false_iff]
      intro hf
      have := (flush0_8 _).mp hf
      simp only at this
      omega

/-- The same for the gradient of the queries. -/
theorem left9 (c : Dev nD) (t : Fin cfg0.N) (d) :
    step9 m c t (if cond0 (grid0.coords t) then k0_pay2 else (dats m 0 c).before 9 t d) = (dats m 0 c).after 9 t := by
  rw [after_9]
  by_cases h : t.val % 121 = 0
  · rw [if_pos ((cond0_iff t).mpr h)]
    obtain ⟨n, hn⟩ := t
    cases n with
    | zero => rfl
    | succ n => simp only [acc9]; rw [if_pos h]
  · rw [if_neg (fun hc => h ((cond0_iff t).mp hc))]
    have h0 : t.val ≠ 0 := fun h0 => h (by rw [h0])
    rw [(dats m 0 c).before_out_kept 9 rfl t h0 ?_ (fun _ => rfl) (fun _ _ => rfl) d, after_9]
    · obtain ⟨n, hn⟩ := t
      cases n with
      | zero => exact absurd rfl h0
      | succ n => simp only [acc9]; rw [if_neg h]; rfl
    · rw [Bool.eq_false_iff]
      intro hf
      have := (flush0_9 _).mp hf
      simp only at this
      omega

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← left7 m c t d7, ← left8 m c t d8, ← left9 m c t d9]
  iapply ((run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point is the body. -/
theorem row (t : Fin cfg0.N) : defs₀ (F := F) .tc cfg0.body (cfg0.bodyArgs t (cfg0.slots t)) = bodyAt0 t := by
  unfold defs₀; rw [Defs.onTc_tc]

/-- The library's body obligation. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option backward.isDefEq.respectTransparency.types false in
set_option maxHeartbeats 800000 in
/-- Every execution of the program ends, its arrays at what the proof data says and its counters at zero. -/
theorem ends : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (ends m ρ)))
    ((θ_run defs _ _).mono (fun _ h => h.2) (ends m ρ))

end Cert.KernelIdeal.Run

end
-- ==== Proof.Pre.lean ====
module

public import proofs.«01_k».proof.Pre_finite
public import Idealize.ShloMosaic.Lib.ReduceAll
public import Idealize.ShloMosaic.Lib.Pointwise

@[expose] public section

noncomputable section

/-!
What the precondition says at the ideal: every entry of the four arguments is a real number.
-/

namespace Cert.Pre_finite

open Idealize.ShloMosaic
open Facts

/-- The shape relations that the precondition's operations take. -/
theorem facts : Facts :=
  ⟨by decide, by decide, by decide, by decide, by decide, by decide, by decide⟩

/-- A value whose absolute value is below the word of `+∞` is a real number. -/
theorem real_of_lt (x : EReal) (h : Ideal.cmp .olt (max x (-x)) (Ideal.ofBits .f32 0x7F800000#32) = 1#1) :
    ∃ y : ℝ, x = (y : EReal) := by
  have top : Ideal.ofBits .f32 0x7F800000#32 = ⊤ := by simp [Ideal.ofBits, Ideal.ieee]
  rw [top] at h
  induction x with
  | bot => simp [Ideal.cmp] at h
  | top => simp [Ideal.cmp] at h
  | coe y => exact ⟨y, rfl⟩

/-- A conjunction of bits that is one has a left part that is one. -/
theorem left_one (a b : BitVec 1) (h : a &&& b = 1#1) : a = 1#1 := by revert a b; decide

/-- And a right part that is one. -/
theorem right_one (a b : BitVec 1) (h : a &&& b = 1#1) : b = 1#1 := by revert a b; decide

variable [Facts]

/-- The precondition gives real numbers. -/
theorem reals (q : FVec Ideal S1x8208x16x64 .f32) (k v : FVec Ideal S1x8208x4x64 .f32) (ct : FVec Ideal S1x8208x1024 .f32)
    (j : S_.Idx) (h : fn (F := Ideal) q k v ct j = 1#1) :
    (∀ i, ∃ y : ℝ, q i = (y : EReal)) ∧ (∀ i, ∃ y : ℝ, k i = (y : EReal)) ∧ (∀ i, ∃ y : ℝ, v i = (y : EReal))
      ∧ (∀ i, ∃ y : ℝ, ct i = (y : EReal)) := by
  have : Subsingleton S_.Idx := ⟨fun a b => funext fun i => i.elim0⟩
  have hct := right_one _ _ h
  have h1 := left_one _ _ h
  have hv := right_one _ _ h1
  have h2 := left_one _ _ h1
  have hk := right_one _ _ h2
  have hq := left_one _ _ h2
  refine ⟨fun i => real_of_lt _ ?_, fun i => real_of_lt _ ?_, fun i => real_of_lt _ ?_, fun i => real_of_lt _ ?_⟩
  · have e := Host.reduce_andi_all _ _ _ _ _ hq i
    exact e
  · have e := Host.reduce_andi_all _ _ _ _ _ hk i
    exact e
  · have e := Host.reduce_andi_all _ _ _ _ _ hv i
    exact e
  · have e := Host.reduce_andi_all _ _ _ _ _ hct i
    exact e

end Cert.Pre_finite

end
-- ==== Proof.Attn.lean ====
module

public import Idealize.ShloMosaic.Lib.Pointwise

@[expose] public section

noncomputable section

/-!
Grouped-query attention over the ideal values, written once over the arguments: scores, their row maximum, the
exponentials, their sum, the logarithm of the sum, the output. Query head `4 g + r` reads the keys and values of group `g`.
-/

namespace Cert.Attn

open Idealize.ShloMosaic

/-- The factor on the scores, `1 / 8`. -/
def scale : EReal := Ideal.ofBits .f32 1040187392#32

/-- The query head number `r` of group `g`. -/
def head (g r : Fin 4) : Fin 16 := ⟨g.val * 4 + r.val, by omega⟩

/-- The place of entry `d` of that head among the 1024 columns. -/
def col (g r : Fin 4) (d : Fin 64) : Fin 1024 := ⟨(g.val * 4 + r.val) * 64 + d.val, by omega⟩

variable (q : FVec Ideal ⟨4, ![1, 8208, 16, 64]⟩ .f32) (k v : FVec Ideal ⟨4, ![1, 8208, 4, 64]⟩ .f32)

/-- The score of query `n` against key `a`. -/
def score (g r : Fin 4) (n a : Fin 8208) : EReal :=
  (∑ x : Fin 64, k (ix4 0 a g x) * q (ix4 0 n (head g r) x)) * scale
/-- The largest score of a query. -/
def top (g r : Fin 4) (n : Fin 8208) : EReal :=
  Finset.univ.fold max (Ideal.ofBits .f32 4286578688#32) fun a => score q k g r n a
/-- The exponential of a score less the largest. -/
def ex (g r : Fin 4) (n a : Fin 8208) : EReal := Ideal.exp (score q k g r n a - top q k g r n)
/-- The sum of a query's exponentials. -/
def total (g r : Fin 4) (n : Fin 8208) : EReal := ∑ a : Fin 8208, ex q k g r n a
/-- The logarithm of the sum of the exponentials of a query's scores. -/
def lse (g r : Fin 4) (n : Fin 8208) : EReal := top q k g r n + Ideal.log (total q k g r n)
/-- An entry of the output. -/
def out (g r : Fin 4) (d : Fin 64) (n : Fin 8208) : EReal :=
  ∑ a : Fin 8208, v (ix4 0 a g d) * Ideal.div (ex q k g r n a) (total q k g r n)

/-! ## The gradient, as the derivative of the lines above -/

variable (ct : FVec Ideal ⟨3, ![1, 8208, 1024]⟩ .f32)

/-- The gradient of a probability: the incoming gradient against a value row. -/
def dProb (g r : Fin 4) (n a : Fin 8208) : EReal := ∑ x : Fin 64, ct (ix3 0 n (col g r x)) * v (ix4 0 a g x)
/-- The gradient of a query's sum of exponentials. -/
def dTotal (g r : Fin 4) (n : Fin 8208) : EReal :=
  -∑ a : Fin 8208, dProb v ct g r n a * Ideal.div 1 (total q k g r n * total q k g r n) * ex q k g r n a
/-- The gradient of a score, the factor on the scores included. -/
def dScore (g r : Fin 4) (n a : Fin 8208) : EReal :=
  (Ideal.div (dProb v ct g r n a) (total q k g r n) + dTotal q k v ct g r n) * ex q k g r n a * scale
/-- The gradient of the queries. -/
def dQ (g r : Fin 4) (n : Fin 8208) (d : Fin 64) : EReal :=
  ∑ a : Fin 8208, dScore q k v ct g r n a * k (ix4 0 a g d)
/-- The gradient of the keys. -/
def dK (g : Fin 4) (a : Fin 8208) (d : Fin 64) : EReal :=
  ∑ n : Fin 8208, ∑ r : Fin 4, dScore q k v ct g r n a * q (ix4 0 n (head g r) d)
/-- The gradient of the values. -/
def dV (g : Fin 4) (a : Fin 8208) (d : Fin 64) : EReal :=
  ∑ r : Fin 4, ∑ n : Fin 8208, ct (ix3 0 n (col g r d)) * Ideal.div (ex q k g r n a) (total q k g r n)

end Cert.Attn

end
-- ==== Proof.Ref.lean ====
module

public import proofs.«01_k».proof.Proof.Gen.ReferenceIdeal.Read
public import proofs.«01_k».proof.Proof.Attn

@[expose] public section

set_option maxRecDepth 16384

noncomputable section

/-!
The reference's results, entry by entry: the gradients of the queries, keys and values as `Attn.dQ`, `Attn.dK`, `Attn.dV`.
-/

namespace Cert.ReferenceIdeal.Read

open Idealize.ShloMosaic Idealize.ShloMosaic.TcCoe
open Cert.ReferenceIdeal Cert.ReferenceIdeal.Gen

variable (q : FVec Ideal ⟨4, ![1, 8208, 16, 64]⟩ .f32) (k v : FVec Ideal ⟨4, ![1, 8208, 4, 64]⟩ .f32)
  (ct : FVec Ideal ⟨3, ![1, 8208, 1024]⟩ .f32)

/-- The initial value of the row maxima is the least value. -/
theorem bottom : Ideal.ofBits .f32 4286578688#32 = ⊥ := by
  simp [Ideal.ofBits, Ideal.ieee]

/-- The reference's scores. -/
theorem score_at (g r : Fin 4) (n a : Fin 8208) :
    val_main_v4 (F := Ideal) q k (ix5 0 g r n a) = Attn.score q k g r n a := by
  pointwise [val_main_v4, val_main_v3, val_main_cst, val_main_v2, val_main_v1, val_main_v0, Attn.score, Attn.scale, Attn.head]

/-- The reference's largest score of a query. -/
theorem top_at (g r : Fin 4) (n : Fin 8208) :
    val_main_v5 (F := Ideal) q k (ix4 0 g r n) = Attn.top q k g r n := by
  pointwise [val_main_v5, val_main_cst_0, Attn.top, score_at]

/-- The same, after the comparison with minus infinity. -/
theorem v12_at (g r : Fin 4) (n : Fin 8208) :
    val_main_v12 (F := Ideal) q k (ix4 0 g r n) = Attn.top q k g r n := by
  rw [val_main_v12_apply, top_at, val_main_v11_apply, val_main_cst_2_apply]
  exact (congrArg (fun x => max x (Attn.top q k g r n)) bottom).trans (max_eq_right bot_le)

/-- The reference's exponentials. -/
theorem ex_at (g r : Fin 4) (n a : Fin 8208) :
    val_main_v25 (F := Ideal) q k (ix5 0 g r n a) = Attn.ex q k g r n a := by
  pointwise [val_main_v25, val_main_v24, val_main_v23, val_main_v22, v12_at, score_at, Attn.ex]

/-- The reference's sums of exponentials. -/
theorem total_at (g r : Fin 4) (n : Fin 8208) :
    val_main_v26 (F := Ideal) q k (ix4 0 g r n) = Attn.total q k g r n := by
  pointwise [val_main_v26, val_main_cst_8, ex_at, Attn.total]

/-- The reference's probabilities. -/
theorem prob_at (g r : Fin 4) (n a : Fin 8208) :
    val_main_v29 (F := Ideal) q k (ix5 0 g r n a) = Ideal.div (Attn.ex q k g r n a) (Attn.total q k g r n) := by
  pointwise [val_main_v29, val_main_v28, val_main_v27, ex_at, total_at]

/-- The incoming gradient in the reference's layout. -/
theorem v37_at (g r : Fin 4) (d : Fin 64) (n : Fin 8208) :
    val_main_v37 (F := Ideal) ct (ix5 0 g d r n) = ct (ix3 0 n (Attn.col g r d)) := by
  pointwise [val_main_v37, val_main_v36, Attn.col]
  congr 2
  exact Fin.ext (by show g.val * 256 + r.val * 64 + d.val = (g.val * 4 + r.val) * 64 + d.val; omega)

/-- The reference's gradients of the probabilities. -/
theorem dProb_at (g r : Fin 4) (n a : Fin 8208) :
    val_main_v38 (F := Ideal) v ct (ix5 0 g r n a) = Attn.dProb v ct g r n a := by
  pointwise [val_main_v38, v37_at, Attn.dProb]

/-- The reference's gradients of the sums of exponentials. -/
theorem dTotal_at (g r : Fin 4) (n : Fin 8208) :
    val_main_v46 (F := Ideal) q k v ct (ix5 0 g r n 0) = Attn.dTotal q k v ct g r n := by
  pointwise [val_main_v46, val_main_v45, val_main_v44, val_main_v43, val_main_v42, val_main_v41, val_main_v32, val_main_v31, val_main_v30, val_main_v27, val_main_cst_9, val_main_cst_10, dProb_at, total_at, ex_at, Attn.dTotal]

/-- The place that a sum over the axes of length one reads. -/
theorem drop_at (i : S1x4x4x8208x1.Idx) :
    reducesTo_S1x4x4x8208x1_S4x4x8208_d0_4.drop i = ix3 (i 1) (i 2) (i 3) := by
  funext b
  fin_cases b <;> rfl

/-- The same gradients, after a sum over axes of length one. -/
theorem v49_at (g r : Fin 4) (n : Fin 8208) :
    val_main_v49 (F := Ideal) q k v ct (ix3 g r n) = Attn.dTotal q k v ct g r n := by
  pointwise [val_main_v49, val_main_cst_11]
  unfold Ideal.hostReduceAdd
  rw [zero_add, Finset.sum_eq_single (ix5 0 g r n 0), dTotal_at]
  · intro i hi hne
    refine absurd ?_ hne
    have h := (drop_at i).symm.trans (Finset.mem_filter.mp hi).2
    have h1 : i 1 = g := congrFun h 0
    have h2 : i 2 = r := congrFun h 1
    have h3 : i 3 = n := congrFun h 2
    have h0 : i 0 = (0 : Fin 1) := Subsingleton.elim (α := Fin 1) _ _
    have h4 : i 4 = (0 : Fin 1) := Subsingleton.elim (α := Fin 1) _ _
    funext b
    fin_cases b
    exacts [h0, h1, h2, h3, h4]
  · intro h
    refine absurd (Finset.mem_filter.mpr ⟨Finset.mem_univ _, ?_⟩) h
    exact drop_at (ix5 0 g r n 0)

/-- The reference's gradients of the scores. -/
theorem dScore_at (g r : Fin 4) (n a : Fin 8208) :
    val_main_v55 (F := Ideal) q k v ct (ix5 0 g r n a) = Attn.dScore q k v ct g r n a := by
  pointwise [val_main_v55, val_main_v54, val_main_cst_12, val_main_v53, val_main_v52, val_main_v51, val_main_v50, val_main_v48, val_main_v47, val_main_v27, dProb_at, total_at, ex_at, v49_at, Attn.dScore, Attn.scale]

/-- The reference's first result, the gradient of the queries. -/
theorem dQ_at (g r : Fin 4) (n : Fin 8208) (d : Fin 64) :
    val_main_v61 (F := Ideal) q k v ct (ix4 0 n (Attn.head g r) d) = Attn.dQ q k v ct g r n d := by
  pointwise [val_main_v61, val_main_v58, val_main_v57, val_main_v56, dScore_at, Attn.dQ, Attn.head]

/-- The reference's third result, the gradient of the values. -/
theorem dV_at (g : Fin 4) (a : Fin 8208) (d : Fin 64) :
    val_main_v40 (F := Ideal) q k ct (ix4 0 a g d) = Attn.dV q k ct g a d := by
  pointwise [val_main_v40, val_main_v39, v37_at, prob_at, Attn.dV]

/-- The reference's second result, the gradient of the keys. -/
theorem dK_at (g : Fin 4) (a : Fin 8208) (d : Fin 64) :
    val_main_v60 (F := Ideal) q k v ct (ix4 0 a g d) = Attn.dK q k v ct g a d := by
  pointwise [val_main_v60, val_main_v59, val_main_v56, val_main_v0, dScore_at, Attn.dK, Attn.head]

end Cert.ReferenceIdeal.Read
end
-- ==== Proof.Real.lean ====
module

public import proofs.«01_k».proof.Proof.Attn

@[expose] public section

noncomputable section

/-!
Attention and its gradient at real arguments: every value of `Attn` is then a real number, the gradient of a score has
the closed form `p (dp - δ)`, and a saved logarithm gives back the probability.
-/

namespace Cert.Attn

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale is an eighth. -/
theorem scale_eq : scale = ((1 / 8 : ℝ) : EReal) := by
  unfold scale
  simp [Ideal.ofBits, Ideal.ieee]
  rw [← EReal.coe_mul]
  norm_num

/-- Four real arrays behind four arrays of ideal values. -/
structure Reals (q : FVec Ideal ⟨4, ![1, 8208, 16, 64]⟩ .f32) (k v : FVec Ideal ⟨4, ![1, 8208, 4, 64]⟩ .f32)
    (ct : FVec Ideal ⟨3, ![1, 8208, 1024]⟩ .f32) where
  qr : Fin 8208 → Fin 16 → Fin 64 → ℝ
  kr : Fin 8208 → Fin 4 → Fin 64 → ℝ
  vr : Fin 8208 → Fin 4 → Fin 64 → ℝ
  cr : Fin 8208 → Fin 1024 → ℝ
  hq : ∀ n h d, q (ix4 0 n h d) = ((qr n h d : ℝ) : EReal)
  hk : ∀ n h d, k (ix4 0 n h d) = ((kr n h d : ℝ) : EReal)
  hv : ∀ n h d, v (ix4 0 n h d) = ((vr n h d : ℝ) : EReal)
  hc : ∀ n x, ct (ix3 0 n x) = ((cr n x : ℝ) : EReal)

namespace Reals

variable {q : FVec Ideal ⟨4, ![1, 8208, 16, 64]⟩ .f32} {k v : FVec Ideal ⟨4, ![1, 8208, 4, 64]⟩ .f32}
  {ct : FVec Ideal ⟨3, ![1, 8208, 1024]⟩ .f32} (R : Reals q k v ct) (g r : Fin 4) (n a : Fin 8208) (d : Fin 64)

/-- The score. -/
def S : ℝ := (∑ x : Fin 64, R.kr a g x * R.qr n (head g r) x) * (1 / 8)
/-- The largest score. -/
def T (_ : Reals q k v ct) : ℝ := (top q k g r n).toReal
/-- The exponential. -/
def E : ℝ := Real.exp (R.S g r n a - R.T g r n)
/-- The sum of the exponentials. -/
def L : ℝ := ∑ a : Fin 8208, R.E g r n a
/-- The probability. -/
def P : ℝ := R.E g r n a / R.L g r n
/-- The gradient of the probability. -/
def DP : ℝ := ∑ x : Fin 64, R.cr n (col g r x) * R.vr a g x
/-- The mean of the gradients of a query's probabilities. -/
def Δ : ℝ := ∑ a : Fin 8208, R.P g r n a * R.DP g r n a
/-- The gradient of the score, before the factor on the scores. -/
def DS : ℝ := R.P g r n a * (R.DP g r n a - R.Δ g r n)

/-- The score at real arguments. -/
theorem score_eq : score q k g r n a = (R.S g r n a : EReal) := by
  unfold score S
  rw [EReal.coe_mul, coe_sum, scale_eq]
  congr 1
  refine Finset.sum_congr rfl fun x _ => ?_
  rw [R.hk, R.hq, EReal.coe_mul]

/-- The largest score of a query at real arguments. -/
theorem top_eq (b : Ideal.ofBits .f32 4286578688#32 = ⊥) : top q k g r n = (R.T g r n : EReal) := by
  have e : top q k g r n = Finset.univ.sup fun a => score q k g r n a := by
    unfold top
    rw [b]
    rfl
  obtain ⟨i, _, hi⟩ := Finset.exists_mem_eq_sup (Finset.univ : Finset (Fin 8208)) ⟨0, Finset.mem_univ _⟩
    (fun a => score q k g r n a)
  unfold T
  rw [e, hi, R.score_eq, EReal.toReal_coe]

/-- The start of the maximum is minus infinity. -/
theorem bottom : Ideal.ofBits .f32 4286578688#32 = ⊥ := by simp [Ideal.ofBits, Ideal.ieee]

/-- The exponential at real arguments. -/
theorem ex_eq : ex q k g r n a = (R.E g r n a : EReal) := by
  unfold ex E
  rw [R.score_eq, R.top_eq g r n bottom, ← EReal.coe_sub, Ideal.exp_coe]

/-- The sum of exponentials is positive. -/
theorem L_pos : 0 < R.L g r n :=
  Finset.sum_pos (fun _ _ => Real.exp_pos _) ⟨0, Finset.mem_univ _⟩

/-- The sum of exponentials at real arguments. -/
theorem total_eq : total q k g r n = (R.L g r n : EReal) := by
  unfold total L
  rw [coe_sum]
  exact Finset.sum_congr rfl fun a _ => R.ex_eq g r n a

/-- Its logarithm, with the largest score put back. -/
theorem lse_eq : lse q k g r n = ((R.T g r n + Real.log (R.L g r n) : ℝ) : EReal) := by
  unfold lse
  rw [R.total_eq, R.top_eq g r n bottom, Ideal.log_coe, if_neg (not_le.2 (R.L_pos g r n)), EReal.coe_add]

/-- The probability at real arguments. -/
theorem prob_eq : Ideal.div (ex q k g r n a) (total q k g r n) = (R.P g r n a : EReal) := by
  rw [R.ex_eq, R.total_eq, Ideal.div_coe (R.L_pos g r n).ne', ← EReal.coe_mul]
  unfold P
  rw [mul_one_div]

/-- The probability from the score and the saved logarithm. -/
theorem prob_of_lse : Ideal.exp ((R.S g r n a : EReal) - lse q k g r n) = (R.P g r n a : EReal) := by
  rw [R.lse_eq, ← EReal.coe_sub, Ideal.exp_coe]
  unfold P E
  rw [← sub_sub, Real.exp_sub, Real.exp_log (R.L_pos g r n)]

/-- The gradient of a probability at real arguments. -/
theorem dProb_eq : dProb v ct g r n a = (R.DP g r n a : EReal) := by
  unfold dProb DP
  rw [coe_sum]
  refine Finset.sum_congr rfl fun x _ => ?_
  rw [R.hc, R.hv, EReal.coe_mul]

/-- The attention's output at real arguments. -/
theorem out_eq : out q k v g r d n = ((∑ a : Fin 8208, R.vr a g d * R.P g r n a : ℝ) : EReal) := by
  unfold out
  rw [coe_sum]
  refine Finset.sum_congr rfl fun x _ => ?_
  rw [R.hv, R.prob_eq, EReal.coe_mul]

/-- The incoming gradient against the output is the mean of the gradients of the probabilities. -/
theorem delta_eq : (∑ d : Fin 64, ct (ix3 0 n (col g r d)) * out q k v g r d n : EReal) = (R.Δ g r n : EReal) := by
  have e : R.Δ g r n = ∑ d : Fin 64, R.cr n (col g r d) * ∑ a : Fin 8208, R.vr a g d * R.P g r n a := by
    unfold Δ DP
    simp only [Finset.mul_sum]
    rw [Finset.sum_comm]
    refine Finset.sum_congr rfl fun d _ => Finset.sum_congr rfl fun a _ => ?_
    ring
  rw [e, coe_sum]
  refine Finset.sum_congr rfl fun d _ => ?_
  rw [R.hc, R.out_eq, EReal.coe_mul]

/-- The gradient of the sum of exponentials at real arguments. -/
theorem dTotal_eq : dTotal q k v ct g r n = ((-(R.Δ g r n / R.L g r n) : ℝ) : EReal) := by
  have h := (R.L_pos g r n).ne'
  unfold dTotal
  rw [EReal.coe_neg]
  refine congrArg Neg.neg ?_
  have e : R.Δ g r n / R.L g r n = ∑ a : Fin 8208, R.DP g r n a * (1 / (R.L g r n * R.L g r n)) * R.E g r n a := by
    unfold Δ P
    rw [Finset.sum_div]
    refine Finset.sum_congr rfl fun a _ => ?_
    field_simp
  rw [e, coe_sum]
  refine Finset.sum_congr rfl fun a _ => ?_
  rw [R.dProb_eq, R.total_eq, R.ex_eq, ← EReal.coe_mul, Ideal.div_coe (mul_ne_zero h h), one_mul, ← EReal.coe_mul,
    ← EReal.coe_mul]

/-- The gradient of a score as the derivative gives it. -/
theorem dScore_eq : dScore q k v ct g r n a = ((R.DS g r n a * (1 / 8) : ℝ) : EReal) := by
  have h := (R.L_pos g r n).ne'
  unfold dScore
  rw [R.dProb_eq, R.dTotal_eq, R.total_eq, R.ex_eq, Ideal.div_coe h, scale_eq, ← EReal.coe_mul, ← EReal.coe_add,
    ← EReal.coe_mul, ← EReal.coe_mul]
  congr 1
  unfold DS P
  field_simp
  ring

end Reals

end Cert.Attn

end
-- ==== Proof.BlockAt.lean ====
module

public import proofs.«01_k».proof.Proof.Block

/-! # One point of the grid, read at an index

Over the extended reals the functions of `Block` are sums and products of the entries of the blocks. -/

@[expose] public section

set_option maxRecDepth 16384

noncomputable section

namespace Cert.KernelIdeal.Block

open Idealize.ShloMosaic Idealize.ShloMosaic.TcCoe
open Cert.KernelIdeal Cert.KernelIdeal.Gen

/-- Row `d` of head `r` in a block that holds four heads of 64 rows. -/
def hrow (r : Fin 4) (d : Fin 64) : Fin 256 := ⟨64 * r.val + d.val, by omega⟩

/-- The first 64 of 128 lanes. -/
def lo (d : Fin 64) : Fin 128 := ⟨d.val, by omega⟩

section
variable (x0 : Vec Ideal S4x128x768 .bf16) (x1 : Vec Ideal S1x768x128 .bf16) (x2 : Vec Ideal S1x64x768 .bf16)
  (x3 : Vec Ideal S1x768x128 .bf16) (x4 : Vec Ideal S256x768 .bf16) (x5 : Vec Ideal S256x768 .f32) (x6 : Vec Ideal S1x4x768 .f32)

/-- The score of key `a` and query `b` of head `r`. -/
def scr (r : Fin 4) (a b : Fin 768) : EReal := ∑ d : Fin 128, x1 (ix3 0 a d) * x0 (ix3 r d b)
/-- The probability. -/
def prb (r : Fin 4) (a b : Fin 768) : EReal := Ideal.exp (scr x0 x1 r a b - x6 (ix3 0 r b))
/-- The product of a value row and a row of the incoming gradient. -/
def dpr (r : Fin 4) (a b : Fin 768) : EReal := ∑ d : Fin 64, x3 (ix3 0 a (lo d)) * x4 (ix2 (hrow r d) b)
/-- The product of the incoming gradient and the saved output. -/
def del (r : Fin 4) (b : Fin 768) : EReal := ∑ d : Fin 64, x4 (ix2 (hrow r d) b) * x5 (ix2 (hrow r d) b)
/-- The gradient of the score. -/
def dsc (r : Fin 4) (a b : Fin 768) : EReal := prb x0 x1 x6 r a b * (dpr x3 x4 r a b - del x4 x5 r b)

/-- What the query's own block adds to the gradient of the queries. -/
def dqr (r : Fin 4) (d : Fin 64) (b : Fin 768) : EReal := ∑ a : Fin 768, x2 (ix3 0 d a) * dsc x0 x1 x3 x4 x5 x6 r a b

/-- An entry of a head's scores. -/
theorem st_at (r : Fin 4) (a b : Fin 768) : st x0 x1 r (ix2 a b) = scr x0 x1 r a b := by
  pointwise [st, scr, k0_pay10, k0_pay5, qRow]

/-- An entry of a head's product of the values with the incoming gradient. -/
theorem dp_at (r : Fin 4) (a b : Fin 768) : dp x3 x4 r (ix2 a b) = dpr x3 x4 r a b := by
  pointwise [dp, dpr, k0_pay11, k0_pay7, vPart, gRow, lo, hrow]

/-- An entry of a head's exponentials. -/
theorem pt_at (r : Fin 4) (a b : Fin 768) : k0_pay15 (st x0 x1 r) (lRow x6 r) (ix2 a b) = prb x0 x1 x6 r a b := by
  pointwise [prb, k0_pay15, lRow, st_at]

/-- An entry of a head's gradients of the scores. -/
theorem ds_at (r : Fin 4) (a b : Fin 768) :
    k0_pay16 (st x0 x1 r) (dp x3 x4 r) (gRow x4 r) (oRow x5 r) (lRow x6 r) (ix2 a b) = dsc x0 x1 x3 x4 x5 x6 r a b := by
  pointwise [dsc, k0_pay16, pt_at, dp_at, k0_pay14, gRow, oRow, del, hrow]

/-- A head adds to the values' gradient its exponentials times the incoming gradient. -/
theorem dvStep_at (r : Fin 4) (acc : FVec Ideal S768x64 .f32) (a : Fin 768) (d : Fin 64) :
    dvStep x0 x1 x4 x6 r acc (ix2 a d) = acc (ix2 a d) + ∑ b : Fin 768, prb x0 x1 x6 r a b * x4 (ix2 (hrow r d) b) := by
  pointwise [dvStep, k0_pay17, pt_at, k0_pay14, gRow, hrow]

/-- A head adds to the keys' gradient its gradients of the scores times the queries. -/
theorem dkStep_at (r : Fin 4) (acc : FVec Ideal S768x128 .f32) (a : Fin 768) (d : Fin 128) :
    dkStep x0 x1 x3 x4 x5 x6 r acc (ix2 a d)
      = acc (ix2 a d) + ∑ b : Fin 768, dsc x0 x1 x3 x4 x5 x6 r a b * x0 (ix3 r d b) := by
  pointwise [dkStep, k0_pay18, ds_at, qRow]

/-- A head adds to its columns of the queries' gradient the keys times its gradients of the scores. -/
theorem dqStep_at (r : Fin 4) (w : Vec Ideal S64x768 .f32) (d : Fin 64) (b : Fin 768) :
    dqStep x0 x1 x2 x3 x4 x5 x6 r w (ix2 d b)
      = w (ix2 d b) + ∑ a : Fin 768, x2 (ix3 0 d a) * dsc x0 x1 x3 x4 x5 x6 r a b := by
  pointwise [dqStep, k0_pay19, k0_pay6, ds_at]

/-- A step adds to an entry of the values' accumulator the sum over the four heads. -/
theorem out8_at (y : Vec Ideal S1x768x64 .f32) (a : Fin 768) (d : Fin 64) :
    out8 x0 x1 x4 x6 y (ix3 0 a d)
      = y (ix3 0 a d) + ∑ r : Fin 4, ∑ b : Fin 768, prb x0 x1 x6 r a b * x4 (ix2 (hrow r d) b) := by
  rw [Fin.sum_univ_four]
  pointwise [out8, k0_pay1, k0_pay9, dvStep_at]

/-- A step adds to an entry of the keys' accumulator the sum over the four heads. -/
theorem out7_at (y : Vec Ideal S1x768x128 .f32) (a : Fin 768) (d : Fin 128) :
    out7 x0 x1 x3 x4 x5 x6 y (ix3 0 a d)
      = y (ix3 0 a d) + ∑ r : Fin 4, ∑ b : Fin 768, dsc x0 x1 x3 x4 x5 x6 r a b * x0 (ix3 r d b) := by
  have e : out7 x0 x1 x3 x4 x5 x6 y
      = shapeCast S1x768x128 (addf (shapeCast S768x128 y shapeCasts_S1x768x128_S768x128)
          (dkStep x0 x1 x3 x4 x5 x6 3 (dkStep x0 x1 x3 x4 x5 x6 2 (dkStep x0 x1 x3 x4 x5 x6 1
            (dkStep x0 x1 x3 x4 x5 x6 0 k0_pay8))))) shapeCasts_S768x128_S1x768x128 := rfl
  rw [Fin.sum_univ_four, e]
  pointwise [k0_pay8, dkStep_at]

/-- The gradient of the queries: the columns of the query block gain, the others stay. -/
theorem out9_at (b : Fin 11) (y : Vec Ideal S256x8448 .f32) (r : Fin 4) (d : Fin 64) (n : Fin 8448) :
    out9 x0 x1 x2 x3 x4 x5 x6 b y (ix2 (hrow r d) n)
      = y (ix2 (hrow r d) n) + if h : n.val / 768 = b.val then
          dqr x0 x1 x2 x3 x4 x5 x6 r d ⟨n.val % 768, Nat.mod_lt _ (by norm_num)⟩ else 0 := by
  have hr : (64 * r.val + d.val) / 64 = r.val := by omega
  have hd : (64 * r.val + d.val) % 64 = d.val := by omega
  unfold out9
  by_cases h : n.val / 768 = b.val
  · have hb : 768 * b.val ≤ n.val ∧ n.val < 768 * b.val + 768 := by omega
    have er : (⟨(64 * r.val + d.val) / 64, by omega⟩ : Fin 4) = r := Fin.ext hr
    have ed : (⟨(64 * r.val + d.val) % 64, Nat.mod_lt _ (by norm_num)⟩ : Fin 64) = d := Fin.ext hd
    have en : (⟨n.val - 768 * b.val, by omega⟩ : Fin 768) = ⟨n.val % 768, Nat.mod_lt _ (by norm_num)⟩ :=
      Fin.ext (by simp only; omega)
    have hw : win y b r (ix2 d ⟨n.val - 768 * b.val, by omega⟩) = y (ix2 (hrow r d) n) := by
      unfold win View.ld
      congr 1
      funext a
      fin_cases a
      · exact Fin.ext (by simp [hrow, ix2, Rect.unit]; try omega)
      · exact Fin.ext (by simp [ix2, Rect.unit]; omega)
    rw [dif_pos h, dif_pos (by exact hb)]
    show dqStep x0 x1 x2 x3 x4 x5 x6 ⟨(64 * r.val + d.val) / 64, _⟩ (win y b ⟨(64 * r.val + d.val) / 64, _⟩)
      (ix2 ⟨(64 * r.val + d.val) % 64, _⟩ ⟨n.val - 768 * b.val, _⟩) = _
    rw [er, ed, dqStep_at, hw, en, dqr]
  · rw [dif_neg h, dif_neg (by show ¬ (768 * b.val ≤ n.val ∧ n.val < 768 * b.val + 768); omega), add_zero]
end

end Cert.KernelIdeal.Block

end
-- ==== Proof.Blocks.lean ====
module

public import proofs.«01_k».proof.Proof.BlockAt
public import proofs.«01_k».proof.Proof.Frame
public import Idealize.ShloMosaic.Lib.Pipeline.ValueKit

/-! # Where the blocks lie in the arrays -/

@[expose] public section

set_option maxRecDepth 16384

noncomputable section

namespace Cert.KernelIdeal.Run

open Idealize.ShloMosaic Idealize.ShloMosaic.TcCoe
open Cert.KernelIdeal Cert.KernelIdeal.Gen Cert.KernelIdeal.Block

variable (m : (ℓ : Loc nD τ sig) → Buf (Elt Ideal) ℓ)

/-- Position `b` of block `i` of eleven. -/
def at768 (i : Fin 11) (b : Fin 768) : Fin 8448 := ⟨i.val * 768 + b.val, by omega⟩
/-- A sum over the 8448 positions, block by block. -/
theorem sum_at {M : Type*} [AddCommMonoid M] (f : Fin 8448 → M) : ∑ k, f k = ∑ i : Fin 11, ∑ b : Fin 768, f (at768 i b) :=
  Fin.sum_univ_tiles 11 768 (by norm_num) f
/-- Query head `r` of key head `g`. -/
def head (g r : Fin 4) : Fin 16 := ⟨4 * g.val + r.val, by omega⟩
/-- Row `d` of query head `r` of key head `g`. -/
def grow (g r : Fin 4) (d : Fin 64) : Fin 1024 := ⟨256 * g.val + 64 * r.val + d.val, by omega⟩

/-- The point of key head `g`, key block `j` and query block `i`. -/
def pt (g : Fin 4) (j i : Fin 11) : Fin cfg0.N := ⟨121 * g.val + 11 * j.val + i.val, by rw [show cfg0.N = 484 from N_0]; omega⟩

/-- Each window's block number at a point of the grid. -/
theorem idx : ∀ (g : Fin 4) (j i : Fin 11), win0_0.index (pt g j i) = ![g.val, 0, i.val] ∧ win0_1.index (pt g j i) = ![g.val, j.val, 0]
    ∧ win0_2.index (pt g j i) = ![g.val, 0, j.val] ∧ win0_3.index (pt g j i) = ![g.val, j.val, 0]
    ∧ win0_4.index (pt g j i) = ![g.val, i.val] ∧ win0_5.index (pt g j i) = ![g.val, i.val]
    ∧ win0_6.index (pt g j i) = ![g.val, 0, i.val] ∧ win0_7.index (pt g j i) = ![g.val, j.val, 0]
    ∧ win0_8.index (pt g j i) = ![g.val, j.val, 0] ∧ win0_9.index (pt g j i) = ![g.val, 0] := by
  decide +kernel

section
variable (c : Dev nD) (g : Fin 4) (j i : Fin 11)

/-- The queries' block holds the four heads' columns of query block `i`. -/
theorem blk0 (r : Fin 4) (d : Fin 128) (b : Fin 768) :
    (iblk m c 0 (pt g j i) : Vec Ideal S4x128x768 .bf16) (ix3 r d b)
      = (V m c main_v29 : Vec Ideal S16x128x8448 .bf16) (ix3 (head g r) d (at768 i b)) := by
  blk_ext [iblk, idx g j i, head, at768]

/-- The keys' block holds the rows of key block `j`. -/
theorem blk1 (a : Fin 768) (d : Fin 128) :
    (iblk m c 1 (pt g j i) : Vec Ideal S1x768x128 .bf16) (ix3 0 a d)
      = (V m c main_v38 : Vec Ideal S4x8448x128 .bf16) (ix3 g (at768 j a) d) := by
  blk_ext [iblk, idx g j i, head, at768]

/-- The transposed keys' block holds the columns of key block `j`. -/
theorem blk2 (d : Fin 64) (a : Fin 768) :
    (iblk m c 2 (pt g j i) : Vec Ideal S1x64x768 .bf16) (ix3 0 d a)
      = (V m c main_v42 : Vec Ideal S4x64x8448 .bf16) (ix3 g d (at768 j a)) := by
  blk_ext [iblk, idx g j i, head, at768]

/-- The values' block holds the rows of key block `j`. -/
theorem blk3 (a : Fin 768) (d : Fin 128) :
    (iblk m c 3 (pt g j i) : Vec Ideal S1x768x128 .bf16) (ix3 0 a d)
      = (V m c main_v49 : Vec Ideal S4x8448x128 .bf16) (ix3 g (at768 j a) d) := by
  blk_ext [iblk, idx g j i, head, at768]

/-- The incoming gradient's block holds the four heads' columns of query block `i`. -/
theorem blk4 (r : Fin 4) (d : Fin 64) (b : Fin 768) :
    (iblk m c 4 (pt g j i) : Vec Ideal S256x768 .bf16) (ix2 (hrow r d) b)
      = (V m c main_v53 : Vec Ideal S1024x8448 .bf16) (ix2 (grow g r d) (at768 i b)) := by
  blk_ext [iblk, idx g j i, hrow, grow, at768]

/-- The saved output's block, likewise. -/
theorem blk5 (r : Fin 4) (d : Fin 64) (b : Fin 768) :
    (iblk m c 5 (pt g j i) : Vec Ideal S256x768 .f32) (ix2 (hrow r d) b)
      = (V m c main_v55 : Vec Ideal S1024x8448 .f32) (ix2 (grow g r d) (at768 i b)) := by
  blk_ext [iblk, idx g j i, hrow, grow, at768]

/-- The saved logarithms' block, likewise. -/
theorem blk6 (r : Fin 4) (b : Fin 768) :
    (iblk m c 6 (pt g j i) : Vec Ideal S1x4x768 .f32) (ix3 0 r b)
      = (V m c main_v56 : Vec Ideal S4x4x8448 .f32) (ix3 g r (at768 i b)) := by
  blk_ext [iblk, idx g j i, head, at768]
end

end Cert.KernelIdeal.Run

end
-- ==== Proof.Acc.lean ====
module

public import proofs.«01_k».proof.Proof.Blocks

/-! # The output arrays of the launch

Every output block, after the point that writes it back, holds sums over all queries (gradients of the keys and of the
values) or over all keys (gradient of the queries) of products of the entries of the launch's input arrays. -/

@[expose] public section

set_option maxRecDepth 16384

noncomputable section

namespace Cert.KernelIdeal.Run

open Idealize.ShloMosaic Idealize.ShloMosaic.TcCoe
open Cert.KernelIdeal Cert.KernelIdeal.Gen Cert.KernelIdeal.Block
open Idealize.ShloMosaic.Pipeline (Dat)

section
variable (A0 : Vec Ideal S16x128x8448 .bf16) (A1 : Vec Ideal S4x8448x128 .bf16) (A2 : Vec Ideal S4x64x8448 .bf16)
  (A3 : Vec Ideal S4x8448x128 .bf16) (A4 : Vec Ideal S1024x8448 .bf16) (A5 : Vec Ideal S1024x8448 .f32)
  (A6 : Vec Ideal S4x4x8448 .f32)

/-- The score of key `a` and query `b`. -/
def gScr (g r : Fin 4) (a b : Fin 8448) : EReal := ∑ d : Fin 128, A1 (ix3 g a d) * A0 (ix3 (head g r) d b)
/-- The probability. -/
def gPrb (g r : Fin 4) (a b : Fin 8448) : EReal := Ideal.exp (gScr A0 A1 g r a b - A6 (ix3 g r b))
/-- The product of a value row and a row of the incoming gradient. -/
def gDpr (g r : Fin 4) (a b : Fin 8448) : EReal := ∑ d : Fin 64, A3 (ix3 g a (lo d)) * A4 (ix2 (grow g r d) b)
/-- The product of the incoming gradient and the saved output. -/
def gDel (g r : Fin 4) (b : Fin 8448) : EReal := ∑ d : Fin 64, A4 (ix2 (grow g r d) b) * A5 (ix2 (grow g r d) b)
/-- The gradient of the score. -/
def gDsc (g r : Fin 4) (a b : Fin 8448) : EReal := gPrb A0 A1 A6 g r a b * (gDpr A3 A4 g r a b - gDel A4 A5 g r b)
/-- The gradient of the keys. -/
def gDk (g : Fin 4) (a : Fin 8448) (d : Fin 128) : EReal :=
  ∑ r : Fin 4, ∑ b : Fin 8448, gDsc A0 A1 A3 A4 A5 A6 g r a b * A0 (ix3 (head g r) d b)
/-- The gradient of the values. -/
def gDv (g : Fin 4) (a : Fin 8448) (d : Fin 64) : EReal :=
  ∑ r : Fin 4, ∑ b : Fin 8448, gPrb A0 A1 A6 g r a b * A4 (ix2 (grow g r d) b)
/-- What one key block adds to the gradient of the queries. -/
def gDqPart (g r : Fin 4) (d : Fin 64) (j : Fin 11) (b : Fin 8448) : EReal :=
  ∑ a : Fin 768, A2 (ix3 g d (at768 j a)) * gDsc A0 A1 A3 A4 A5 A6 g r (at768 j a) b
/-- The gradient of the queries. -/
def gDq (g r : Fin 4) (d : Fin 64) (b : Fin 8448) : EReal :=
  ∑ a : Fin 8448, A2 (ix3 g d a) * gDsc A0 A1 A3 A4 A5 A6 g r a b
end

variable (m : (ℓ : Loc nD τ sig) → Buf (Elt Ideal) ℓ) (c : Dev nD)

section
variable (g : Fin 4) (j i : Fin 11) (r : Fin 4) (a b : Fin 768)

/-- A score of the point's blocks is the score of the whole arrays at the same key and query. -/
theorem scr_pt : scr (iblk m c 0 (pt g j i)) (iblk m c 1 (pt g j i)) r a b
    = gScr (V m c main_v29) (V m c main_v38) g r (at768 j a) (at768 i b) := by
  unfold scr gScr
  refine Finset.sum_congr rfl fun d _ => ?_
  rw [← blk0, ← blk1]

/-- So is an exponential. -/
theorem prb_pt : prb (iblk m c 0 (pt g j i)) (iblk m c 1 (pt g j i)) (iblk m c 6 (pt g j i)) r a b
    = gPrb (V m c main_v29) (V m c main_v38) (V m c main_v56) g r (at768 j a) (at768 i b) := by
  unfold prb gPrb
  rw [scr_pt, ← blk6]

/-- So is a product of the incoming gradient with the values. -/
theorem dpr_pt : dpr (iblk m c 3 (pt g j i)) (iblk m c 4 (pt g j i)) r a b
    = gDpr (V m c main_v49) (V m c main_v53) g r (at768 j a) (at768 i b) := by
  unfold dpr gDpr
  refine Finset.sum_congr rfl fun d _ => ?_
  rw [← blk3, ← blk4]

/-- So is a query's product of the incoming gradient with the saved output. -/
theorem del_pt : del (iblk m c 4 (pt g j i)) (iblk m c 5 (pt g j i)) r b
    = gDel (V m c main_v53) (V m c main_v55) g r (at768 i b) := by
  unfold del gDel
  refine Finset.sum_congr rfl fun d _ => ?_
  rw [← blk4 m c g j i, ← blk5 m c g j i]

/-- So is a gradient of a score. -/
theorem dsc_pt : dsc (iblk m c 0 (pt g j i)) (iblk m c 1 (pt g j i)) (iblk m c 3 (pt g j i)) (iblk m c 4 (pt g j i))
      (iblk m c 5 (pt g j i)) (iblk m c 6 (pt g j i)) r a b
    = gDsc (V m c main_v29) (V m c main_v38) (V m c main_v49) (V m c main_v53) (V m c main_v55) (V m c main_v56) g r
        (at768 j a) (at768 i b) := by
  unfold dsc gDsc
  rw [prb_pt, dpr_pt, del_pt]
end

/-! ## The sums over the points -/

/-- What a point adds to the gradient of the keys. -/
def term7 (a : Fin 768) (d : Fin 128) (t : Fin cfg0.N) : EReal :=
  ∑ r : Fin 4, ∑ b : Fin 768, dsc (iblk m c 0 t) (iblk m c 1 t) (iblk m c 3 t) (iblk m c 4 t) (iblk m c 5 t) (iblk m c 6 t) r a b
    * (iblk m c 0 t : Vec Ideal S4x128x768 .bf16) (ix3 r d b)

/-- What a point adds to the gradient of the values. -/
def term8 (a : Fin 768) (d : Fin 64) (t : Fin cfg0.N) : EReal :=
  ∑ r : Fin 4, ∑ b : Fin 768, prb (iblk m c 0 t) (iblk m c 1 t) (iblk m c 6 t) r a b
    * (iblk m c 4 t : Vec Ideal S256x768 .bf16) (ix2 (hrow r d) b)

/-- What a point adds to the gradient of the queries: nothing outside its query block. -/
def term9 (r : Fin 4) (d : Fin 64) (n : Fin 8448) (t : Fin cfg0.N) : EReal :=
  if h : n.val / 768 = ((grid0.coords t) 2).val then
    dqr (iblk m c 0 t) (iblk m c 1 t) (iblk m c 2 t) (iblk m c 3 t) (iblk m c 4 t) (iblk m c 5 t) (iblk m c 6 t) r d
      ⟨n.val % 768, Nat.mod_lt _ (by norm_num)⟩
  else 0

/-- A point adds its term to every entry of the keys' accumulator. -/
theorem step7_at (t : Fin cfg0.N) (y : Vec Ideal S1x768x128 .f32) (a : Fin 768) (d : Fin 128) :
    step7 m c t y (ix3 0 a d) = y (ix3 0 a d) + term7 m c a d t := by
  unfold step7 term7
  exact out7_at _ _ _ _ _ _ y _ _

/-- A point adds its term to every entry of the values' accumulator. -/
theorem step8_at (t : Fin cfg0.N) (y : Vec Ideal S1x768x64 .f32) (a : Fin 768) (d : Fin 64) :
    step8 m c t y (ix3 0 a d) = y (ix3 0 a d) + term8 m c a d t := by
  unfold step8 term8
  exact out8_at _ _ _ _ y _ _

/-- A point adds its term to every entry of the queries' accumulator. -/
theorem step9_at (t : Fin cfg0.N) (y : Vec Ideal S256x8448 .f32) (r : Fin 4) (d : Fin 64) (n : Fin 8448) :
    step9 m c t y (ix2 (hrow r d) n) = y (ix2 (hrow r d) n) + term9 m c r d n t := by
  unfold step9 term9
  exact out9_at _ _ _ _ _ _ _ _ y _ _ _

/-- The keys' accumulator starts at zero. -/
theorem zero7 (x : S1x768x128.Idx) : k0_pay3 (F := Ideal) x = 0 := by
  idx_vars x
  pointwise [k0_pay3]
/-- The values' accumulator starts at zero. -/
theorem zero8 (x : S1x768x64.Idx) : k0_pay4 (F := Ideal) x = 0 := by
  idx_vars x
  pointwise [k0_pay4]
/-- The queries' accumulator starts at zero. -/
theorem zero9 (x : S256x8448.Idx) : k0_pay2 (F := Ideal) x = 0 := by
  idx_vars x
  pointwise [k0_pay2]

/-- The points of one key block's run are those of its eleven query blocks. -/
theorem run_pt (g : Fin 4) (j i : Fin 11) (h) : (⟨11 * ((pt g j 10).val / 11) + i.val, h⟩ : Fin cfg0.N) = pt g j i :=
  Fin.ext (by simp only [pt]; omega)

/-- The gradient of the keys' block after the last query block. -/
theorem acc7_last (g : Fin 4) (j : Fin 11) (a : Fin 768) (d : Fin 128) :
    acc7 m c (pt g j 10).val (pt g j 10).isLt (ix3 0 a d)
      = gDk (V m c main_v29) (V m c main_v38) (V m c main_v49) (V m c main_v53) (V m c main_v55) (V m c main_v56) g
          (at768 j a) d := by
  refine (Pipeline.eq_sum_fin_of_reset_step_of_flush (fun n h => acc7 m c n h (ix3 0 a d)) 11 0 (term7 m c a d)
    ?_ ?_ (pt g j 10) (by simp only [pt]; omega)).trans ?_
  · rintro ⟨n, hn⟩ h
    cases n with
    | zero => exact (step7_at ..).trans (by rw [zero7])
    | succ n => simp only [acc7]; rw [if_pos h, step7_at, zero7]
  · rintro ⟨n, hn⟩ h
    cases n with
    | zero => exact absurd rfl h
    | succ n => simp only [acc7]; rw [if_neg h, step7_at]; rfl
  · rw [zero_add]
    unfold gDk
    simp only [sum_at]
    rw [Finset.sum_comm]
    refine Finset.sum_congr rfl fun i _ => ?_
    rw [run_pt, term7]
    refine Finset.sum_congr rfl fun r _ => Finset.sum_congr rfl fun b _ => ?_
    rw [dsc_pt, blk0]

/-- The gradient of the values' block after the last query block. -/
theorem acc8_last (g : Fin 4) (j : Fin 11) (a : Fin 768) (d : Fin 64) :
    acc8 m c (pt g j 10).val (pt g j 10).isLt (ix3 0 a d)
      = gDv (V m c main_v29) (V m c main_v38) (V m c main_v53) (V m c main_v56) g (at768 j a) d := by
  refine (Pipeline.eq_sum_fin_of_reset_step_of_flush (fun n h => acc8 m c n h (ix3 0 a d)) 11 0 (term8 m c a d)
    ?_ ?_ (pt g j 10) (by simp only [pt]; omega)).trans ?_
  · rintro ⟨n, hn⟩ h
    cases n with
    | zero => exact (step8_at ..).trans (by rw [zero8])
    | succ n => simp only [acc8]; rw [if_pos h, step8_at, zero8]
  · rintro ⟨n, hn⟩ h
    cases n with
    | zero => exact absurd rfl h
    | succ n => simp only [acc8]; rw [if_neg h, step8_at]; rfl
  · rw [zero_add]
    unfold gDv
    simp only [sum_at]
    rw [Finset.sum_comm]
    refine Finset.sum_congr rfl fun i _ => ?_
    rw [run_pt, term8]
    refine Finset.sum_congr rfl fun r _ => Finset.sum_congr rfl fun b _ => ?_
    rw [prb_pt, blk4]

/-- What the points of one key block add to the gradient of the queries: only the one of the query's own block adds. -/
theorem term9_pt (g : Fin 4) (j i : Fin 11) (r : Fin 4) (d : Fin 64) (n : Fin 8448) :
    term9 m c r d n (pt g j i) = if n.val / 768 = i.val then
      gDqPart (V m c main_v29) (V m c main_v38) (V m c main_v42) (V m c main_v49) (V m c main_v53) (V m c main_v55)
        (V m c main_v56) g r d j n else 0 := by
  have e : ((grid0.coords (pt g j i)) 2).val = i.val := by rw [coord2]; simp only [pt]; omega
  unfold term9
  by_cases h : n.val / 768 = i.val
  · rw [dif_pos (h.trans e.symm), if_pos h]
    have en : at768 i ⟨n.val % 768, Nat.mod_lt _ (by norm_num)⟩ = n := Fin.ext (by simp only [at768]; omega)
    unfold dqr gDqPart
    refine Finset.sum_congr rfl fun a _ => ?_
    rw [dsc_pt, blk2, en]
  · rw [dif_neg (fun h' => h (h'.trans e)), if_neg h]

/-- The gradient of the queries' block after a key head's last point. -/
theorem acc9_last (g : Fin 4) (r : Fin 4) (d : Fin 64) (n : Fin 8448) :
    acc9 m c (pt g 10 10).val (pt g 10 10).isLt (ix2 (hrow r d) n)
      = gDq (V m c main_v29) (V m c main_v38) (V m c main_v42) (V m c main_v49) (V m c main_v53) (V m c main_v55)
          (V m c main_v56) g r d n := by
  refine (Pipeline.eq_sum_fin_of_reset_step_of_flush (fun n' h => acc9 m c n' h (ix2 (hrow r d) n)) 121 0 (term9 m c r d n)
    ?_ ?_ (pt g 10 10) (by simp only [pt]; omega)).trans ?_
  · rintro ⟨n, hn⟩ h
    cases n with
    | zero => exact (step9_at ..).trans (by rw [zero9])
    | succ n => simp only [acc9]; rw [if_pos h, step9_at, zero9]
  · rintro ⟨n, hn⟩ h
    cases n with
    | zero => exact absurd rfl h
    | succ n => simp only [acc9]; rw [if_neg h, step9_at]; rfl
  · rw [zero_add]
    unfold gDq
    rw [Fin.sum_univ_tiles 11 11 (by norm_num), sum_at]
    refine Finset.sum_congr rfl fun j _ => ?_
    have hn : n.val / 768 < 11 := by omega
    rw [Finset.sum_eq_single (⟨n.val / 768, hn⟩ : Fin 11)]
    · rw [show (⟨121 * ((pt g 10 10).val / 121) + (j.val * 11 + n.val / 768), _⟩ : Fin cfg0.N) = pt g j ⟨n.val / 768, hn⟩ from
        Fin.ext (by simp only [pt]; omega), term9_pt, if_pos rfl]
      rfl
    · intro i _ hi
      rw [show (⟨121 * ((pt g 10 10).val / 121) + (j.val * 11 + i.val), _⟩ : Fin cfg0.N) = pt g j i from
        Fin.ext (by simp only [pt]; omega), term9_pt, if_neg (fun h => hi (Fin.ext h.symm))]
    · exact fun h => absurd (Finset.mem_univ _) h

end Cert.KernelIdeal.Run

end
-- ==== Proof.Arr.lean ====
module

public import proofs.«01_k».proof.Proof.Acc

@[expose] public section

set_option maxRecDepth 16384

noncomputable section

namespace Cert.KernelIdeal.Run

open Idealize.ShloMosaic Idealize.ShloMosaic.TcCoe
open Cert.KernelIdeal Cert.KernelIdeal.Gen Cert.KernelIdeal.Block

variable (m : (ℓ : Loc nD τ sig) → Buf (Elt Ideal) ℓ) (c : Dev nD)

/-- The gradient of the keys, padded. -/
def arrDk : Vec Ideal S4x8448x128 .f32 := fun x =>
  gDk (V m c main_v29) (V m c main_v38) (V m c main_v49) (V m c main_v53) (V m c main_v55) (V m c main_v56) (x 0) (x 1) (x 2)

/-- The gradient of the values, padded. -/
def arrDv : Vec Ideal S4x8448x64 .f32 := fun x =>
  gDv (V m c main_v29) (V m c main_v38) (V m c main_v53) (V m c main_v56) (x 0) (x 1) (x 2)

/-- The gradient of the queries before the last factor, padded, its rows by head and entry. -/
def arrDq : Vec Ideal S1024x8448 .f32 := fun x =>
  gDq (V m c main_v29) (V m c main_v38) (V m c main_v42) (V m c main_v49) (V m c main_v53) (V m c main_v55) (V m c main_v56)
    ⟨(x 0).val / 256, Nat.div_lt_of_lt_mul (x 0).isLt⟩ ⟨(x 0).val / 64 % 4, Nat.mod_lt _ (by norm_num)⟩
    ⟨(x 0).val % 64, Nat.mod_lt _ (by norm_num)⟩ (x 1)

/-- The last point of a key block. -/
theorem point_of (t : Fin cfg0.N) (h : t.val % 11 = 10) : ∃ g j, t = pt g j 10 := by
  have ht : t.val < 484 := t.isLt
  exact ⟨⟨t.val / 121, by omega⟩, ⟨t.val / 11 % 11, by omega⟩, Fin.ext (by
    show t.val = 121 * (t.val / 121) + 11 * (t.val / 11 % 11) + 10; omega)⟩

/-- The last point of a group. -/
theorem point_of_group (t : Fin cfg0.N) (h : t.val % 121 = 120) : ∃ g, t = pt g 10 10 := by
  have ht : t.val < 484 := t.isLt
  exact ⟨⟨t.val / 121, by omega⟩, Fin.ext (by show t.val = 121 * (t.val / 121) + 11 * 10 + 10; omega)⟩

/-- After all points the keys' array holds its closed form. -/
theorem arr7 : (dats m 0 c).arrAt 7 cfg0.N = arrDk m c := by
  refine (dats m 0 c).arrAt_eq_of_covers 7 (arrDk m c) (by decide +kernel) fun t hf y => ?_
  obtain ⟨g, j, rfl⟩ := point_of t ((flush0_7 t).mp hf)
  rw [after_7]
  blk_simp
  clear hf
  revert y
  show ∀ y : S1x768x128.Idx, _
  intro y
  idx_vars y
  obtain rfl : y0 = 0 := Subsingleton.elim _ _
  refine (acc7_last m c g j y1 y2).trans ?_
  show arrDk m c (ix3 g (at768 j y1) y2) = _
  blk_ext [idx g j 10, at768]

/-- After all points the values' array holds its closed form. -/
theorem arr8 : (dats m 0 c).arrAt 8 cfg0.N = arrDv m c := by
  refine (dats m 0 c).arrAt_eq_of_covers 8 (arrDv m c) (by decide +kernel) fun t hf y => ?_
  obtain ⟨g, j, rfl⟩ := point_of t ((flush0_8 t).mp hf)
  rw [after_8]
  blk_simp
  clear hf
  revert y
  show ∀ y : S1x768x64.Idx, _
  intro y
  idx_vars y
  obtain rfl : y0 = 0 := Subsingleton.elim _ _
  refine (acc8_last m c g j y1 y2).trans ?_
  show arrDv m c (ix3 g (at768 j y1) y2) = _
  blk_ext [idx g j 10, at768]

/-- The queries' closed form, read at one head's row. -/
theorem arrDq_at (g r : Fin 4) (d : Fin 64) (n : Fin 8448) : arrDq m c (ix2 (grow g r d) n)
    = gDq (V m c main_v29) (V m c main_v38) (V m c main_v42) (V m c main_v49) (V m c main_v53) (V m c main_v55) (V m c main_v56)
        g r d n := by
  have h1 : (grow g r d).val / 256 = g.val := by show (256 * g.val + 64 * r.val + d.val) / 256 = g.val; omega
  have h2 : (grow g r d).val / 64 % 4 = r.val := by show (256 * g.val + 64 * r.val + d.val) / 64 % 4 = r.val; omega
  have h3 : (grow g r d).val % 64 = d.val := by show (256 * g.val + 64 * r.val + d.val) % 64 = d.val; omega
  show gDq _ _ _ _ _ _ _ (⟨(grow g r d).val / 256, _⟩ : Fin 4) (⟨(grow g r d).val / 64 % 4, _⟩ : Fin 4)
    (⟨(grow g r d).val % 64, _⟩ : Fin 64) n = _
  congr 1
  · exact Fin.ext h1
  · exact Fin.ext h2
  · exact Fin.ext h3

/-- A row of a block of 256 is an entry of one of four heads. -/
theorem row_of (y : Fin 256) : ∃ r d, y = hrow r d :=
  ⟨⟨y.val / 64, by omega⟩, ⟨y.val % 64, by omega⟩, Fin.ext (by show y.val = 64 * (y.val / 64) + y.val % 64; omega)⟩

/-- After all points the queries' array holds its closed form. -/
theorem arr9 : (dats m 0 c).arrAt 9 cfg0.N = arrDq m c := by
  refine (dats m 0 c).arrAt_eq_of_covers 9 (arrDq m c) (by decide +kernel) fun t hf y => ?_
  obtain ⟨g, rfl⟩ := point_of_group t ((flush0_9 t).mp hf)
  rw [after_9]
  blk_simp
  clear hf
  revert y
  show ∀ y : S256x8448.Idx, _
  intro y
  idx_vars y
  obtain ⟨r, d, rfl⟩ := row_of y0
  refine (acc9_last m c g r d y1).trans ?_
  rw [← arrDq_at]
  blk_ext [idx g 10 10, grow, hrow]
end Cert.KernelIdeal.Run

end
-- ==== Proof.HostNary.lean ====
module

public import Idealize.ShloMosaic.Lib.StableHlo.ReadAt

@[expose] public section

/-!
A concatenation of three host arrays, read operand by operand: what the operation leaves in its result buffer, with each
operand's contents named at the operand's own reference.
-/

namespace Cert.HostNary

open Idealize.ShloMosaic Idealize.ShloMosaic.StableHlo

variable {τ : Topo} {sig : RefSig} {Val : EltTy → Type} {x a b y : Ref sig .tc}

/-- The three contents that an operation over three references hands to its function. -/
def three {α : Fin 3 → Type} (u : α 0) (v : α 1) (w : α 2) : (k : Fin 3) → α k
  | 0 => u
  | 1 => v
  | 2 => w

/-- The first of three. -/
@[simp] theorem three_zero {α : Fin 3 → Type} (u : α 0) (v : α 1) (w : α 2) : three u v w 0 = u := rfl
/-- The second of three. -/
@[simp] theorem three_one {α : Fin 3 → Type} (u : α 0) (v : α 1) (w : α 2) : three u v w 1 = v := rfl
/-- The third of three. -/
@[simp] theorem three_two {α : Fin 3 → Type} (u : α 0) (v : α 1) (w : α 2) : three u v w 2 = w := rfl

/-- An operation of three arrays leaves, in its result, its value at what the three held. -/
theorem nary3_result (f : ((k : Fin 3) → ((![x, a, b] : Fin 3 → Ref sig .tc) k).ty.Contents Val) → y.ty.Contents Val)
    (hxs hy) (F : Valuation τ sig Val) :
    (nary (τ := τ) ![x, a, b] y f hxs hy).result F (no_index (Proc.devRef .tc y))
      = f (three (α := fun k => ((![x, a, b] : Fin 3 → Ref sig .tc) k).ty.Contents Val)
          (F (Proc.devRef .tc x)) (F (Proc.devRef .tc a)) (F (Proc.devRef .tc b))) := by
  rw [nary_result]; congr 1; funext k; fin_cases k <;> rfl

end Cert.HostNary
-- ==== Proof.Host.lean ====
module

public import proofs.«01_k».proof.Proof.Blocks
public import proofs.«01_k».proof.Proof.HostNary
public import proofs.«01_k».proof.Proof.Attn

@[expose] public section

set_option maxRecDepth 16384

noncomputable section

/-!
What the host code leaves in the seven arrays that the kernel reads, entry by entry, as functions of the arguments: each
array padded from 8208 to 8448 along the sequence, the queries and keys with one further lane for the bias.
-/

namespace Cert.KernelIdeal.Run

open Idealize.ShloMosaic Idealize.ShloMosaic.TcCoe
open Cert.KernelIdeal Cert.KernelIdeal.Gen Cert.KernelIdeal.Block Cert.HostNary

variable (m : (ℓ : Loc nD τ sig) → Buf (Elt Ideal) ℓ) (c : Dev nD)

/-- The queries. -/
abbrev argQ : FVec Ideal ⟨4, ![1, 8208, 16, 64]⟩ .f32 := m ((c : Thread nD τ).loc main_arg0)
/-- The keys. -/
abbrev argK : FVec Ideal ⟨4, ![1, 8208, 4, 64]⟩ .f32 := m ((c : Thread nD τ).loc main_arg1)
/-- The values. -/
abbrev argV : FVec Ideal ⟨4, ![1, 8208, 4, 64]⟩ .f32 := m ((c : Thread nD τ).loc main_arg2)
/-- The gradient of the output. -/
abbrev argC : FVec Ideal ⟨3, ![1, 8208, 1024]⟩ .f32 := m ((c : Thread nD τ).loc main_arg3)

/-- The number that the padding is made of is zero. -/
theorem padding : (FloatOps.sitofp (F := Ideal) .f32 (0#32) : EReal) = 0 := by
  show (((0#32 : BitVec 32).toInt : ℝ) : EReal) = 0
  simp

/-- The contents before the padding: what the first operations leave. -/
abbrev pre : Valuation τ sig (Elt Ideal) := StableHlo.after hostOps0 (fun b => m (c, b))

/-- The arrays at the call are those after the first part of the host code, run through the other parts. -/
theorem V_split (b : Ref sig .tc) : V m c b = StableHlo.after (hostOps0_1 ++ (hostOps0_2 ++ (hostOps0_3 ++ (hostOps0_4 ++ (hostOps0_5 ++
    (hostOps0_6 ++ (hostOps0_7 ++ (hostOps0_8 ++ (hostOps0_9 ++ (hostOps0_10 ++ (hostOps0_11 ++ (hostOps0_12 ++ hostOps0_13)))))))))))) (pre m c) b :=
  rfl

/-- A sum with a logarithm, at one entry. -/
theorem addf_log (X Y : FVec Ideal S4x4x8208 .f32) (i : S4x4x8208.Idx) :
    addf X (Host.log Y) i = (X i + Ideal.log (Y i) : EReal) := by pointwise

/-- The first part leaves each query's logarithm of the sum of exponentials. -/
theorem pre_lse (g r : Fin 4) (n : Fin 8208) : pre m c main_v14 (ix3 g r n) = Attn.lse (argQ m c) (argK m c) g r n := by
  after_reads_simp
  clean_types
  refine (addf_log _ _ _).trans (congrArg₂ (fun x y : EReal => x + y) ?_ (congrArg Ideal.log ?_))
  · pointwise [Attn.top, Attn.score, Attn.scale, Attn.head]
  · pointwise [Attn.total, Attn.ex, Attn.top, Attn.score, Attn.scale, Attn.head]

/-- The first part leaves the attention's output. -/
theorem pre_out (g r : Fin 4) (d : Fin 64) (n : Fin 8208) :
    pre m c main_v20 (ix4 g r d n) = Attn.out (argQ m c) (argK m c) (argV m c) g r d n := by
  after_reads_at
  pointwise [Attn.out, Attn.total, Attn.ex, Attn.top, Attn.score, Attn.scale, Attn.head]

/-! ## The seven arrays -/

/-- The queries' array: the scaled queries, one lane of ones, zeros. -/
theorem A0_at (h : Fin 16) (d : Fin 128) (n : Fin 8448) : V m c main_v29 (ix3 h d n)
    = (if hd : d.val < 64 then (if hn : n.val < 8208 then argQ m c (ix4 0 ⟨n.val, hn⟩ h ⟨d.val, hd⟩) * Attn.scale else 0)
        else if d.val - 64 < 1 then 1 else 0 : EReal) := by
  rw [V_split]
  after_reads_simp [nary3_result, three_zero, three_one, three_two]
  clean_types
  pointwise
  after_reads_at
  by_cases hd : d.val < 64 <;> by_cases hn : n.val < 8208 <;> simp only [hd, hn, and_self, and_true, and_false, dite_true, dite_false, dite_eq_ite, padding, ↓reduceIte, Attn.scale]

/-- The keys' array: the keys, one lane of bias, zeros. -/
theorem A1_at (g : Fin 4) (a : Fin 8448) (d : Fin 128) : V m c main_v38 (ix3 g a d)
    = (if hd : d.val < 64 then (if ha : a.val < 8208 then argK m c (ix4 0 ⟨a.val, ha⟩ g ⟨d.val, hd⟩) else 0)
        else if d.val - 64 < 1 then (if a.val < 8208 then 0 else Ideal.ofBits .f32 4048155338#32) else 0 : EReal) := by
  rw [V_split]
  after_reads_simp [nary3_result, three_zero, three_one, three_two]
  clean_types
  pointwise
  after_reads_at
  by_cases hd : d.val < 64 <;> by_cases ha : a.val < 8208 <;> simp only [hd, ha, and_self, and_true, true_and, false_and, dite_true, dite_false, dite_eq_ite, padding, ↓reduceIte]

/-- The values' array: the values, one lane of ones, zeros. -/
theorem A3_at (g : Fin 4) (a : Fin 8448) (d : Fin 128) : V m c main_v49 (ix3 g a d)
    = (if hd : d.val < 64 then (if ha : a.val < 8208 then argV m c (ix4 0 ⟨a.val, ha⟩ g ⟨d.val, hd⟩) else 0)
        else if d.val - 64 < 1 then 1 else 0 : EReal) := by
  rw [V_split]
  after_reads_simp [nary3_result, three_zero, three_one, three_two]
  clean_types
  pointwise
  after_reads_at
  by_cases hd : d.val < 64 <;> by_cases ha : a.val < 8208 <;> simp only [hd, ha, and_self, and_true, true_and, false_and, dite_true, dite_false, dite_eq_ite, padding, ↓reduceIte]

/-- The transposed keys' array: the keys, zero at padded places. -/
theorem A2_at (g : Fin 4) (d : Fin 64) (n : Fin 8448) : V m c main_v42 (ix3 g d n)
    = (if hn : n.val < 8208 then argK m c (ix4 0 ⟨n.val, hn⟩ g d) else 0 : EReal) := by
  rw [V_split]
  after_reads_at
  rw [padding]

/-- The incoming gradient's array, zero at padded places. -/
theorem A4_at (g r : Fin 4) (d : Fin 64) (n : Fin 8448) : V m c main_v53 (ix2 (grow g r d) n)
    = (if hn : n.val < 8208 then argC m c (ix3 0 ⟨n.val, hn⟩ (Attn.col g r d)) else 0 : EReal) := by
  rw [V_split]
  after_reads_at
  rw [padding]
  refine dite_congr rfl (fun hn => ?_) fun _ => rfl
  congr 2
  exact Fin.ext (by show 256 * g.val + 64 * r.val + d.val = (g.val * 4 + r.val) * 64 + d.val; omega)

/-- The saved output's array, zero at padded places. -/
theorem A5_at (g r : Fin 4) (d : Fin 64) (n : Fin 8448) : V m c main_v55 (ix2 (grow g r d) n)
    = (if hn : n.val < 8208 then Attn.out (argQ m c) (argK m c) (argV m c) g r d ⟨n.val, hn⟩ else 0 : EReal) := by
  simp only [← pre_out]
  rw [V_split]
  generalize pre m c = σ
  after_reads_at
  rw [padding]
  refine dite_congr rfl (fun hn => ?_) fun _ => rfl
  congr 1
  have h1 : (grow g r d).val / 256 = g.val := by show (256 * g.val + 64 * r.val + d.val) / 256 = g.val; omega
  have h2 : (grow g r d).val / 64 % 4 = r.val := by show (256 * g.val + 64 * r.val + d.val) / 64 % 4 = r.val; omega
  have h3 : (grow g r d).val % 64 = d.val := by show (256 * g.val + 64 * r.val + d.val) % 64 = d.val; omega
  simp only [h1, h2, h3, Fin.eta]

/-- The saved logarithms' array, zero at padded places. -/
theorem A6_at (g r : Fin 4) (n : Fin 8448) : V m c main_v56 (ix3 g r n)
    = (if hn : n.val < 8208 then Attn.lse (argQ m c) (argK m c) g r ⟨n.val, hn⟩ else 0 : EReal) := by
  simp only [← pre_lse]
  rw [V_split]
  generalize pre m c = σ
  after_reads_at
  rw [padding]

end Cert.KernelIdeal.Run

end
-- ==== Proof.Results.lean ====
module

public import proofs.«01_k».proof.Proof.Arr
public import proofs.«01_k».proof.Proof.Host

@[expose] public section

set_option maxRecDepth 16384

noncomputable section

/-!
The three results of the program, entry by entry, as entries of the arrays that the kernel leaves: the gradient of the
queries with the factor on the scores, the gradients of the keys and values with the padding cut off.
-/

namespace Cert.KernelIdeal.Run

open Idealize.ShloMosaic Idealize.ShloMosaic.TcCoe Idealize.SL.Sem
open Cert.KernelIdeal Cert.KernelIdeal.Gen Cert.KernelIdeal.Block

/-- A place in a sequence, among the padded places. -/
def wide (n : Fin 8208) : Fin 8448 := ⟨n.val, by omega⟩

/-- An entry of an array with the factor on the scores. -/
def scaled (x : Vec Ideal S1024x8448 .f32) (i : S1024x8448.Idx) : EReal := (x i : EReal) * Attn.scale

section
variable (σ : Valuation τ sig (Elt Ideal))

/-- The code after the call makes the first result from the queries' array: cut, laid out, scaled. -/
theorem suffix_dq (n : Fin 8208) (g r : Fin 4) (d : Fin 64) :
    StableHlo.after hostOps1 σ main_v63 (ix4 0 n (Attn.head g r) d)
      = scaled (σ main_v57_2) (ix2 (grow g r d) (wide n)) := by
  after_reads_at
  have e : (⟨(Attn.head g r).val * 64 + d.val, by have := (Attn.head g r).isLt; have := d.isLt; omega⟩ : Fin 1024)
      = grow g r d := by
    apply Fin.ext
    simp only [Attn.head, grow]
    omega
  rw [e]
  rfl

/-- It makes the second result from the keys' array: cut and laid out. -/
theorem suffix_dk (a : Fin 8208) (g : Fin 4) (d : Fin 64) :
    StableHlo.after hostOps1 σ main_v66 (ix4 0 a g d)
      = (σ main_v57_0 : Vec Ideal S4x8448x128 .f32) (ix3 g (wide a) (lo d)) := by
  after_reads_at
  rfl

/-- It makes the third result from the values' array: cut and laid out. -/
theorem suffix_dv (a : Fin 8208) (g : Fin 4) (d : Fin 64) :
    StableHlo.after hostOps1 σ main_v69 (ix4 0 a g d)
      = (σ main_v57_1 : Vec Ideal S4x8448x64 .f32) (ix3 g (wide a) d) := by
  after_reads_at
  rfl
end

variable (m : (ℓ : Loc nD τ sig) → Buf (Elt Ideal) ℓ) (ρ : Dev nD → PrngReg) (c : Dev nD)

/-- What a buffer holds at the end. -/
abbrev final (b : Ref sig .tc) : Buf (Elt Ideal) ((c : Thread nD τ).loc b) :=
  Pipeline.afterTail₀ cfgs (dats m) 0 (V0 m) [hostOps1] c b

/-- What the buffers hold as the kernel ends. -/
abbrev mid : Valuation τ sig (Elt Ideal) :=
  Pipeline.withArrays (cfgs 0).spec c (V0 m c) fun w => (dats m 0 c).arrAt w (cfgs 0).N

/-- The call leaves the keys' closed form. -/
theorem mid_dk : mid m c main_v57_0 = arrDk m c :=
  (Pipeline.withArrays_arr (cfgs 0).spec launch0.win.arr_inj c _ _ 7).trans (arr7 m c)

/-- The call leaves the values' closed form. -/
theorem mid_dv : mid m c main_v57_1 = arrDv m c :=
  (Pipeline.withArrays_arr (cfgs 0).spec launch0.win.arr_inj c _ _ 8).trans (arr8 m c)

/-- The call leaves the queries' closed form. -/
theorem mid_dq : mid m c main_v57_2 = arrDq m c :=
  (Pipeline.withArrays_arr (cfgs 0).spec launch0.win.arr_inj c _ _ 9).trans (arr9 m c)

/-- The arrays at the end are those after the call, run through the code that follows. -/
theorem final_eq (b : Ref sig .tc) :
    final m c b = StableHlo.after hostOps1 (mid m c) (Proc.devRef .tc b) := by
  have e : [hostOps1 (F := Ideal)].flatten = hostOps1 (F := Ideal) := by simp
  unfold final Pipeline.afterTail₀
  rw [e]

/-- The first result at one entry. -/
theorem final_dq (n : Fin 8208) (g r : Fin 4) (d : Fin 64) :
    final m c main_v63 (ix4 0 n (Attn.head g r) d) = scaled (arrDq m c) (ix2 (grow g r d) (wide n)) := by
  rw [final_eq, suffix_dq, mid_dq]

/-- The second result at one entry. -/
theorem final_dk (a : Fin 8208) (g : Fin 4) (d : Fin 64) :
    final m c main_v66 (ix4 0 a g d) = arrDk m c (ix3 g (wide a) (lo d)) := by
  rw [final_eq, suffix_dk, mid_dk]

/-- The third result at one entry. -/
theorem final_dv (a : Fin 8208) (g : Fin 4) (d : Fin 64) :
    final m c main_v69 (ix4 0 a g d) = arrDv m c (ix3 g (wide a) d) := by
  rw [final_eq, suffix_dv, mid_dv]

/-- From every store the program ends with the three results as read above, its arguments as given, and every counter
at zero. -/
theorem results : θ_run defs (onTc (nD := nD) main) (s₀ m ρ) (fun s => s.2.sem = (fun _ => 0) ∧ ∀ c : Dev nD,
    s.2.mem ((c : Thread nD τ).loc main_v63) = final m c main_v63
    ∧ s.2.mem ((c : Thread nD τ).loc main_v66) = final m c main_v66
    ∧ s.2.mem ((c : Thread nD τ).loc main_v69) = final m c main_v69) := by
  refine (θ_run defs _ _).mono (fun s h => ⟨h.2, fun c => ⟨?_, ?_, ?_⟩⟩) (ends m ρ)
  · exact (h.1 c).2 main_v63 (Pipeline.mem_restRefs_of main_v63 (by decide) (by decide))
  · exact (h.1 c).2 main_v66 (Pipeline.mem_restRefs_of main_v66 (by decide) (by decide))
  · exact (h.1 c).2 main_v69 (Pipeline.mem_restRefs_of main_v69 (by decide) (by decide))

end Cert.KernelIdeal.Run

end
-- ==== Proof.Equation.lean ====
module

public import proofs.«01_k».proof.Proof.Real
public import proofs.«01_k».proof.Proof.Results

@[expose] public section

set_option maxRecDepth 16384

noncomputable section

/-!
The three sums of the kernel, over the padded places, are the three gradients: a padded query or key adds zero, and at
a true query and key the gradient of the score is `p (dp - δ)`.
-/

namespace Cert.KernelIdeal.Run

open Idealize.ShloMosaic
open Cert.KernelIdeal Cert.KernelIdeal.Gen Cert.KernelIdeal.Block

/-- The last 64 of 128 lanes. -/
def hi (d : Fin 64) : Fin 128 := ⟨64 + d.val, by omega⟩
/-- A padded place behind the sequence. -/
def past (n : Fin 240) : Fin 8448 := ⟨8208 + n.val, by omega⟩

/-- A sum over the padded places is one over the sequence where the padding adds zero. -/
theorem sum_wide (f : Fin 8448 → EReal) (h : ∀ n, f (past n) = 0) : ∑ b, f b = ∑ n : Fin 8208, f (wide n) := by
  rw [Fin.sum_univ_two_halves 8208 240 rfl f]
  have e : (∑ n : Fin 240, f (past n)) = 0 := Finset.sum_eq_zero fun n _ => h n
  exact (congrArg₂ (· + ·) rfl e).trans (add_zero _)

/-- A sum over the lanes is one over the head's entries where the other lanes add zero. -/
theorem sum_lanes (f : Fin 128 → EReal) (h : ∀ d, f (hi d) = 0) : ∑ b, f b = ∑ d : Fin 64, f (lo d) := by
  rw [Fin.sum_univ_two_halves 64 64 rfl f]
  have e : (∑ n : Fin 64, f (hi n)) = 0 := Finset.sum_eq_zero fun n _ => h n
  exact (congrArg₂ (· + ·) rfl e).trans (add_zero _)

/-- The two ways to number a head agree. -/
theorem head_eq (g r : Fin 4) : head g r = Attn.head g r :=
  Fin.ext (by show 4 * g.val + r.val = g.val * 4 + r.val; omega)

/-- What the seven arrays hold, as far as the gradients depend on it. -/
structure Reads (q : FVec Ideal ⟨4, ![1, 8208, 16, 64]⟩ .f32) (k v : FVec Ideal ⟨4, ![1, 8208, 4, 64]⟩ .f32)
    (ct : FVec Ideal ⟨3, ![1, 8208, 1024]⟩ .f32)
    (A0 : Vec Ideal S16x128x8448 .bf16) (A1 : Vec Ideal S4x8448x128 .bf16) (A2 : Vec Ideal S4x64x8448 .bf16)
    (A3 : Vec Ideal S4x8448x128 .bf16) (A4 : Vec Ideal S1024x8448 .bf16) (A5 : Vec Ideal S1024x8448 .f32)
    (A6 : Vec Ideal S4x4x8448 .f32) : Prop where
  q0 : ∀ h d n, A0 (ix3 h (lo d) (wide n)) = (q (ix4 0 n h d) * Attn.scale : EReal)
  q1 : ∀ h d n, A0 (ix3 h (lo d) (past n)) = (0 : EReal)
  k0 : ∀ g a d, A1 (ix3 g (wide a) (lo d)) = k (ix4 0 a g d)
  k1 : ∀ g a d, A1 (ix3 g (wide a) (hi d)) = (0 : EReal)
  t0 : ∀ g d a, A2 (ix3 g d (wide a)) = k (ix4 0 a g d)
  t1 : ∀ g d a, A2 (ix3 g d (past a)) = (0 : EReal)
  v0 : ∀ g a d, A3 (ix3 g (wide a) (lo d)) = v (ix4 0 a g d)
  c0 : ∀ g r d n, A4 (ix2 (grow g r d) (wide n)) = ct (ix3 0 n (Attn.col g r d))
  c1 : ∀ g r d n, A4 (ix2 (grow g r d) (past n)) = (0 : EReal)
  o0 : ∀ g r d n, A5 (ix2 (grow g r d) (wide n)) = Attn.out q k v g r d n
  l0 : ∀ g r n, A6 (ix3 g r (wide n)) = Attn.lse q k g r n

namespace Reads

variable {q : FVec Ideal ⟨4, ![1, 8208, 16, 64]⟩ .f32} {k v : FVec Ideal ⟨4, ![1, 8208, 4, 64]⟩ .f32}
  {ct : FVec Ideal ⟨3, ![1, 8208, 1024]⟩ .f32}
  {A0 : Vec Ideal S16x128x8448 .bf16} {A1 : Vec Ideal S4x8448x128 .bf16} {A2 : Vec Ideal S4x64x8448 .bf16}
  {A3 : Vec Ideal S4x8448x128 .bf16} {A4 : Vec Ideal S1024x8448 .bf16} {A5 : Vec Ideal S1024x8448 .f32}
  {A6 : Vec Ideal S4x4x8448 .f32} (H : Reads q k v ct A0 A1 A2 A3 A4 A5 A6) (R : Attn.Reals q k v ct)
  (g r : Fin 4) (n a : Fin 8208) (d : Fin 64)

include H R

/-- The kernel's score is the real score. -/
theorem scr_eq : gScr A0 A1 g r (wide a) (wide n) = (R.S g r n a : EReal) := by
  unfold gScr
  rw [sum_lanes _ fun d => by rw [H.k1]; exact zero_mul _]
  unfold Attn.Reals.S
  rw [Finset.sum_mul, Attn.coe_sum]
  refine Finset.sum_congr rfl fun d _ => ?_
  rw [H.k0, H.q0, R.hk, head_eq, R.hq, Attn.scale_eq, EReal.coe_mul, EReal.coe_mul]
  exact (mul_assoc _ _ _).symm

/-- The kernel's exponential is the real probability. -/
theorem prb_eq : gPrb A0 A1 A6 g r (wide a) (wide n) = (R.P g r n a : EReal) := by
  unfold gPrb
  rw [H.scr_eq R, H.l0]
  exact R.prob_of_lse g r n a

/-- The kernel's product of the incoming gradient with the values is the real one. -/
theorem dpr_eq : gDpr A3 A4 g r (wide a) (wide n) = (R.DP g r n a : EReal) := by
  unfold gDpr Attn.Reals.DP
  rw [Attn.coe_sum]
  refine Finset.sum_congr rfl fun d _ => ?_
  rw [H.v0, H.c0, R.hv, R.hc, EReal.coe_mul]
  exact mul_comm _ _

/-- The kernel's product of the incoming gradient with the saved output is the real mean gradient. -/
theorem del_eq : gDel A4 A5 g r (wide n) = (R.Δ g r n : EReal) := by
  unfold gDel
  rw [← R.delta_eq]
  refine Finset.sum_congr rfl fun d _ => ?_
  rw [H.c0, H.o0]

/-- The kernel's gradient of a score is the real one. -/
theorem dsc_eq : gDsc A0 A1 A3 A4 A5 A6 g r (wide a) (wide n) = (R.DS g r n a : EReal) := by
  unfold gDsc Attn.Reals.DS
  rw [H.prb_eq R, H.dpr_eq R, H.del_eq R, EReal.coe_mul, EReal.coe_sub]

/-- The gradient of the keys. -/
theorem dk_eq : gDk A0 A1 A3 A4 A5 A6 g (wide a) (lo d) = Attn.dK q k v ct g a d := by
  unfold gDk Attn.dK
  rw [Finset.sum_comm (s := (Finset.univ : Finset (Fin 8208)))]
  refine Finset.sum_congr rfl fun r _ => ?_
  rw [sum_wide _ fun n => by rw [H.q1]; exact mul_zero _]
  refine Finset.sum_congr rfl fun n _ => ?_
  rw [H.dsc_eq R, H.q0, R.dScore_eq, head_eq, R.hq, Attn.scale_eq, ← EReal.coe_mul, ← EReal.coe_mul, ← EReal.coe_mul]
  congr 1
  ring

/-- The gradient of the values. -/
theorem dv_eq : gDv A0 A1 A4 A6 g (wide a) d = Attn.dV q k ct g a d := by
  unfold gDv Attn.dV
  refine Finset.sum_congr rfl fun r _ => ?_
  rw [sum_wide _ fun n => by rw [H.c1]; exact mul_zero _]
  refine Finset.sum_congr rfl fun n _ => ?_
  rw [H.prb_eq R, H.c0, R.prob_eq]
  exact mul_comm _ _

/-- The gradient of the queries, the factor on the scores included. -/
theorem dq_eq : gDq A0 A1 A2 A3 A4 A5 A6 g r d (wide n) * Attn.scale = Attn.dQ q k v ct g r n d := by
  unfold gDq Attn.dQ
  rw [sum_wide _ fun n => by rw [H.t1]; exact zero_mul _]
  have e1 : (∑ a : Fin 8208, A2 (ix3 g d (wide a)) * gDsc A0 A1 A3 A4 A5 A6 g r (wide a) (wide n) : EReal)
      = ((∑ a : Fin 8208, R.kr a g d * R.DS g r n a : ℝ) : EReal) := by
    rw [Attn.coe_sum]
    refine Finset.sum_congr rfl fun a _ => ?_
    rw [H.t0, H.dsc_eq R, R.hk, EReal.coe_mul]
  have e2 : (∑ a : Fin 8208, Attn.dScore q k v ct g r n a * k (ix4 0 a g d) : EReal)
      = ((∑ a : Fin 8208, R.DS g r n a * (1 / 8) * R.kr a g d : ℝ) : EReal) := by
    rw [Attn.coe_sum]
    refine Finset.sum_congr rfl fun a _ => ?_
    rw [R.dScore_eq, R.hk, ← EReal.coe_mul]
  refine (congrArg (· * Attn.scale) e1).trans (Eq.trans ?_ e2.symm)
  show ((∑ a : Fin 8208, R.kr a g d * R.DS g r n a : ℝ) : EReal) * Attn.scale = _
  rw [Attn.scale_eq, ← EReal.coe_mul, Finset.sum_mul]
  congr 1
  refine Finset.sum_congr rfl fun a _ => ?_
  ring

end Reads

variable (m : (ℓ : Loc nD τ sig) → Buf (Elt Ideal) ℓ) (c : Dev nD)

/-- The seven arrays as the host code leaves them. -/
theorem reads : Reads (argQ m c) (argK m c) (argV m c) (argC m c) (V m c main_v29) (V m c main_v38) (V m c main_v42)
    (V m c main_v49) (V m c main_v53) (V m c main_v55) (V m c main_v56) where
  q0 h d n := (A0_at m c h (lo d) (wide n)).trans (by
    rw [dif_pos (show (lo d).val < 64 from d.isLt), dif_pos (show (wide n).val < 8208 from n.isLt)]; rfl)
  q1 h d n := (A0_at m c h (lo d) (past n)).trans (by
    rw [dif_pos (show (lo d).val < 64 from d.isLt), dif_neg (show ¬ (past n).val < 8208 by simp [past])])
  k0 g a d := (A1_at m c g (wide a) (lo d)).trans (by
    rw [dif_pos (show (lo d).val < 64 from d.isLt), dif_pos (show (wide a).val < 8208 from a.isLt)]; rfl)
  k1 g a d := (A1_at m c g (wide a) (hi d)).trans (by
    rw [dif_neg (show ¬ (hi d).val < 64 by simp [hi]), if_pos (show (wide a).val < 8208 from a.isLt), ite_self])
  t0 g d a := (A2_at m c g d (wide a)).trans (by rw [dif_pos (show (wide a).val < 8208 from a.isLt)]; rfl)
  t1 g d a := (A2_at m c g d (past a)).trans (by rw [dif_neg (show ¬ (past a).val < 8208 by simp [past])])
  v0 g a d := (A3_at m c g (wide a) (lo d)).trans (by
    rw [dif_pos (show (lo d).val < 64 from d.isLt), dif_pos (show (wide a).val < 8208 from a.isLt)]; rfl)
  c0 g r d n := (A4_at m c g r d (wide n)).trans (by rw [dif_pos (show (wide n).val < 8208 from n.isLt)]; rfl)
  c1 g r d n := (A4_at m c g r d (past n)).trans (by rw [dif_neg (show ¬ (past n).val < 8208 by simp [past])])
  o0 g r d n := (A5_at m c g r d (wide n)).trans (by rw [dif_pos (show (wide n).val < 8208 from n.isLt)]; rfl)
  l0 g r n := (A6_at m c g r (wide n)).trans (by rw [dif_pos (show (wide n).val < 8208 from n.isLt)]; rfl)

end Cert.KernelIdeal.Run

end
-- ==== Proof.Same.lean ====
module

public import proofs.«01_k».proof.Proof.Pre
public import proofs.«01_k».proof.Proof.Ref
public import proofs.«01_k».proof.Proof.Equation

@[expose] public section

set_option maxRecDepth 16384

noncomputable section

/-!
The three results of the program are the three results of the reference, as whole arrays, at real arguments.
-/

namespace Cert.Same

open Idealize.ShloMosaic Idealize.ShloMosaic.TcCoe
open Cert.KernelIdeal.Run Cert.ReferenceIdeal.Read

/-- An array of real values, each behind its index. -/
theorem reals_of (q : FVec Ideal ⟨4, ![1, 8208, 16, 64]⟩ .f32) (k v : FVec Ideal ⟨4, ![1, 8208, 4, 64]⟩ .f32)
    (ct : FVec Ideal ⟨3, ![1, 8208, 1024]⟩ .f32)
    (h : (∀ i, ∃ y : ℝ, q i = (y : EReal)) ∧ (∀ i, ∃ y : ℝ, k i = (y : EReal)) ∧ (∀ i, ∃ y : ℝ, v i = (y : EReal))
      ∧ (∀ i, ∃ y : ℝ, ct i = (y : EReal))) : Nonempty (Attn.Reals q k v ct) := by
  obtain ⟨hq, hk, hv, hc⟩ := h
  choose fq eq using hq
  choose fk ek using hk
  choose fv ev using hv
  choose fc ec using hc
  exact ⟨⟨fun n h d => fq (ix4 0 n h d), fun n h d => fk (ix4 0 n h d), fun n h d => fv (ix4 0 n h d),
    fun n x => fc (ix3 0 n x), fun _ _ _ => eq _, fun _ _ _ => ek _, fun _ _ _ => ev _, fun _ _ => ec _⟩⟩

/-- A head is one of four of one of four key heads. -/
theorem head_split (h : Fin 16) : ∃ g r : Fin 4, h = Attn.head g r :=
  ⟨⟨h.val / 4, by omega⟩, ⟨h.val % 4, by omega⟩, Fin.ext (by show h.val = h.val / 4 * 4 + h.val % 4; omega)⟩

variable (m : (ℓ : Loc Cert.KernelIdeal.nD Cert.KernelIdeal.τ Cert.KernelIdeal.sig) → Buf (Elt Ideal) ℓ)
  (c : Dev Cert.KernelIdeal.nD) (R : Attn.Reals (argQ m c) (argK m c) (argV m c) (argC m c))
include R

/-- The gradient of the queries. -/
theorem dq : final m c Cert.KernelIdeal.main_v63
    = val_main_v61 (F := Ideal) (argQ m c) (argK m c) (argV m c) (argC m c) := by
  funext y
  idx_vars y
  obtain rfl : y0 = 0 := Subsingleton.elim _ _
  obtain ⟨g, r, rfl⟩ := head_split y2
  rw [final_dq, dQ_at]
  unfold scaled
  rw [arrDq_at]
  exact (reads m c).dq_eq R g r y1 y3

/-- The gradient of the keys. -/
theorem dk : final m c Cert.KernelIdeal.main_v66
    = val_main_v60 (F := Ideal) (argQ m c) (argK m c) (argV m c) (argC m c) := by
  funext y
  idx_vars y
  obtain rfl : y0 = 0 := Subsingleton.elim _ _
  rw [final_dk, dK_at]
  exact (reads m c).dk_eq R y2 y1 y3

/-- The gradient of the values. -/
theorem dv : final m c Cert.KernelIdeal.main_v69
    = val_main_v40 (F := Ideal) (argQ m c) (argK m c) (argC m c) := by
  funext y
  idx_vars y
  obtain rfl : y0 = 0 := Subsingleton.elim _ _
  rw [final_dv, dV_at]
  exact (reads m c).dv_eq R y2 y1 y3

end Cert.Same

end
-- ==== Proof.Twin.lean ====
module

public import proofs.«01_k».proof.Defs
public import proofs.«01_k».proof.Proof.Gen.Kernel
public import proofs.«01_k».proof.Proof.Gen.KernelIdeal

@[expose] public section

set_option maxRecDepth 65536

noncomputable section

/-!
The program and its ideal print have the same text: at the bits their bodies and their host code are the same terms.
-/

namespace Cert.Twin

open Idealize.ShloMosaic Idealize.SL.Sem

set_option maxHeartbeats 4000000 in
/-- The bodies of the kernel call. -/
theorem bodies : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig)) ?_
  funext l x
  match l, x with
  | 0, (t, s) => rfl
  | ⟨_ + 1, h⟩, _ => exact absurd h (Nat.not_lt.2 (Nat.le_add_left _ _))

/-- The tables of bodies and pipelines. -/
theorem defs : Cert.Kernel.defs (F := Bits) = Cert.KernelIdeal.defs (F := Bits) :=
  congrArg (Pipeline.defs (Cert.Kernel.pcfgs (F := Bits))) bodies

set_option maxHeartbeats 4000000 in
/-- The host code around the call. -/
theorem main : Cert.Kernel.main (F := Bits) = Cert.KernelIdeal.main (F := Bits) := rfl

end Cert.Twin

end
-- ==== Proof.MlpBlock.lean ====
module

public import proofs.«01_k».proof.Proof.Gen.Kernel2Ideal.Skeleton
public import Idealize.ShloMosaic.Lib.VecWindow
public import Idealize.ShloMosaic.Lib.WritesUnit
public import Idealize.ShloMosaic.Lib.Pipeline.Value
public import Idealize.ShloMosaic.Lib.Pipeline.ValueKit.Tiles
public import Idealize.ShloMosaic.Lib.Pointwise

/-!
What one block of the perceptron kernel computes, in a uniform vocabulary: a block of 384 rows, its targets, the two gains
and the weights in eight chunks give the normalized rows, the hidden chunks, the residual sum, the gradients and the sums
over the block. Each value that the body stores is one of these.
-/

@[expose] public section

set_option maxRecDepth 16384

noncomputable section

namespace Cert.Kernel2Ideal.Mlp

open Idealize.ShloMosaic Idealize.ShloMosaic.TcCoe
open Cert.Kernel2Ideal Cert.Kernel2Ideal.Gen

variable {F : FTy → Type} [FloatOps F]

/-- A chunk of the first layer's weights. -/
def ch1 (w : Vec F S8x1024x512 .bf16) (k : Fin 8) : Vec F S1x1024x512 .bf16 := fun y => w (ix3 k (y 1) (y 2))
/-- A chunk of the second layer's weights. -/
def ch2 (w : Vec F S8x512x1024 .bf16) (k : Fin 8) : Vec F S1x512x1024 .bf16 := fun y => w (ix3 k (y 1) (y 2))

/-- One more chunk of the second layer's product. -/
def fw (acc : FVec F S384x1024 .f32) (s : FVec F S384x512 .bf16) (w : Vec F S1x512x1024 .bf16) : FVec F S384x1024 .f32 :=
  addf acc (matmul dot_S384x512_S512x1024_S384x1024_1_0_0_1_n_n none s
    (shapeCast S512x1024 w shapeCasts_S1x512x1024_S512x1024 : FVec F S512x1024 .bf16) (constant S384x1024 .f32 0x00000000#32))
/-- One more block of a sum over the rows. -/
def cs (d h : FVec F S384x1024 .f32) (acc : Vec F S1x1024 .f32) : FVec F S1x1024 .f32 :=
  addf (shapeCast S1x1024 acc shapeCasts_S1x1024_S1x1024)
    (shapeCast S1x1024 (multiReduction .add [0] S1024 (mulf d h) 0x00000000#32 reduces_S384x1024_S1024 (.inl rfl) rfl) shapeCasts_S1024_S1x1024)

section Bridges

variable (a0 : BitVec 32) (x v v' h d : FVec F S384x1024 .f32) (b : FVec F S384x1024 .bf16) (g g' : Vec F S1x1024 .f32)
  (r1 : FVec F S384x1 .f32) (s : FVec F S384x512 .bf16) (q q' : Vec F S384x512 .f32)
  (w1 w1' : Vec F S1x1024x512 .bf16) (w2 w2' : Vec F S1x512x1024 .bf16)

/-- The stored hidden chunk. -/
theorem b12 : k0_pay12 x g w1 = k0_pay15 (k0_pay9 x g) w1 := rfl
/-- The same for a later chunk. -/
theorem b19 : k0_pay19 b w1 = k0_pay15 b w1 := rfl
/-- The same for a later chunk. -/
theorem b22 : k0_pay22 b w1 = k0_pay15 b w1 := rfl
/-- The same for a later chunk. -/
theorem b26 : k0_pay26 b w1 = k0_pay15 b w1 := rfl
/-- The same for a later chunk. -/
theorem b29 : k0_pay29 b w1 = k0_pay15 b w1 := rfl
/-- The same for a later chunk. -/
theorem b33 : k0_pay33 b w1 = k0_pay15 b w1 := rfl
/-- The same for a later chunk. -/
theorem b36 : k0_pay36 b w1 = k0_pay15 b w1 := rfl
/-- The squared hidden chunk. -/
theorem b13 : k0_pay13 x g w1 = k0_pay16 (k0_pay9 x g) w1 := rfl
/-- The same for a later chunk. -/
theorem b20 : k0_pay20 b w1 = k0_pay16 b w1 := rfl
/-- The same for a later chunk. -/
theorem b23 : k0_pay23 b w1 = k0_pay16 b w1 := rfl
/-- The same for a later chunk. -/
theorem b27 : k0_pay27 b w1 = k0_pay16 b w1 := rfl
/-- The same for a later chunk. -/
theorem b30 : k0_pay30 b w1 = k0_pay16 b w1 := rfl
/-- The same for a later chunk. -/
theorem b34 : k0_pay34 b w1 = k0_pay16 b w1 := rfl
/-- The same for a later chunk. -/
theorem b37 : k0_pay37 b w1 = k0_pay16 b w1 := rfl
/-- Two chunks of the second layer's product. -/
theorem b17 : k0_pay17 b v s w2 w1' w2' = fw (fw v s w2) (k0_pay16 b w1') w2' := rfl
/-- The same for later chunks. -/
theorem b24 : k0_pay24 b v s w2 w1' w2' = fw (fw v s w2) (k0_pay16 b w1') w2' := rfl
/-- The same for later chunks. -/
theorem b31 : k0_pay31 b v s w2 w1' w2' = fw (fw v s w2) (k0_pay16 b w1') w2' := rfl
/-- The residual sum with the last two chunks. -/
theorem b38 : k0_pay38 x b v s w2 w1' w2' = addf x (fw (fw v s w2) (k0_pay16 b w1') w2') := rfl
/-- Its inverse root mean square. -/
theorem b39 : k0_pay39 x b v s w2 w1' w2' = k0_pay7 (addf x (fw (fw v s w2) (k0_pay16 b w1') w2')) := rfl
/-- Its normalized rows. -/
theorem b40 : k0_pay40 x b v s w2 w1' w2' = k0_pay8 (addf x (fw (fw v s w2) (k0_pay16 b w1') w2')) := rfl
/-- The sum of the final gain's gradient. -/
theorem b45 : k0_pay45 a0 h g x g' = cs (k0_pay44 a0 h g x) h g' := rfl
/-- The sum of the first gain's gradient. -/
theorem b2 : k0_pay2 h v s w1 g = cs (k0_pay1 v s w1) h g := rfl
/-- The gradient of the first hidden chunk. -/
theorem b48 : k0_pay48 r1 h d g w2 q = k0_pay50 (k0_pay47 r1 h d g) w2 q := rfl
/-- The first chunk of the hidden row's gradient. -/
theorem b49 : k0_pay49 r1 h d g w2 q w1 = k0_pay1 k0_pay10 (k0_pay50 (k0_pay47 r1 h d g) w2 q) w1 := rfl
/-- The gradient of a later hidden chunk. -/
theorem b51 : k0_pay51 b w2 q = k0_pay50 b w2 q := rfl
/-- The same for a later chunk. -/
theorem b54 : k0_pay54 (k0_pay53 b w2) q = k0_pay50 b w2 q := rfl
/-- The same for a later chunk. -/
theorem b55 : k0_pay55 b w2 q = k0_pay50 b w2 q := rfl
/-- The same for a later chunk. -/
theorem b57 : k0_pay57 b w2 q = k0_pay50 b w2 q := rfl
/-- The same for a later chunk. -/
theorem b58 : k0_pay58 b w2 q = k0_pay50 b w2 q := rfl
/-- The same for a later chunk. -/
theorem b60 : k0_pay60 b w2 q = k0_pay50 b w2 q := rfl
/-- Two chunks of the hidden row's gradient. -/
theorem b52 : k0_pay52 b v w2 q w1 w2' q' w1' = k0_pay1 (k0_pay1 v (k0_pay50 b w2 q) w1) (k0_pay50 b w2' q') w1' := rfl
/-- The same for later chunks. -/
theorem b56 : k0_pay56 b v (k0_pay53 b w2) q w1 w2' q' w1' = k0_pay1 (k0_pay1 v (k0_pay50 b w2 q) w1) (k0_pay50 b w2' q') w1' := rfl
/-- The same for later chunks. -/
theorem b59 : k0_pay59 b v s w1 w2' q' w1' = k0_pay1 (k0_pay1 v s w1) (k0_pay50 b w2' q') w1' := rfl
/-- The gradient of the argument's rows. -/
theorem b3 : k0_pay3 r1 h d v s w1 g = addf d (k0_pay46 r1 h (k0_pay1 v s w1) g) := rfl

end Bridges

section Vocabulary

variable (a0 : BitVec 32) (x tgt : Vec F S384x1024 .f32) (gm gf : Vec F S1x1024 .f32)
  (w1 : Vec F S8x1024x512 .bf16) (w2 : Vec F S8x512x1024 .bf16)

/-- The normalized rows under the first gain. -/
def bH : FVec F S384x1024 .bf16 := k0_pay9 x gm
/-- A hidden chunk's positive part. -/
def bR (k : Fin 8) : FVec F S384x512 .f32 := k0_pay15 (bH x gm) (ch1 w1 k)
/-- A hidden chunk's square. -/
def bS (k : Fin 8) : FVec F S384x512 .bf16 := k0_pay16 (bH x gm) (ch1 w1 k)
/-- The second layer's product. -/
def bAcc : FVec F S384x1024 .f32 :=
  fw (fw (fw (fw (fw (fw (fw (fw k0_pay10 (bS x gm w1 0) (ch2 w2 0)) (bS x gm w1 1) (ch2 w2 1)) (bS x gm w1 2) (ch2 w2 2))
    (bS x gm w1 3) (ch2 w2 3)) (bS x gm w1 4) (ch2 w2 4)) (bS x gm w1 5) (ch2 w2 5)) (bS x gm w1 6) (ch2 w2 6))
    (bS x gm w1 7) (ch2 w2 7)
/-- The residual sum. -/
def bX2 : FVec F S384x1024 .f32 := addf x (bAcc x gm w1 w2)
/-- The loss's gradient before the final gain. -/
def bD : FVec F S384x1024 .f32 := k0_pay44 a0 (k0_pay8 (bX2 x gm w1 w2)) (k0_pay41 gf) tgt
/-- The gradient of the residual sum. -/
def bDX : FVec F S384x1024 .f32 :=
  k0_pay46 (k0_pay7 (bX2 x gm w1 w2)) (k0_pay8 (bX2 x gm w1 w2)) (bD a0 x tgt gm gf w1 w2) gf
/-- The same, stored. -/
def bDXb : FVec F S384x1024 .bf16 :=
  k0_pay47 (k0_pay7 (bX2 x gm w1 w2)) (k0_pay8 (bX2 x gm w1 w2)) (bD a0 x tgt gm gf w1 w2) gf
/-- The gradient of a hidden chunk. -/
def bDA (k : Fin 8) : FVec F S384x512 .bf16 := k0_pay50 (bDXb a0 x tgt gm gf w1 w2) (ch2 w2 k) (bR x gm w1 k)
/-- The gradient of the normalized rows. -/
def bDH : FVec F S384x1024 .f32 :=
  k0_pay1 (k0_pay1 (k0_pay1 (k0_pay1 (k0_pay1 (k0_pay1 (k0_pay1 (k0_pay1 k0_pay10
    (bDA a0 x tgt gm gf w1 w2 0) (ch1 w1 0)) (bDA a0 x tgt gm gf w1 w2 1) (ch1 w1 1)) (bDA a0 x tgt gm gf w1 w2 2) (ch1 w1 2))
    (bDA a0 x tgt gm gf w1 w2 3) (ch1 w1 3)) (bDA a0 x tgt gm gf w1 w2 4) (ch1 w1 4)) (bDA a0 x tgt gm gf w1 w2 5) (ch1 w1 5))
    (bDA a0 x tgt gm gf w1 w2 6) (ch1 w1 6)) (bDA a0 x tgt gm gf w1 w2 7) (ch1 w1 7)
/-- The gradient of the argument's rows. -/
def bDX1 : FVec F S384x1024 .f32 :=
  addf (bDX a0 x tgt gm gf w1 w2) (k0_pay46 (k0_pay7 x) (k0_pay8 x) (bDH a0 x tgt gm gf w1 w2) gm)
/-- The loss after the block. -/
def bLoss (acc : Vec F S8x128 .f32) : FVec F S8x128 .f32 := k0_pay43 a0 (k0_pay8 (bX2 x gm w1 w2)) (k0_pay41 gf) tgt acc
/-- The final gain's gradient after the block. -/
def bDgf (acc : Vec F S1x1024 .f32) : FVec F S1x1024 .f32 := cs (bD a0 x tgt gm gf w1 w2) (k0_pay8 (bX2 x gm w1 w2)) acc
/-- The first gain's gradient after the block. -/
def bDgm (acc : Vec F S1x1024 .f32) : FVec F S1x1024 .f32 := cs (bDH a0 x tgt gm gf w1 w2) (k0_pay8 x) acc

end Vocabulary

/-! ## Loads and stores -/

/-- A load of a whole block of rows. -/
theorem ldx {e} (x : Vec F S384x1024 e) (inb) : View.ld x (Rect.unit (s := S384x1024) ![0, 0] ![384, 1024] inb) = x :=
  View.ld_unit_zero (S := S384x1024) (by funext a; fin_cases a <;> rfl) inb x
/-- A load of a whole gain. -/
theorem ldg {e} (x : Vec F S1x1024 e) (inb) : View.ld x (Rect.unit (s := S1x1024) ![0, 0] ![1, 1024] inb) = x :=
  View.ld_unit_zero (S := S1x1024) (by funext a; fin_cases a <;> rfl) inb x
/-- A load of the whole loss. -/
theorem ldl {e} (x : Vec F S8x128 e) (inb) : View.ld x (Rect.unit (s := S8x128) ![0, 0] ![8, 128] inb) = x :=
  View.ld_unit_zero (S := S8x128) (by funext a; fin_cases a <;> rfl) inb x

/-- A load of a chunk of the first layer's weights. -/
theorem ldw1 (w : Vec F S8x1024x512 .bf16) (k : ℕ) (hk : k < 8) (inb) :
    View.ld w (Rect.unit (s := S8x1024x512) ![k, 0, 0] ![1, 1024, 512] inb) = ch1 w ⟨k, hk⟩ := by
  funext y
  refine View.ld_unit_apply_of w _ _ inb y _ fun a => ?_
  have h0 : (y 0).val < 1 := (y 0).isLt
  fin_cases a
  · show k = k + (y 0).val
    omega
  · show (y 1).val = 0 + (y 1).val
    omega
  · show (y 2).val = 0 + (y 2).val
    omega
/-- A load of a chunk of the second layer's weights. -/
theorem ldw2 (w : Vec F S8x512x1024 .bf16) (k : ℕ) (hk : k < 8) (inb) :
    View.ld w (Rect.unit (s := S8x512x1024) ![k, 0, 0] ![1, 512, 1024] inb) = ch2 w ⟨k, hk⟩ := by
  funext y
  refine View.ld_unit_apply_of w _ _ inb y _ fun a => ?_
  have h0 : (y 0).val < 1 := (y 0).isLt
  fin_cases a
  · show k = k + (y 0).val
    omega
  · show (y 1).val = 0 + (y 1).val
    omega
  · show (y 2).val = 0 + (y 2).val
    omega

/-- A load of a chunk of the first layer's weights, copied whole before it. -/
theorem covw1 (v : View sig .tc .vmem S8x1024x512 .bf16) (w : Vec F S8x1024x512 .bf16) (L) (k : ℕ) (hk : k < 8) (inb) :
    v.readCov ((⟨Rect.whole S8x1024x512, w⟩ : View.Piece (Elt F) S8x1024x512 .bf16) :: L)
      (Rect.unit (s := S8x1024x512) ![k, 0, 0] ![1, 1024, 512] inb).toLoadRect = ch1 w ⟨k, hk⟩ := by
  rw [View.readCov_eq_canon', ← ldw1 w k hk inb]
  funext y
  have e := View.canon_cons_emb (Val := Elt F) (Rect.whole S8x1024x512) w L
    ((Rect.unit (s := S8x1024x512) ![k, 0, 0] ![1, 1024, 512] inb).toLoadRect.idx y)
  rw [Rect.emb_whole_apply] at e
  exact e
/-- A load of a chunk of the second layer's weights, copied whole before it. -/
theorem covw2 (v : View sig .tc .vmem S8x512x1024 .bf16) (w : Vec F S8x512x1024 .bf16) (L) (k : ℕ) (hk : k < 8) (inb) :
    v.readCov ((⟨Rect.whole S8x512x1024, w⟩ : View.Piece (Elt F) S8x512x1024 .bf16) :: L)
      (Rect.unit (s := S8x512x1024) ![k, 0, 0] ![1, 512, 1024] inb).toLoadRect = ch2 w ⟨k, hk⟩ := by
  rw [View.readCov_eq_canon', ← ldw2 w k hk inb]
  funext y
  have e := View.canon_cons_emb (Val := Elt F) (Rect.whole S8x512x1024) w L
    ((Rect.unit (s := S8x512x1024) ![k, 0, 0] ![1, 512, 1024] inb).toLoadRect.idx y)
  rw [Rect.emb_whole_apply] at e
  exact e

/-- A load of the hidden chunks' scratch does not see a store to other columns. -/
theorem rcskip (v : View sig .tc .vmem S384x4096 .f32) (w : Vec F S384x512 .f32) (L) (a b : ℕ) (inb inb')
    (h : a + 512 ≤ b ∨ b + 512 ≤ a) :
    v.readCov ((⟨Rect.unit (s := S384x4096) ![0, a] ![384, 512] inb, w⟩ : View.Piece (Elt F) S384x4096 .f32) :: L)
        (Rect.unit (s := S384x4096) ![0, b] ![384, 512] inb').toLoadRect
      = v.readCov L (Rect.unit (s := S384x4096) ![0, b] ![384, 512] inb').toLoadRect := by
  rw [View.readCov_eq_canon', View.readCov_eq_canon']
  funext y
  refine View.canon_cons_of_not_mem _ _ fun hm => ?_
  obtain ⟨z, hz⟩ := (Rect.unit (s := S384x4096) ![0, a] ![384, 512] inb).exists_idx_of_mem hm
  have e := congrArg (fun i : S384x4096.Idx => (i 1).val) hz
  have e' : a + 1 * (z 1).val = b + 1 * (y 1).val := e
  have hz1 : (z 1).val < 512 := (z 1).isLt
  have hy1 : (y 1).val < 512 := (y 1).isLt
  omega
/-- A load of the hidden chunks' scratch reads the last store to its columns. -/
theorem rchit (v : View sig .tc .vmem S384x4096 .f32) (w : Vec F S384x512 .f32) (L) (a : ℕ) (inb inb') :
    v.readCov ((⟨Rect.unit (s := S384x4096) ![0, a] ![384, 512] inb, w⟩ : View.Piece (Elt F) S384x4096 .f32) :: L)
        (Rect.unit (s := S384x4096) ![0, a] ![384, 512] inb').toLoadRect = w :=
  View.readCov_cons_toLoadRect v (Rect.unit (s := S384x4096) ![0, a] ![384, 512] inb) w L

/-- Eight chunks side by side. -/
def glue {e} (p : Fin 8 → Vec F S384x512 e) : Vec F S384x4096 e := fun y =>
  p ⟨(y 1).val / 512, by have h : (y 1).val < 4096 := (y 1).isLt; omega⟩ (ix2 (y 0) ⟨(y 1).val % 512, Nat.mod_lt _ (by norm_num)⟩)

/-- A store of a chunk at its columns is that chunk of the eight side by side. -/
theorem glue_emb {e} (p : Fin 8 → Vec F S384x512 e) (k : Fin 8) (a : ℕ) (ha : a = 512 * k.val) (inb)
    (z : (Rect.unit (s := S384x4096) ![0, a] ![384, 512] inb).shape.Idx) :
    p k z = glue p ((Rect.unit (s := S384x4096) ![0, a] ![384, 512] inb).emb z) := by
  subst ha
  have h1 : (z 1).val < 512 := (z 1).isLt
  have e0 : ((Rect.unit (s := S384x4096) ![0, 512 * k.val] ![384, 512] inb).emb z 0).val = 0 + 1 * (z 0).val := rfl
  have e1 : ((Rect.unit (s := S384x4096) ![0, 512 * k.val] ![384, 512] inb).emb z 1).val = 512 * k.val + 1 * (z 1).val := rfl
  have key : ∀ (k' : Fin 8) (z' : S384x512.Idx), k' = k → z' = z → p k z = p k' z' := by
    intro k' z' h h'
    rw [h, h']
  refine key _ _ (Fin.ext ?_) (funext fun i => ?_)
  · show _ / 512 = _
    rw [e1]
    omega
  · fin_cases i
    · refine Fin.ext ?_
      show _ = (z 0).val
      exact e0.trans (by omega)
    · refine Fin.ext ?_
      show _ % 512 = (z 1).val
      rw [e1]
      omega

end Cert.Kernel2Ideal.Mlp

end
-- ==== Proof.MlpRow.lean ====
module

public import Idealize.ShloMosaic.Lib.Pointwise
public import Idealize.ShloMosaic.PureOps.Ideal.Laws

@[expose] public section

noncomputable section

/-!
The multilayer perceptron, the loss and their gradients over the extended reals, one row at a time: what the normalization,
the hidden layer, the residual sum, the loss and each gradient are, as plain functions of a row and the weights.
-/

namespace Cert.Mlp

open Idealize.ShloMosaic

/-- The constant that the normalization adds to a mean of squares. -/
def eps : ℝ := (Ideal.ofBits .f32 0x358637BD#32).toReal

/-- The word of the normalization's constant. -/
theorem eps_eq : Ideal.ofBits .f32 0x358637BD#32 = (eps : EReal) := by
  unfold eps
  simp [Ideal.ofBits, Ideal.ieee]
  norm_cast

/-- The normalization's constant is positive. -/
theorem eps_pos : 0 < eps := by
  unfold eps
  simp [Ideal.ofBits, Ideal.ieee]
  norm_cast
  norm_num

/-- The word of zero. -/
theorem zero_eq : Ideal.ofBits .f32 0x00000000#32 = ((0 : ℝ) : EReal) := by simp [Ideal.ofBits, Ideal.ieee]
/-- The word of a half. -/
theorem half_eq : Ideal.ofBits .f32 0x3F000000#32 = ((1 / 2 : ℝ) : EReal) := by
  simp [Ideal.ofBits, Ideal.ieee]
  rw [← EReal.coe_mul]
  norm_num
/-- The word of one. -/
theorem one_eq : Ideal.ofBits .f32 0x3F800000#32 = ((1 : ℝ) : EReal) := by
  simp [Ideal.ofBits, Ideal.ieee]
  rw [← EReal.coe_mul]
  norm_num
/-- The word of minus a half. -/
theorem neg_half_eq : Ideal.ofBits .f32 0xBF000000#32 = ((-(1 / 2) : ℝ) : EReal) := by
  simp [Ideal.ofBits, Ideal.ieee]
  rw [← EReal.coe_mul]
  norm_num
/-- The word of two. -/
theorem two_eq : Ideal.ofBits .f32 0x40000000#32 = ((2 : ℝ) : EReal) := by
  simp [Ideal.ofBits, Ideal.ieee]
  rw [← EReal.coe_mul]
  norm_num
/-- The word of 1024. -/
theorem width_eq : Ideal.ofBits .f32 0x44800000#32 = ((1024 : ℝ) : EReal) := by
  simp [Ideal.ofBits, Ideal.ieee]
  rw [← EReal.coe_mul]
  norm_num
/-- The word of 1/1024. -/
theorem inv_width_eq : Ideal.ofBits .f32 0x3A800000#32 = ((1 / 1024 : ℝ) : EReal) := by
  simp [Ideal.ofBits, Ideal.ieee]
  rw [← EReal.coe_mul]
  norm_num

/-- The inverse of the rows' width. -/
def inv : EReal := ((1 / 1024 : ℝ) : EReal)

/-- A quotient by the width. -/
theorem div_width (x : EReal) : Ideal.div x ((1024 : ℝ) : EReal) = x * inv := Ideal.div_coe (by norm_num) x

/-- A factor that is a real and not negative goes into a sum of extended reals. -/
theorem mul_sum_real {ι : Type} (k : ℝ) (hk : 0 ≤ k) (s : Finset ι) (f : ι → EReal) :
    (k : EReal) * ∑ i ∈ s, f i = ∑ i ∈ s, (k : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hk) (EReal.coe_ne_top k)]

/-- A row's mean of squares, plus the constant. -/
def ms (X : Fin 1024 → EReal) : EReal := (∑ j, X j * X j) * inv + (eps : EReal)
/-- The inverse of a row's root mean square. -/
def rs (X : Fin 1024 → EReal) : EReal := Ideal.rsqrt (ms X)
/-- The derivative of a row's inverse root mean square by the mean of squares. -/
def drs (X : Fin 1024 → EReal) : EReal := ((-(1 / 2) : ℝ) : EReal) * Ideal.div (rs X) (ms X)
/-- The normalized row. -/
def xh (X : Fin 1024 → EReal) (j : Fin 1024) : EReal := X j * rs X
/-- The normalized row under a gain. -/
def hid (X G : Fin 1024 → EReal) (j : Fin 1024) : EReal := xh X j * G j
/-- The hidden layer's positive part. -/
def act (H : Fin 1024 → EReal) (W : Fin 1024 → Fin 4096 → EReal) (f : Fin 4096) : EReal := max (∑ j, H j * W j f) 0
/-- The residual sum with the second layer's product of the squares. -/
def res (X : Fin 1024 → EReal) (A : Fin 4096 → EReal) (W : Fin 4096 → Fin 1024 → EReal) (j : Fin 1024) : EReal :=
  X j + ∑ f, A f * A f * W f j
/-- The difference from the target, in the rows that count. -/
def err (Y G T : Fin 1024 → EReal) (v : Prop) [Decidable v] (j : Fin 1024) : EReal := if v then xh Y j * G j - T j else 0
/-- The gradient of the normalization in its row. -/
def nb (Y G D : Fin 1024 → EReal) (j : Fin 1024) : EReal :=
  rs Y * (D j * G j - xh Y j * ((∑ k, D k * G k * xh Y k) * inv))
/-- The gradient before the hidden layer's positive part. -/
def dact (D : Fin 1024 → EReal) (W : Fin 4096 → Fin 1024 → EReal) (A : Fin 4096 → EReal) (f : Fin 4096) : EReal :=
  (∑ j, D j * W f j) * (((2 : ℝ) : EReal) * A f)
/-- The gradient of the hidden layer's row. -/
def dhid (E : Fin 4096 → EReal) (W : Fin 1024 → Fin 4096 → EReal) (j : Fin 1024) : EReal := ∑ f, E f * W j f

/-- A mean of squares plus the constant is infinite or a positive real. -/
theorem ms_cases (X : Fin 1024 → EReal) : ms X = ⊤ ∨ ∃ x : ℝ, 0 < x ∧ ms X = (x : EReal) := by
  have hs : 0 ≤ ∑ j, X j * X j := Finset.sum_nonneg fun j _ => by
    induction X j with
    | bot => simp
    | top => simp
    | coe x => rw [← EReal.coe_mul]; exact EReal.coe_nonneg.mpr (mul_self_nonneg x)
  have hi : (0 : EReal) < inv := EReal.coe_pos.mpr (by norm_num)
  unfold ms
  generalize ∑ j, X j * X j = S at hs
  induction S with
  | bot => exact absurd hs (by simp)
  | top => exact Or.inl (by rw [EReal.top_mul_of_pos hi, EReal.top_add_coe])
  | coe s =>
    have hs' : 0 ≤ s := EReal.coe_nonneg.mp hs
    refine Or.inr ⟨s * (1 / 1024) + eps, ?_, ?_⟩
    · have := eps_pos
      positivity
    · unfold inv
      rw [← EReal.coe_mul, ← EReal.coe_add]

/-- Twice the same product with a negative real. -/
theorem twice (T : EReal) (k : ℝ) (hk : 0 < k) :
    T * ((-k : ℝ) : EReal) + T * ((-k : ℝ) : EReal) = -(T * ((2 * k : ℝ) : EReal)) := by
  have h2 : (0 : ℝ) < 2 * k := by positivity
  have hn : -k < 0 := by linarith
  induction T with
  | bot => rw [EReal.bot_mul_coe_of_neg hn, EReal.bot_mul_coe_of_pos h2]; rfl
  | top => rw [EReal.top_mul_coe_of_neg hn, EReal.top_mul_coe_of_pos h2]; rfl
  | coe t =>
    rw [← EReal.coe_mul, ← EReal.coe_mul, ← EReal.coe_add, ← EReal.coe_neg]
    congr 1
    ring

/-- The normalization's gradient as the reference writes it: the derivative of the inverse root spread over the squares. -/
theorem nb_eq (Y G D : Fin 1024 → EReal) (j : Fin 1024) :
    D j * G j * rs Y
        + Y j * ((∑ k, Y k * (D k * G k)) * drs Y * inv)
        + (∑ k, Y k * (D k * G k)) * drs Y * inv * Y j
      = nb Y G D j := by
  rcases ms_cases Y with h | ⟨x, hx, h⟩
  · have hr : rs Y = 0 := by
      unfold rs
      rw [h]
      rfl
    have hd : drs Y = 0 := by
      unfold drs
      rw [hr, h]
      simp [Ideal.div]
    unfold nb
    rw [hr, hd]
    simp
  · have hq : 0 < Real.sqrt x := Real.sqrt_pos.mpr hx
    have hr : rs Y = (((Real.sqrt x)⁻¹ : ℝ) : EReal) := by
      unfold rs
      rw [h, Ideal.rsqrt_coe, if_neg (not_lt.mpr hx.le), if_neg hx.ne']
    have hp : 0 < (Real.sqrt x)⁻¹ := by positivity
    have hi : x⁻¹ = (Real.sqrt x)⁻¹ * (Real.sqrt x)⁻¹ := by rw [← mul_inv, Real.mul_self_sqrt hx.le]
    generalize (Real.sqrt x)⁻¹ = r at hr hp hi
    have hd : drs Y = ((-(1 / 2) * (r * (r * r)) : ℝ) : EReal) := by
      unfold drs
      rw [hr, h, Ideal.div_coe hx.ne', one_div x, hi, ← EReal.coe_mul, ← EReal.coe_mul]
    have e : (∑ k, D k * G k * xh Y k) = (r : EReal) * ∑ k, Y k * (D k * G k) := by
      rw [mul_sum_real r hp.le]
      refine Finset.sum_congr rfl fun k _ => ?_
      unfold xh
      rw [hr]
      ac_rfl
    unfold nb
    rw [e, hd, sub_eq_add_neg, hr, EReal.left_distrib_of_nonneg_of_ne_top (EReal.coe_nonneg.mpr hp.le) (EReal.coe_ne_top r)]
    unfold xh
    rw [hr]
    generalize ∑ k, Y k * (D k * G k) = S
    generalize D j * G j = P
    have hk : 0 < 1 / 2 * (r * (r * r)) * (1 / 1024) := by positivity
    have e1 : Y j * (S * ((-(1 / 2) * (r * (r * r)) : ℝ) : EReal) * inv)
        = Y j * S * ((-(1 / 2 * (r * (r * r)) * (1 / 1024)) : ℝ) : EReal) := by
      rw [show -(1 / 2 * (r * (r * r)) * (1 / 1024)) = -(1 / 2) * (r * (r * r)) * (1 / 1024) by ring,
        EReal.coe_mul (-(1 / 2) * (r * (r * r))) (1 / 1024)]
      unfold inv
      generalize ((-(1 / 2) * (r * (r * r)) : ℝ) : EReal) = a
      rw [mul_assoc S, mul_assoc]
    have e2 : (r : EReal) * -(Y j * (r : EReal) * ((r : EReal) * S * inv))
        = -(Y j * S * ((2 * (1 / 2 * (r * (r * r)) * (1 / 1024)) : ℝ) : EReal)) := by
      rw [show 2 * (1 / 2 * (r * (r * r)) * (1 / 1024)) = r * (r * r) * (1 / 1024) by ring, EReal.coe_mul, EReal.coe_mul,
        EReal.coe_mul, mul_neg]
      unfold inv
      congr 1
      ac_rfl
    rw [mul_comm (S * _ * inv) (Y j), e1, e2, add_assoc, twice _ _ hk, mul_comm P]

/-! ## A row's values, from its argument, its target, the gains and the weights -/

section Row

variable (X T G1 G2 : Fin 1024 → EReal) (W1 : Fin 1024 → Fin 4096 → EReal) (W2 : Fin 4096 → Fin 1024 → EReal) (v : Prop) [Decidable v]

/-- The row after the first normalization. -/
def rowH : Fin 1024 → EReal := hid X G1
/-- The row's hidden layer. -/
def rowA : Fin 4096 → EReal := act (rowH X G1) W1
/-- The row's residual sum. -/
def rowY : Fin 1024 → EReal := res X (rowA X G1 W1) W2
/-- The row's difference from its target. -/
def rowE : Fin 1024 → EReal := err (rowY X G1 W1 W2) G2 T v
/-- The row's loss. -/
def rowL : EReal :=
  ((1 / 2 : ℝ) : EReal) * ((∑ j, rowE X T G1 G2 W1 W2 v j * rowE X T G1 G2 W1 W2 v j) * inv)
/-- The loss's gradient before the final gain. -/
def rowD (j : Fin 1024) : EReal := rowE X T G1 G2 W1 W2 v j * inv
/-- The gradient of the residual sum. -/
def rowDX : Fin 1024 → EReal := nb (rowY X G1 W1 W2) G2 (rowD X T G1 G2 W1 W2 v)
/-- The gradient before the hidden layer's positive part. -/
def rowDA : Fin 4096 → EReal := dact (rowDX X T G1 G2 W1 W2 v) W2 (rowA X G1 W1)
/-- The gradient of the row after the first normalization. -/
def rowDH : Fin 1024 → EReal := dhid (rowDA X T G1 G2 W1 W2 v) W1
/-- The gradient of the row. -/
def rowDX1 (j : Fin 1024) : EReal := rowDX X T G1 G2 W1 W2 v j + nb X G1 (rowDH X T G1 G2 W1 W2 v) j
/-- What the row adds to the final gain's gradient. -/
def rowGF (j : Fin 1024) : EReal := rowD X T G1 G2 W1 W2 v j * xh (rowY X G1 W1 W2) j
/-- What the row adds to the first gain's gradient. -/
def rowGM (j : Fin 1024) : EReal := rowDH X T G1 G2 W1 W2 v j * xh X j

end Row

/-- A hidden column by its chunk and its place there. -/
def fch (k : Fin 8) (f : Fin 512) : Fin 4096 := ⟨512 * k.val + f.val, by omega⟩

/-- A sum over the hidden columns, chunk by chunk. -/
theorem sum_chunks (g : Fin 4096 → EReal) : ∑ f, g f = ∑ k : Fin 8, ∑ f : Fin 512, g (fch k f) := by
  rw [← Equiv.sum_comp (finProdFinEquiv (m := 8) (n := 512)) g, Fintype.sum_prod_type]
  refine Finset.sum_congr rfl fun k _ => Finset.sum_congr rfl fun f _ => congrArg g (Fin.ext ?_)
  show f.val + 512 * k.val = 512 * k.val + f.val
  omega

end Cert.Mlp

end
-- ==== Proof.MlpAt.lean ====
module

public import proofs.«01_k».proof.Proof.MlpBlock
public import proofs.«01_k».proof.Proof.MlpRow
public import Idealize.ShloMosaic.Lib.WordCmp

/-!
The block vocabulary of the perceptron kernel, read at an entry: every entry is the number that the row functions say.
-/

@[expose] public section

set_option maxRecDepth 16384

noncomputable section

namespace Cert.Kernel2Ideal.Mlp

open Idealize.ShloMosaic Idealize.ShloMosaic.TcCoe
open Cert.Kernel2Ideal Cert.Kernel2Ideal.Gen Cert.Mlp

/-- A row that counts: the sixteen rows in front and the padding behind do not. -/
abbrev valid (n : ℕ) : Prop := 16 ≤ n ∧ n < 8208

/-- The kernel's choice by a row's number. -/
theorem mask (t r : ℕ) (ht : t < 22) (hr : r < 384) (a b : EReal) :
    Scalar.select (IntOp.andi
        (IntOp.cmpi CmpIPredicate.sge (IntOp.addi (Scalar.muli (BitVec.ofNat 32 t) 384#32) (BitVec.ofNat 32 r)) 16#32)
        (IntOp.cmpi CmpIPredicate.slt (IntOp.addi (Scalar.muli (BitVec.ofNat 32 t) 384#32) (BitVec.ofNat 32 r)) 8208#32)) a b
      = if valid (384 * t + r) then a else b := by
  have e : IntOp.addi (Scalar.muli (BitVec.ofNat 32 t) 384#32) (BitVec.ofNat 32 r) = BitVec.ofNat 32 (384 * t + r) := by
    apply BitVec.eq_of_toNat_eq
    show (BitVec.ofNat 32 t * 384#32 + BitVec.ofNat 32 r).toNat = _
    simp only [BitVec.toNat_add, BitVec.toNat_mul, BitVec.toNat_ofNat]
    omega
  rw [e, WordCmp.cmpi_sge_ofNat (by norm_num; omega) (by norm_num), WordCmp.cmpi_slt_ofNat (by norm_num; omega) (by norm_num), WordCmp.andi_ofBool]
  unfold Scalar.select
  simp only [WordCmp.ofBool_eq_one_iff', Bool.and_eq_true, decide_eq_true_eq, valid]

section Pieces

variable (x : Vec Ideal S384x1024 .f32) (X G D : Fin 1024 → EReal) (g : Vec Ideal S1x1024 .f32) (r : Fin 384)

/-- The inverse root of a row. -/
theorem p7 (h : ∀ j, x (ix2 r j) = X j) : k0_pay7 x (ix2 r 0) = rs X := by
  pointwise [k0_pay7, h]
  rw [width_eq, eps_eq, div_width]
  rfl

/-- A normalized row. -/
theorem p8 (h : ∀ j, x (ix2 r j) = X j) (j : Fin 1024) : k0_pay8 x (ix2 r j) = xh X j := by
  pointwise [k0_pay8, h, p7 x X r h]
  rfl

/-- A normalized row under its gain. -/
theorem p9 (h : ∀ j, x (ix2 r j) = X j) (hg : ∀ j, g (ix2 0 j) = G j) (j : Fin 1024) :
    k0_pay9 x g (ix2 r j) = hid X G j := by
  pointwise [k0_pay9, hg, p8 x X r h]
  rfl

/-- The normalization's gradient in a row. -/
theorem p46 (d : FVec Ideal S384x1024 .f32) (h : ∀ j, x (ix2 r j) = X j) (hg : ∀ j, g (ix2 0 j) = G j)
    (hd : ∀ j, d (ix2 r j) = D j) (j : Fin 1024) :
    k0_pay46 (k0_pay7 x) (k0_pay8 x) d g (ix2 r j) = nb X G D j := by
  pointwise [k0_pay46, hg, hd, p8 x X r h, p7 x X r h]
  rw [width_eq, div_width]
  rfl

/-- A hidden chunk's positive part in a row. -/
theorem p14 (b : FVec Ideal S384x1024 .bf16) (w : Vec Ideal S1x1024x512 .bf16) (W : Fin 1024 → EReal) (f : Fin 512)
    (h : ∀ j, b (ix2 r j) = X j) (hw : ∀ j, w (ix3 0 j f) = W j) :
    k0_pay14 b w (ix2 r f) = (max (∑ j, X j * W j) 0) := by
  pointwise [k0_pay14, h, hw]

/-- One more chunk of the second layer's product. -/
theorem fw_at (acc : FVec Ideal S384x1024 .f32) (s : FVec Ideal S384x512 .bf16) (w : Vec Ideal S1x512x1024 .bf16) (j : Fin 1024)
    (a : EReal) (S W : Fin 512 → EReal) (ha : acc (ix2 r j) = a) (hs : ∀ f, s (ix2 r f) = S f)
    (hw : ∀ f, w (ix3 0 f j) = W f) : fw acc s w (ix2 r j) = (a + ∑ f, S f * W f) := by
  pointwise [fw, ha, hs, hw]

/-- One more chunk of the hidden row's gradient. -/
theorem p1 (acc : FVec Ideal S384x1024 .f32) (s : FVec Ideal S384x512 .bf16) (w : Vec Ideal S1x1024x512 .bf16) (j : Fin 1024)
    (a : EReal) (S W : Fin 512 → EReal) (ha : acc (ix2 r j) = a) (hs : ∀ f, s (ix2 r f) = S f)
    (hw : ∀ f, w (ix3 0 j f) = W f) : k0_pay1 acc s w (ix2 r j) = (a + ∑ f, S f * W f) := by
  pointwise [k0_pay1, ha, hs, hw]

/-- A hidden chunk's gradient in a row. -/
theorem p50 (b : FVec Ideal S384x1024 .bf16) (w : Vec Ideal S1x512x1024 .bf16) (q : Vec Ideal S384x512 .f32) (f : Fin 512)
    (W : Fin 1024 → EReal) (a : EReal) (h : ∀ j, b (ix2 r j) = X j) (hw : ∀ j, w (ix3 0 f j) = W j)
    (hq : q (ix2 r f) = a) : k0_pay50 b w q (ix2 r f) = ((∑ j, X j * W j) * (((2 : ℝ) : EReal) * a)) := by
  pointwise [k0_pay50, h, hw, hq]
  rw [two_eq]

/-- The difference from the target in a row. -/
theorem p42 (t : ℕ) (ht : t < 22) (tgt : Vec Ideal S384x1024 .f32) (T : Fin 1024 → EReal) (h : ∀ j, x (ix2 r j) = X j)
    (hg : ∀ j, g (ix2 0 j) = G j) (hT : ∀ j, tgt (ix2 r j) = T j) (j : Fin 1024) :
    k0_pay42 (BitVec.ofNat 32 t) (k0_pay8 x) (k0_pay41 g) tgt (ix2 r j) = err X G T (valid (384 * t + r.val)) j := by
  pointwise [k0_pay42, k0_pay41, hg, hT, p8 x X r h]
  rw [mask t r.val ht r.isLt]
  unfold err
  rfl

end Pieces

/-- The blocks: the rows, their targets, the gains and the weights in chunks. -/
structure Holds (x tgt : Vec Ideal S384x1024 .f32) (gm gf : Vec Ideal S1x1024 .f32) (w1 : Vec Ideal S8x1024x512 .bf16)
    (w2 : Vec Ideal S8x512x1024 .bf16) (X T : Fin 384 → Fin 1024 → EReal) (G1 G2 : Fin 1024 → EReal) (W1 : Fin 1024 → Fin 4096 → EReal)
    (W2 : Fin 4096 → Fin 1024 → EReal) : Prop where
  hx : ∀ r j, x (ix2 r j) = X r j
  ht : ∀ r j, tgt (ix2 r j) = T r j
  hgm : ∀ j, gm (ix2 0 j) = G1 j
  hgf : ∀ j, gf (ix2 0 j) = G2 j
  hw1 : ∀ k j f, w1 (ix3 k j f) = W1 j (fch k f)
  hw2 : ∀ k f j, w2 (ix3 k f j) = W2 (fch k f) j

namespace Holds

variable {x tgt : Vec Ideal S384x1024 .f32} {gm gf : Vec Ideal S1x1024 .f32} {w1 : Vec Ideal S8x1024x512 .bf16}
  {w2 : Vec Ideal S8x512x1024 .bf16} {X T : Fin 384 → Fin 1024 → EReal} {G1 G2 : Fin 1024 → EReal} {W1 : Fin 1024 → Fin 4096 → EReal}
  {W2 : Fin 4096 → Fin 1024 → EReal} (H : Holds x tgt gm gf w1 w2 X T G1 G2 W1 W2) (t : ℕ) (ht : t < 22) (r : Fin 384)

include H

/-- A normalized row under its gain. -/
theorem bH_at (j : Fin 1024) : bH x gm (ix2 r j) = rowH (X r) G1 j := p9 x (X r) G1 gm r (H.hx r) H.hgm j

/-- A hidden chunk before its square. -/
theorem b14_at (k : Fin 8) (f : Fin 512) : k0_pay14 (bH x gm) (ch1 w1 k) (ix2 r f) = rowA (X r) G1 W1 (fch k f) :=
  p14 (rowH (X r) G1) r (bH x gm) (ch1 w1 k) (fun j => W1 j (fch k f)) f (H.bH_at r) fun j => H.hw1 k j f

/-- A hidden chunk. -/
theorem bR_at (k : Fin 8) (f : Fin 512) : bR x gm w1 k (ix2 r f) = rowA (X r) G1 W1 (fch k f) := by
  pointwise [bR, k0_pay15, H.b14_at]

/-- A hidden chunk's square. -/
theorem bS_at (k : Fin 8) (f : Fin 512) :
    bS x gm w1 k (ix2 r f) = (rowA (X r) G1 W1 (fch k f) * rowA (X r) G1 W1 (fch k f)) := by
  pointwise [bS, k0_pay16, H.b14_at]

/-- The second layer's product. -/
theorem bAcc_at (j : Fin 1024) : bAcc x gm w1 w2 (ix2 r j)
    = (∑ f, rowA (X r) G1 W1 f * rowA (X r) G1 W1 f * W2 f j) := by
  have step : ∀ (acc : FVec Ideal S384x1024 .f32) (a : EReal) (k : Fin 8), acc (ix2 r j) = a →
      fw acc (bS x gm w1 k) (ch2 w2 k) (ix2 r j)
        = (a + ∑ f, rowA (X r) G1 W1 (fch k f) * rowA (X r) G1 W1 (fch k f) * W2 (fch k f) j) :=
    fun acc a k h => fw_at r acc _ _ j a _ (fun f => W2 (fch k f) j) h (H.bS_at r k) fun f => H.hw2 k f j
  have z : (k0_pay10 : FVec Ideal S384x1024 .f32) (ix2 r j) = 0 := zero_eq.trans EReal.coe_zero
  have := step _ _ 7 (step _ _ 6 (step _ _ 5 (step _ _ 4 (step _ _ 3 (step _ _ 2 (step _ _ 1 (step _ _ 0 z)))))))
  refine Eq.trans this ?_
  rw [sum_chunks, Fin.sum_univ_eight, zero_add]

/-- The residual sum. -/
theorem bX2_at (j : Fin 1024) : bX2 x gm w1 w2 (ix2 r j) = rowY (X r) G1 W1 W2 j := by
  exact congrArg₂ (fun a b : EReal => a + b) (H.hx r j) (H.bAcc_at r j)

include ht

/-- The difference from the target. -/
theorem b42_at (j : Fin 1024) :
    k0_pay42 (BitVec.ofNat 32 t) (k0_pay8 (bX2 x gm w1 w2)) (k0_pay41 gf) tgt (ix2 r j)
      = rowE (X r) (T r) G1 G2 W1 W2 (valid (384 * t + r.val)) j :=
  p42 _ _ G2 gf r t ht tgt (T r) (H.bX2_at r) H.hgf (H.ht r) j

/-- The loss's gradient before the final gain. -/
theorem bD_at (j : Fin 1024) : bD (BitVec.ofNat 32 t) x tgt gm gf w1 w2 (ix2 r j)
    = rowD (X r) (T r) G1 G2 W1 W2 (valid (384 * t + r.val)) j := by
  pointwise [bD, k0_pay44, H.b42_at t ht]
  rw [inv_width_eq]
  rfl

/-- The gradient of the residual sum. -/
theorem bDX_at (j : Fin 1024) : bDX (BitVec.ofNat 32 t) x tgt gm gf w1 w2 (ix2 r j)
    = rowDX (X r) (T r) G1 G2 W1 W2 (valid (384 * t + r.val)) j :=
  p46 _ _ G2 _ gf r _ (H.bX2_at r) H.hgf (H.bD_at t ht r) j

/-- The gradient of the residual sum, stored. -/
theorem bDXb_at (j : Fin 1024) : bDXb (BitVec.ofNat 32 t) x tgt gm gf w1 w2 (ix2 r j)
    = rowDX (X r) (T r) G1 G2 W1 W2 (valid (384 * t + r.val)) j := H.bDX_at t ht r j

/-- The gradient of a hidden chunk. -/
theorem bDA_at (k : Fin 8) (f : Fin 512) : bDA (BitVec.ofNat 32 t) x tgt gm gf w1 w2 k (ix2 r f)
    = rowDA (X r) (T r) G1 G2 W1 W2 (valid (384 * t + r.val)) (fch k f) :=
  p50 _ r _ (ch2 w2 k) _ f (fun j => W2 (fch k f) j) _ (H.bDXb_at t ht r) (fun j => H.hw2 k f j) (H.bR_at r k f)

/-- The gradient of the row after the first normalization. -/
theorem bDH_at (j : Fin 1024) : bDH (BitVec.ofNat 32 t) x tgt gm gf w1 w2 (ix2 r j)
    = rowDH (X r) (T r) G1 G2 W1 W2 (valid (384 * t + r.val)) j := by
  have step : ∀ (acc : FVec Ideal S384x1024 .f32) (a : EReal) (k : Fin 8), acc (ix2 r j) = a →
      k0_pay1 acc (bDA (BitVec.ofNat 32 t) x tgt gm gf w1 w2 k) (ch1 w1 k) (ix2 r j)
        = (a + ∑ f, rowDA (X r) (T r) G1 G2 W1 W2 (valid (384 * t + r.val)) (fch k f) * W1 j (fch k f)) :=
    fun acc a k h => p1 r acc _ _ j a _ (fun f => W1 j (fch k f)) h (H.bDA_at t ht r k) fun f => H.hw1 k j f
  have z : (k0_pay10 : FVec Ideal S384x1024 .f32) (ix2 r j) = 0 := zero_eq.trans EReal.coe_zero
  have := step _ _ 7 (step _ _ 6 (step _ _ 5 (step _ _ 4 (step _ _ 3 (step _ _ 2 (step _ _ 1 (step _ _ 0 z)))))))
  refine Eq.trans this ?_
  unfold rowDH dhid
  rw [sum_chunks, Fin.sum_univ_eight, zero_add]

/-- The gradient of the argument's row. -/
theorem bDX1_at (j : Fin 1024) : bDX1 (BitVec.ofNat 32 t) x tgt gm gf w1 w2 (ix2 r j)
    = rowDX1 (X r) (T r) G1 G2 W1 W2 (valid (384 * t + r.val)) j := by
  exact congrArg₂ (fun a b : EReal => a + b) (H.bDX_at t ht r j)
    (p46 x (X r) G1 _ gm r _ (H.hx r) H.hgm (H.bDH_at t ht r) j)

/-- A block adds its rows' losses. -/
theorem bLoss_at (acc : Vec Ideal S8x128 .f32) (p : Fin 8) (q : Fin 128) (a : EReal) (ha : acc (ix2 p q) = a) :
    bLoss (BitVec.ofNat 32 t) x tgt gm gf w1 w2 acc (ix2 p q)
      = (a + ∑ r : Fin 384, rowL (X r) (T r) G1 G2 W1 W2 (valid (384 * t + r.val))) := by
  pointwise [bLoss, k0_pay43, ha, H.b42_at t ht]
  simp only [half_eq, inv_width_eq, Finset.univ_unique, Finset.sum_const, Finset.card_singleton, one_smul]
  rw [mul_sum_real _ (by norm_num)]
  rfl

/-- A block adds its rows' parts of the final gain's gradient. -/
theorem bDgf_at (acc : Vec Ideal S1x1024 .f32) (j : Fin 1024) (a : EReal) (ha : acc (ix2 0 j) = a) :
    bDgf (BitVec.ofNat 32 t) x tgt gm gf w1 w2 acc (ix2 0 j)
      = (a + ∑ r : Fin 384, rowGF (X r) (T r) G1 G2 W1 W2 (valid (384 * t + r.val)) j) := by
  have h8 : ∀ r, k0_pay8 (bX2 x gm w1 w2) (ix2 r j) = xh (rowY (X r) G1 W1 W2) j := fun r => p8 _ _ r (H.bX2_at r) j
  pointwise [bDgf, cs, ha, H.bD_at t ht, h8]
  rfl

/-- A block adds its rows' parts of the first gain's gradient. -/
theorem bDgm_at (acc : Vec Ideal S1x1024 .f32) (j : Fin 1024) (a : EReal) (ha : acc (ix2 0 j) = a) :
    bDgm (BitVec.ofNat 32 t) x tgt gm gf w1 w2 acc (ix2 0 j)
      = (a + ∑ r : Fin 384, rowGM (X r) (T r) G1 G2 W1 W2 (valid (384 * t + r.val)) j) := by
  have h8 : ∀ r, k0_pay8 x (ix2 r j) = xh (X r) j := fun r => p8 _ _ r (H.hx r) j
  pointwise [bDgm, cs, ha, H.bDH_at t ht, h8]
  rfl

end Holds

end Cert.Kernel2Ideal.Mlp

end
-- ==== Proof.MlpPieces.lean ====
module

public import proofs.«01_k».proof.Proof.Gen.Kernel2Ideal.Value
public import proofs.«01_k».proof.Proof.MlpBlock

/-!
What the perceptron kernel's body leaves in each of its windows: at the first point (`A`), where it copies the weights and
clears the sums, and at a later one (`B`), as values of the block vocabulary.
-/

@[expose] public section

set_option maxRecDepth 16384
set_option maxHeartbeats 4000000

noncomputable section

namespace Cert.Kernel2Ideal.Mlp

open Idealize.ShloMosaic Idealize.ShloMosaic.TcCoe
open Cert.Kernel2Ideal Cert.Kernel2Ideal.Gen

variable {F : FTy → Type} [FloatOps F]

/-- A whole store of rows is what is left. -/
theorem canx {e} [∀ e, Nonempty (Elt F e)] (w : Vec F S384x1024 e) (L) (inb) :
    View.canon ((⟨Rect.unit (s := S384x1024) ![0, 0] ![384, 1024] inb, w⟩ : View.Piece (Elt F) S384x1024 e) :: L) = w :=
  View.canon_cons_unit_zero (S := S384x1024) (by funext a; fin_cases a <;> rfl) inb w L
/-- A whole store of a gain is what is left. -/
theorem cang {e} [∀ e, Nonempty (Elt F e)] (w : Vec F S1x1024 e) (L) (inb) :
    View.canon ((⟨Rect.unit (s := S1x1024) ![0, 0] ![1, 1024] inb, w⟩ : View.Piece (Elt F) S1x1024 e) :: L) = w :=
  View.canon_cons_unit_zero (S := S1x1024) (by funext a; fin_cases a <;> rfl) inb w L
/-- A whole store of the loss is what is left. -/
theorem canl {e} [∀ e, Nonempty (Elt F e)] (w : Vec F S8x128 e) (L) (inb) :
    View.canon ((⟨Rect.unit (s := S8x128) ![0, 0] ![8, 128] inb, w⟩ : View.Piece (Elt F) S8x128 e) :: L) = w :=
  View.canon_cons_unit_zero (S := S8x128) (by funext a; fin_cases a <;> rfl) inb w L
/-- A whole store of a gain is what is read back. -/
theorem covg (v : View sig .tc .vmem S1x1024 .f32) (w : Vec F S1x1024 .f32) (L) (inb inb') :
    v.readCov ((⟨Rect.unit (s := S1x1024) ![0, 0] ![1, 1024] inb, w⟩ : View.Piece (Elt F) S1x1024 .f32) :: L)
      (Rect.unit (s := S1x1024) ![0, 0] ![1, 1024] inb').toLoadRect = w :=
  View.readCov_full (s := S1x1024) v inb' inb w L
/-- A whole store of the loss is what is read back. -/
theorem covl (v : View sig .tc .vmem S8x128 .f32) (w : Vec F S8x128 .f32) (L) (inb inb') :
    v.readCov ((⟨Rect.unit (s := S8x128) ![0, 0] ![8, 128] inb, w⟩ : View.Piece (Elt F) S8x128 .f32) :: L)
      (Rect.unit (s := S8x128) ![0, 0] ![8, 128] inb').toLoadRect = w :=
  View.readCov_full (s := S8x128) v inb' inb w L

/-- Pieces that cover a shape cover it by their rectangles alone. -/
theorem rects {e} {S : Shape} {L : List (View.Piece (Elt F) S e)} (h : ∀ y : S.Idx, ∃ q ∈ L, y ∈ q.1.set) (y : S.Idx) :
    ∃ q ∈ L.map (fun q => q.1), y ∈ q.set :=
  let ⟨q, hq, hy⟩ := h y
  ⟨q.1, List.mem_map_of_mem hq, hy⟩

/-- A rectangle among those of some pieces is the rectangle of one of them. -/
theorem unrects {e} {S : Shape} {L : List (View.Piece (Elt F) S e)} {y : S.Idx} (h : ∃ q ∈ L.map (fun q => q.1), y ∈ q.set) :
    ∃ q ∈ L, y ∈ q.1.set := by
  obtain ⟨r, hr, hy⟩ := h
  obtain ⟨q, hq, rfl⟩ := List.mem_map.mp hr
  exact ⟨q, hq, hy⟩

/-- Eight stores of chunks leave the chunks side by side. -/
theorem can8 {e} [∀ e, Nonempty (Elt F e)] (p : Fin 8 → Vec F S384x512 e) (i0 i1 i2 i3 i4 i5 i6 i7)
    (h : ∀ y : S384x4096.Idx, ∃ q ∈ [Rect.unit (s := S384x4096) ![0, 3584] ![384, 512] i7, Rect.unit (s := S384x4096) ![0, 3072] ![384, 512] i6,
      Rect.unit (s := S384x4096) ![0, 2560] ![384, 512] i5, Rect.unit (s := S384x4096) ![0, 2048] ![384, 512] i4,
      Rect.unit (s := S384x4096) ![0, 1536] ![384, 512] i3, Rect.unit (s := S384x4096) ![0, 1024] ![384, 512] i2,
      Rect.unit (s := S384x4096) ![0, 512] ![384, 512] i1, Rect.unit (s := S384x4096) ![0, 0] ![384, 512] i0], y ∈ q.set) :
    View.canon ([⟨Rect.unit (s := S384x4096) ![0, 3584] ![384, 512] i7, p 7⟩, ⟨Rect.unit (s := S384x4096) ![0, 3072] ![384, 512] i6, p 6⟩,
      ⟨Rect.unit (s := S384x4096) ![0, 2560] ![384, 512] i5, p 5⟩, ⟨Rect.unit (s := S384x4096) ![0, 2048] ![384, 512] i4, p 4⟩,
      ⟨Rect.unit (s := S384x4096) ![0, 1536] ![384, 512] i3, p 3⟩, ⟨Rect.unit (s := S384x4096) ![0, 1024] ![384, 512] i2, p 2⟩,
      ⟨Rect.unit (s := S384x4096) ![0, 512] ![384, 512] i1, p 1⟩, ⟨Rect.unit (s := S384x4096) ![0, 0] ![384, 512] i0, p 0⟩] : List (View.Piece (Elt F) S384x4096 e))
      = glue p := by
  funext y
  refine View.canon_apply_of_pieces (glue p) _ (fun q hq => ?_) y (unrects (h y))
  rcases List.mem_cons.mp hq with rfl | hq
  · exact glue_emb p 7 3584 rfl i7
  rcases List.mem_cons.mp hq with rfl | hq
  · exact glue_emb p 6 3072 rfl i6
  rcases List.mem_cons.mp hq with rfl | hq
  · exact glue_emb p 5 2560 rfl i5
  rcases List.mem_cons.mp hq with rfl | hq
  · exact glue_emb p 4 2048 rfl i4
  rcases List.mem_cons.mp hq with rfl | hq
  · exact glue_emb p 3 1536 rfl i3
  rcases List.mem_cons.mp hq with rfl | hq
  · exact glue_emb p 2 1024 rfl i2
  rcases List.mem_cons.mp hq with rfl | hq
  · exact glue_emb p 1 512 rfl i1
  rcases List.mem_cons.mp hq with rfl | hq
  · exact glue_emb p 0 0 rfl i0
  · exact absurd hq List.not_mem_nil

/-- The gradient of the rows, at a later point. -/
theorem outB4 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1, out0_B_4 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
    = bDX1 (BitVec.ofNat 32 (i 0).val) x0 x1 x2 x3 xs0 xs1 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  unfold out0_B_4
  have cov := cover0_B_4 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  rw [View.read_writes_eq_canon _ _ _ cov]
  unfold kernelRun0_B at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The loss, at a later point. -/
theorem outB5 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1, out0_B_5 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
    = bLoss (BitVec.ofNat 32 (i 0).val) x0 x1 x2 x3 xs0 xs1 xo5 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  unfold out0_B_5
  have cov := cover0_B_5 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  rw [View.read_writes_eq_canon _ _ _ cov]
  unfold kernelRun0_B at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The final gain's gradient, at a later point. -/
theorem outB6 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1, out0_B_6 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
    = bDgf (BitVec.ofNat 32 (i 0).val) x0 x1 x2 x3 xs0 xs1 xo6 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  unfold out0_B_6
  have cov := cover0_B_6 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  rw [View.read_writes_eq_canon _ _ _ cov]
  unfold kernelRun0_B at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The first gain's gradient, at a later point. -/
theorem outB7 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1, out0_B_7 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
    = bDgm (BitVec.ofNat 32 (i 0).val) x0 x1 x2 x3 xs0 xs1 xo7 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  unfold out0_B_7
  have cov := cover0_B_7 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  rw [View.read_writes_eq_canon _ _ _ cov]
  unfold kernelRun0_B at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The normalized rows, at a later point. -/
theorem outB8 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1, out0_B_8 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
    = bH x0 x2 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  unfold out0_B_8
  have cov := cover0_B_8 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  rw [View.read_writes_eq_canon _ _ _ cov]
  unfold kernelRun0_B at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The gradients of the hidden chunks, at a later point. -/
theorem outB9 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1, out0_B_9 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
    = glue (fun k => bDA (BitVec.ofNat 32 (i 0).val) x0 x1 x2 x3 xs0 xs1 k) := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  unfold out0_B_9
  have cov := cover0_B_9 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  rw [View.read_writes_eq_canon _ _ _ cov]
  unfold kernelRun0_B at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  refine can8 (F := F) (e := .bf16) (fun k => bDA  (BitVec.ofNat 32 (i 0).val) x0 x1 x2 x3 xs0 xs1 k) _ _ _ _ _ _ _ _ ?_
  exact rects cov

/-- The squares of the hidden chunks, at a later point. -/
theorem outB10 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1, out0_B_10 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
    = glue (fun k => bS x0 x2 xs0 k) := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  unfold out0_B_10
  have cov := cover0_B_10 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  rw [View.read_writes_eq_canon _ _ _ cov]
  unfold kernelRun0_B at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  refine can8 (F := F) (e := .bf16) (fun k => bS  x0 x2 xs0 k) _ _ _ _ _ _ _ _ ?_
  exact rects cov

/-- The gradient of the residual sum, at a later point. -/
theorem outB11 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1, out0_B_11 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
    = bDXb (BitVec.ofNat 32 (i 0).val) x0 x1 x2 x3 xs0 xs1 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  unfold out0_B_11
  have cov := cover0_B_11 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 xo5 xo6 xo7 xs0 xs1 fh0 fh1
  rw [View.read_writes_eq_canon _ _ _ cov]
  unfold kernelRun0_B at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The gradient of the rows, at the first point. -/
theorem outA4 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1, out0_A_4 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
    = bDX1 (BitVec.ofNat 32 (i 0).val) x0 x1 x2 x3 (ReadAs.same.apply ((View.whole main_v3).read (Elt F) fh0)) (ReadAs.same.apply ((View.whole main_v5).read (Elt F) fh1)) := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  unfold out0_A_4
  have cov := cover0_A_4 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  rw [View.read_writes_eq_canon _ _ _ cov]
  unfold kernelRun0_A at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The loss, at the first point. -/
theorem outA5 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1, out0_A_5 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
    = bLoss (BitVec.ofNat 32 (i 0).val) x0 x1 x2 x3 (ReadAs.same.apply ((View.whole main_v3).read (Elt F) fh0)) (ReadAs.same.apply ((View.whole main_v5).read (Elt F) fh1)) k0_pay4 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  unfold out0_A_5
  have cov := cover0_A_5 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  rw [View.read_writes_eq_canon _ _ _ cov]
  unfold kernelRun0_A at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The final gain's gradient, at the first point. -/
theorem outA6 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1, out0_A_6 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
    = bDgf (BitVec.ofNat 32 (i 0).val) x0 x1 x2 x3 (ReadAs.same.apply ((View.whole main_v3).read (Elt F) fh0)) (ReadAs.same.apply ((View.whole main_v5).read (Elt F) fh1)) k0_pay5 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  unfold out0_A_6
  have cov := cover0_A_6 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  rw [View.read_writes_eq_canon _ _ _ cov]
  unfold kernelRun0_A at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The first gain's gradient, at the first point. -/
theorem outA7 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1, out0_A_7 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
    = bDgm (BitVec.ofNat 32 (i 0).val) x0 x1 x2 x3 (ReadAs.same.apply ((View.whole main_v3).read (Elt F) fh0)) (ReadAs.same.apply ((View.whole main_v5).read (Elt F) fh1)) k0_pay6 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  unfold out0_A_7
  have cov := cover0_A_7 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  rw [View.read_writes_eq_canon _ _ _ cov]
  unfold kernelRun0_A at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The normalized rows, at the first point. -/
theorem outA8 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1, out0_A_8 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
    = bH x0 x2 := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  unfold out0_A_8
  have cov := cover0_A_8 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  rw [View.read_writes_eq_canon _ _ _ cov]
  unfold kernelRun0_A at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

/-- The gradients of the hidden chunks, at the first point. -/
theorem outA9 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1, out0_A_9 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
    = glue (fun k => bDA (BitVec.ofNat 32 (i 0).val) x0 x1 x2 x3 (ReadAs.same.apply ((View.whole main_v3).read (Elt F) fh0)) (ReadAs.same.apply ((View.whole main_v5).read (Elt F) fh1)) k) := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  unfold out0_A_9
  have cov := cover0_A_9 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  rw [View.read_writes_eq_canon _ _ _ cov]
  unfold kernelRun0_A at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  refine can8 (F := F) (e := .bf16) (fun k => bDA  (BitVec.ofNat 32 (i 0).val) x0 x1 x2 x3 (ReadAs.same.apply ((View.whole main_v3).read (Elt F) fh0)) (ReadAs.same.apply ((View.whole main_v5).read (Elt F) fh1)) k) _ _ _ _ _ _ _ _ ?_
  exact rects cov

/-- The squares of the hidden chunks, at the first point. -/
theorem outA10 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1, out0_A_10 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
    = glue (fun k => bS x0 x2 (ReadAs.same.apply ((View.whole main_v3).read (Elt F) fh0)) k) := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  unfold out0_A_10
  have cov := cover0_A_10 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  rw [View.read_writes_eq_canon _ _ _ cov]
  unfold kernelRun0_A at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  refine can8 (F := F) (e := .bf16) (fun k => bS  x0 x2 (ReadAs.same.apply ((View.whole main_v3).read (Elt F) fh0)) k) _ _ _ _ _ _ _ _ ?_
  exact rects cov

/-- The gradient of the residual sum, at the first point. -/
theorem outA11 : ∀ c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1, out0_A_11 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
    = bDXb (BitVec.ofNat 32 (i 0).val) x0 x1 x2 x3 (ReadAs.same.apply ((View.whole main_v3).read (Elt F) fh0)) (ReadAs.same.apply ((View.whole main_v5).read (Elt F) fh1)) := by
  intro c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  unfold out0_A_11
  have cov := cover0_A_11 (F := F) c i arg1 harg1 arg2 harg2 arg3 harg3 arg4 harg4 arg7 harg7 arg8 harg8 arg9 harg9 arg10 harg10 arg11 harg11 arg12 harg12 arg13 harg13 arg14 harg14 arg15 harg15 arg16 harg16 arg17 harg17 hc0 hc1 x0 x1 x2 x3 fh0 fh1
  rw [View.read_writes_eq_canon _ _ _ cov]
  unfold kernelRun0_A at cov ⊢
  dsimp only at cov ⊢
  sl_unfold_words
  simp (disch := decide) only [View.readAt_eq_ld, Memref.IsWhole.read_unread, ldx, ldg, ldl, ldw1, ldw2, covw1, covw2, covg, covl, rchit, rcskip, canx, cang, canl,
    b12, b19, b22, b26, b29, b33, b36, b13, b20, b23, b27, b30, b34, b37, b17, b24, b31, b38, b39, b40, b45, b2, b48, b49, b51, b54, b55, b57, b58, b60, b52, b56, b59, b3]
  rfl

end Cert.Kernel2Ideal.Mlp

end
-- ==== Proof.MlpState.lean ====
module

public import proofs.«01_k».proof.Proof.MlpPieces

/-!
What the perceptron kernel's windows and its two copies of weights hold after each of the 22 points, in the block vocabulary.
-/

@[expose] public section

set_option maxRecDepth 16384
set_option maxHeartbeats 4000000

noncomputable section

namespace Cert.Kernel2Ideal.Mlp

open Idealize.ShloMosaic Idealize.ShloMosaic.TcCoe
open Cert.Kernel2Ideal Cert.Kernel2Ideal.Gen

variable {F : FTy → Type} [FloatOps F]
variable (m : (ℓ : Loc nD τ sig) → Buf (Elt F) ℓ) (c : Dev nD)

/-- The point's number as a word. -/
abbrev aw (t : Fin cfg0.N) : BitVec 32 := BitVec.ofNat 32 ((grid0.coords t) 0).val

/-- The first point copies the first weight. -/
theorem first_s0 (t : Fin cfg0.N) (h : t.val % 22 = 0) : (outsAt0 m c t.val t.isLt).2.2.2.2.2.2.2.2.1 = V m c main_v3 := by
  rw [outsAt0_A m c t h h]
  dsimp only
  unfold sout0_A_0
  rw [View.read_writes_eq_canon _ _ _ (scover0_A_0 _ _ _ _ _ _ _ _ _ _ _ _ _ _ _ _ _ _ _ _ _ _ _ _ _ _ _ _ _ _ _ _ _ _ _ _ _ _ _ _)]
  unfold kernelRun0_A
  dsimp only
  sl_unfold_words
  exact View.canon_unit_zero (S := S8x1024x512) (by funext a; rfl) _ _

/-- The first point copies the second weight. -/
theorem first_s1 (t : Fin cfg0.N) (h : t.val % 22 = 0) : (outsAt0 m c t.val t.isLt).2.2.2.2.2.2.2.2.2 = V m c main_v5 := by
  rw [outsAt0_A m c t h h]
  dsimp only
  unfold sout0_A_1
  rw [View.read_writes_eq_canon _ _ _ (scover0_A_1 _ _ _ _ _ _ _ _ _ _ _ _ _ _ _ _ _ _ _ _ _ _ _ _ _ _ _ _ _ _ _ _ _ _ _ _ _ _ _ _)]
  unfold kernelRun0_A
  dsimp only
  sl_unfold_words
  exact View.canon_unit_zero (S := S8x512x1024) (by funext a; rfl) _ _

/-- Every point finds the two weights where the first put them. -/
theorem weights : ∀ (n : ℕ) (hn : n < cfg0.N), (outsAt0 m c n hn).2.2.2.2.2.2.2.2.1 = V m c main_v3
    ∧ (outsAt0 m c n hn).2.2.2.2.2.2.2.2.2 = V m c main_v5
  | 0, hn => ⟨first_s0 m c ⟨0, hn⟩ (Nat.zero_mod _), first_s1 m c ⟨0, hn⟩ (Nat.zero_mod _)⟩
  | n + 1, hn => by
    have hN : n + 1 < 22 := hn
    have hB := outsAt0_B m c ⟨n + 1, hn⟩ (by show ¬ (n + 1) % 22 = 0; omega) (by show ¬ (n + 1) % 22 = 0; omega)
    dsimp only at hB
    rw [hB]
    exact weights n (Nat.lt_of_succ_lt hn)

/-- What a point leaves of the gradient of the rows. -/
theorem pt4 (t : Fin cfg0.N) : (outsAt0 m c t.val t.isLt).1 = bDX1 (aw t) (iblk m c 0 t) (iblk m c 1 t) (iblk m c 2 t) (iblk m c 3 t) (V m c main_v3) (V m c main_v5) := by
  by_cases h : t.val % 22 = 0
  · rw [outsAt0_A m c t h h]
    dsimp only
    rw [outA4 (F := F)]
    all_goals rfl
  · rw [outsAt0_B m c t h h]
    dsimp only
    rw [outB4 (F := F), (weights m c _ _).1, (weights m c _ _).2]

/-- What a point leaves of the normalized rows. -/
theorem pt8 (t : Fin cfg0.N) : (outsAt0 m c t.val t.isLt).2.2.2.2.1 = bH (iblk m c 0 t) (iblk m c 2 t) := by
  by_cases h : t.val % 22 = 0
  · rw [outsAt0_A m c t h h]
    dsimp only
    rw [outA8 (F := F)]
    all_goals rfl
  · rw [outsAt0_B m c t h h]
    dsimp only
    rw [outB8 (F := F)]

/-- What a point leaves of the gradients of the hidden chunks. -/
theorem pt9 (t : Fin cfg0.N) : (outsAt0 m c t.val t.isLt).2.2.2.2.2.1 = glue (fun k => bDA (aw t) (iblk m c 0 t) (iblk m c 1 t) (iblk m c 2 t) (iblk m c 3 t) (V m c main_v3) (V m c main_v5) k) := by
  by_cases h : t.val % 22 = 0
  · rw [outsAt0_A m c t h h]
    dsimp only
    rw [outA9 (F := F)]
    all_goals rfl
  · rw [outsAt0_B m c t h h]
    dsimp only
    rw [outB9 (F := F), (weights m c _ _).1, (weights m c _ _).2]

/-- What a point leaves of the squares of the hidden chunks. -/
theorem pt10 (t : Fin cfg0.N) : (outsAt0 m c t.val t.isLt).2.2.2.2.2.2.1 = glue (fun k => bS (iblk m c 0 t) (iblk m c 2 t) (V m c main_v3) k) := by
  by_cases h : t.val % 22 = 0
  · rw [outsAt0_A m c t h h]
    dsimp only
    rw [outA10 (F := F)]
    all_goals rfl
  · rw [outsAt0_B m c t h h]
    dsimp only
    rw [outB10 (F := F), (weights m c _ _).1]

/-- What a point leaves of the gradient of the residual sum. -/
theorem pt11 (t : Fin cfg0.N) : (outsAt0 m c t.val t.isLt).2.2.2.2.2.2.2.1 = bDXb (aw t) (iblk m c 0 t) (iblk m c 1 t) (iblk m c 2 t) (iblk m c 3 t) (V m c main_v3) (V m c main_v5) := by
  by_cases h : t.val % 22 = 0
  · rw [outsAt0_A m c t h h]
    dsimp only
    rw [outA11 (F := F)]
    all_goals rfl
  · rw [outsAt0_B m c t h h]
    dsimp only
    rw [outB11 (F := F), (weights m c _ _).1, (weights m c _ _).2]

/-- What the first point leaves of the loss. -/
theorem pt5_zero (t : Fin cfg0.N) (h : t.val % 22 = 0) : (outsAt0 m c t.val t.isLt).2.1 = bLoss (aw t) (iblk m c 0 t) (iblk m c 1 t) (iblk m c 2 t) (iblk m c 3 t) (V m c main_v3) (V m c main_v5) k0_pay4 := by
  rw [outsAt0_A m c t h h]
  dsimp only
  rw [outA5 (F := F)]
  all_goals rfl

/-- What a later point leaves of the loss, over what the one before left. -/
theorem pt5_succ (t : Fin cfg0.N) (h : ¬t.val % 22 = 0) : (outsAt0 m c t.val t.isLt).2.1
    = bLoss (aw t) (iblk m c 0 t) (iblk m c 1 t) (iblk m c 2 t) (iblk m c 3 t) (V m c main_v3) (V m c main_v5) (outsAt0 m c (t.val - 1) (Nat.lt_of_le_of_lt (Nat.sub_le _ _) t.isLt)).2.1 := by
  rw [outsAt0_B m c t h h]
  dsimp only
  rw [outB5 (F := F), (weights m c _ _).1, (weights m c _ _).2]

/-- What the first point leaves of the final gain's gradient. -/
theorem pt6_zero (t : Fin cfg0.N) (h : t.val % 22 = 0) : (outsAt0 m c t.val t.isLt).2.2.1 = bDgf (aw t) (iblk m c 0 t) (iblk m c 1 t) (iblk m c 2 t) (iblk m c 3 t) (V m c main_v3) (V m c main_v5) k0_pay5 := by
  rw [outsAt0_A m c t h h]
  dsimp only
  rw [outA6 (F := F)]
  all_goals rfl

/-- What a later point leaves of the final gain's gradient, over what the one before left. -/
theorem pt6_succ (t : Fin cfg0.N) (h : ¬t.val % 22 = 0) : (outsAt0 m c t.val t.isLt).2.2.1
    = bDgf (aw t) (iblk m c 0 t) (iblk m c 1 t) (iblk m c 2 t) (iblk m c 3 t) (V m c main_v3) (V m c main_v5) (outsAt0 m c (t.val - 1) (Nat.lt_of_le_of_lt (Nat.sub_le _ _) t.isLt)).2.2.1 := by
  rw [outsAt0_B m c t h h]
  dsimp only
  rw [outB6 (F := F), (weights m c _ _).1, (weights m c _ _).2]

/-- What the first point leaves of the first gain's gradient. -/
theorem pt7_zero (t : Fin cfg0.N) (h : t.val % 22 = 0) : (outsAt0 m c t.val t.isLt).2.2.2.1 = bDgm (aw t) (iblk m c 0 t) (iblk m c 1 t) (iblk m c 2 t) (iblk m c 3 t) (V m c main_v3) (V m c main_v5) k0_pay6 := by
  rw [outsAt0_A m c t h h]
  dsimp only
  rw [outA7 (F := F)]
  all_goals rfl

/-- What a later point leaves of the first gain's gradient, over what the one before left. -/
theorem pt7_succ (t : Fin cfg0.N) (h : ¬t.val % 22 = 0) : (outsAt0 m c t.val t.isLt).2.2.2.1
    = bDgm (aw t) (iblk m c 0 t) (iblk m c 1 t) (iblk m c 2 t) (iblk m c 3 t) (V m c main_v3) (V m c main_v5) (outsAt0 m c (t.val - 1) (Nat.lt_of_le_of_lt (Nat.sub_le _ _) t.isLt)).2.2.2.1 := by
  rw [outsAt0_B m c t h h]
  dsimp only
  rw [outB7 (F := F), (weights m c _ _).1, (weights m c _ _).2]

end Cert.Kernel2Ideal.Mlp

end
-- ==== Proof.MlpHost.lean ====
module

public import proofs.«01_k».proof.Proof.MlpAt
public import proofs.«01_k».proof.Proof.MlpState
public import Idealize.ShloMosaic.Lib.Pipeline.ValueKit
public import Idealize.ShloMosaic.Lib.StableHlo.ReadAt

/-!
What the host code leaves in the six arrays that the perceptron kernel reads, entry by entry, and which of their entries
the blocks of a point hold.
-/

@[expose] public section

set_option maxRecDepth 16384

noncomputable section

namespace Cert.Kernel2Ideal.Mlp

open Idealize.ShloMosaic Idealize.ShloMosaic.TcCoe
open Cert.Kernel2Ideal Cert.Kernel2Ideal.Gen Cert.Mlp

variable (m : (ℓ : Loc nD τ sig) → Buf (Elt Ideal) ℓ) (c : Dev nD)

/-- The rows. -/
abbrev argX : FVec Ideal S8448x1024 .f32 := m ((c : Thread nD τ).loc main_arg0)
/-- The targets. -/
abbrev argT : FVec Ideal S8192x1024 .f32 := m ((c : Thread nD τ).loc main_arg1)
/-- The first gain. -/
abbrev argG : FVec Ideal S1024 .f32 := m ((c : Thread nD τ).loc main_arg2)
/-- The final gain. -/
abbrev argH : FVec Ideal S1024 .f32 := m ((c : Thread nD τ).loc main_arg3)
/-- The first weight. -/
abbrev argW : FVec Ideal S1024x4096 .f32 := m ((c : Thread nD τ).loc main_arg4)
/-- The second weight. -/
abbrev argU : FVec Ideal S4096x1024 .f32 := m ((c : Thread nD τ).loc main_arg5)

/-- The number that the padding is made of is zero. -/
theorem padding : (FloatOps.sitofp (F := Ideal) .f32 (0#32) : EReal) = 0 := by
  show (((0#32 : BitVec 32).toInt : ℝ) : EReal) = 0
  simp

/-- The arrays at the call are those that the host code leaves. -/
theorem V_eq (b : Ref sig .tc) : V m c b = StableHlo.after (hostOps0 ++ (hostOps0_1 ++ hostOps0_2)) (fun b => m (c, b)) b := rfl

/-- The rows are as given. -/
theorem x_at (n : Fin 8448) (j : Fin 1024) : (V m c main_arg0 : Vec Ideal S8448x1024 .f32) (ix2 n j) = argX m c (ix2 n j) := by
  rw [V_eq]
  after_reads_at

/-- The targets, sixteen rows further down, zero elsewhere. -/
theorem t_at (n : Fin 8448) (j : Fin 1024) : (V m c main_v0 : Vec Ideal S8448x1024 .f32) (ix2 n j)
    = (if h : 16 ≤ n.val ∧ n.val - 16 < 8192 then argT m c (ix2 ⟨n.val - 16, h.2⟩ j) else 0 : EReal) := by
  rw [V_eq]
  after_reads_at
  rw [padding]

/-- The first gain, as a row. -/
theorem g_at (j : Fin 1024) : (V m c main_v6 : Vec Ideal S1x1024 .f32) (ix2 0 j) = argG m c (ix1 j) := by
  rw [V_eq]
  after_reads_at

/-- The final gain, as a row. -/
theorem h_at (j : Fin 1024) : (V m c main_v7 : Vec Ideal S1x1024 .f32) (ix2 0 j) = argH m c (ix1 j) := by
  rw [V_eq]
  after_reads_at

/-- The first weight, its columns in eight chunks. -/
theorem w_at (k : Fin 8) (j : Fin 1024) (f : Fin 512) :
    (V m c main_v3 : Vec Ideal S8x1024x512 .bf16) (ix3 k j f) = argW m c (ix2 j (fch k f)) := by
  rw [V_eq]
  after_reads_at
  exact congrArg (fun f => argW m c (ix2 j f)) (Fin.ext (by show k.val * 512 + f.val = 512 * k.val + f.val; omega))

/-- The second weight, its rows in eight chunks. -/
theorem u_at (k : Fin 8) (f : Fin 512) (j : Fin 1024) :
    (V m c main_v5 : Vec Ideal S8x512x1024 .bf16) (ix3 k f j) = argU m c (ix2 (fch k f) j) := by
  rw [V_eq]
  after_reads_at
  exact congrArg (fun f => argU m c (ix2 f j)) (Fin.ext (by show k.val * 512 + f.val = 512 * k.val + f.val; omega))

/-! ## The blocks of a point -/

/-- Row `r` of block `t` of twenty-two. -/
def at384 (t : Fin 22) (r : Fin 384) : Fin 8448 := ⟨384 * t.val + r.val, by omega⟩

/-- A sum over the rows, block by block. -/
theorem sum_rows (f : Fin 8448 → EReal) : ∑ n, f n = ∑ t : Fin 22, ∑ r : Fin 384, f (at384 t r) := by
  rw [← Equiv.sum_comp (finProdFinEquiv (m := 22) (n := 384)) f, Fintype.sum_prod_type]
  refine Finset.sum_congr rfl fun k _ => Finset.sum_congr rfl fun r _ => congrArg f (Fin.ext ?_)
  show r.val + 384 * k.val = 384 * k.val + r.val
  omega

/-- A point of the grid. -/
def pt (t : Fin 22) : Fin cfg0.N := ⟨t.val, by rw [show cfg0.N = 22 from N_0]; exact t.isLt⟩

/-- Every point is one of the twenty-two. -/
theorem point_of (t : Fin cfg0.N) : ∃ s : Fin 22, t = pt s := ⟨⟨t.val, t.isLt⟩, rfl⟩

/-- A point's number as a word. -/
theorem aw_pt : ∀ t : Fin 22, aw (pt t) = BitVec.ofNat 32 t.val := by decide +kernel

/-- Each window's block number at a point of the grid. -/
theorem idx : ∀ t : Fin 22, win0_0.index (pt t) = ![t.val, 0] ∧ win0_1.index (pt t) = ![t.val, 0]
    ∧ win0_2.index (pt t) = ![0, 0] ∧ win0_3.index (pt t) = ![0, 0]
    ∧ win0_4.index (pt t) = ![t.val, 0] ∧ win0_5.index (pt t) = ![0, 0]
    ∧ win0_6.index (pt t) = ![0, 0] ∧ win0_7.index (pt t) = ![0, 0]
    ∧ win0_8.index (pt t) = ![t.val, 0] ∧ win0_9.index (pt t) = ![t.val, 0]
    ∧ win0_10.index (pt t) = ![t.val, 0] ∧ win0_11.index (pt t) = ![t.val, 0] := by
  decide +kernel

section
variable (t : Fin 22)

/-- The rows' block. -/
theorem blk0 (r : Fin 384) (j : Fin 1024) : (iblk m c 0 (pt t) : Vec Ideal S384x1024 .f32) (ix2 r j)
    = (V m c main_arg0 : Vec Ideal S8448x1024 .f32) (ix2 (at384 t r) j) := by
  blk_ext [iblk, idx t, at384]

/-- The targets' block. -/
theorem blk1 (r : Fin 384) (j : Fin 1024) : (iblk m c 1 (pt t) : Vec Ideal S384x1024 .f32) (ix2 r j)
    = (V m c main_v0 : Vec Ideal S8448x1024 .f32) (ix2 (at384 t r) j) := by
  blk_ext [iblk, idx t, at384]

/-- The first gain's block is all of it. -/
theorem blk2 (j : Fin 1024) : (iblk m c 2 (pt t) : Vec Ideal S1x1024 .f32) (ix2 0 j)
    = (V m c main_v6 : Vec Ideal S1x1024 .f32) (ix2 0 j) := by
  blk_ext [iblk, idx t, at384]

/-- The final gain's block is all of it. -/
theorem blk3 (j : Fin 1024) : (iblk m c 3 (pt t) : Vec Ideal S1x1024 .f32) (ix2 0 j)
    = (V m c main_v7 : Vec Ideal S1x1024 .f32) (ix2 0 j) := by
  blk_ext [iblk, idx t, at384]
end

/-! ## The arguments as functions -/

/-- The six arguments are these functions; a target row counts from row sixteen on. -/
structure Args (X T : Fin 8448 → Fin 1024 → EReal) (G1 G2 : Fin 1024 → EReal) (W1 : Fin 1024 → Fin 4096 → EReal)
    (W2 : Fin 4096 → Fin 1024 → EReal) : Prop where
  hx : ∀ n j, argX m c (ix2 n j) = X n j
  ht : ∀ (n : Fin 8192) j, argT m c (ix2 n j) = T ⟨16 + n.val, by omega⟩ j
  hz : ∀ (n : Fin 8448) j, ¬ (16 ≤ n.val ∧ n.val - 16 < 8192) → T n j = 0
  hg : ∀ j, argG m c (ix1 j) = G1 j
  hh : ∀ j, argH m c (ix1 j) = G2 j
  hw : ∀ j f, argW m c (ix2 j f) = W1 j f
  hu : ∀ f j, argU m c (ix2 f j) = W2 f j

variable {m c} {X T : Fin 8448 → Fin 1024 → EReal} {G1 G2 : Fin 1024 → EReal} {W1 : Fin 1024 → Fin 4096 → EReal}
  {W2 : Fin 4096 → Fin 1024 → EReal}

/-- A point's blocks hold those functions. -/
theorem Args.holds (A : Args m c X T G1 G2 W1 W2) (t : Fin 22) :
    Holds (iblk m c 0 (pt t)) (iblk m c 1 (pt t)) (iblk m c 2 (pt t)) (iblk m c 3 (pt t)) (V m c main_v3) (V m c main_v5)
      (fun r => X (at384 t r)) (fun r => T (at384 t r)) G1 G2 W1 W2 where
  hx r j := by rw [blk0, x_at, A.hx]
  ht r j := by
    rw [blk1, t_at]
    by_cases h : 16 ≤ (at384 t r).val ∧ (at384 t r).val - 16 < 8192
    · rw [dif_pos h, A.ht]
      exact congrArg (fun n => (T n j)) (Fin.ext (by show 16 + ((at384 t r).val - 16) = (at384 t r).val; omega))
    · rw [dif_neg h, A.hz _ _ h]
  hgm j := by rw [blk2, g_at, A.hg]
  hgf j := by rw [blk3, h_at, A.hh]
  hw1 k j f := by rw [w_at, A.hw]
  hw2 k f j := by rw [u_at, A.hu]

end Cert.Kernel2Ideal.Mlp

end
-- ==== Proof.MlpArr.lean ====
module

public import proofs.«01_k».proof.Proof.MlpHost

/-!
The eight arrays that the perceptron kernel leaves, entry by entry: rows of the row functions, and for the
loss and the gains' gradients the sums over all rows.
-/

@[expose] public section

set_option maxRecDepth 16384

noncomputable section

namespace Cert.Kernel2Ideal.Mlp

open Idealize.ShloMosaic Idealize.ShloMosaic.TcCoe
open Cert.Kernel2Ideal Cert.Kernel2Ideal.Gen Cert.Mlp

variable {m : (ℓ : Loc nD τ sig) → Buf (Elt Ideal) ℓ} {c : Dev nD} {X T : Fin 8448 → Fin 1024 → EReal} {G1 G2 : Fin 1024 → EReal}
  {W1 : Fin 1024 → Fin 4096 → EReal} {W2 : Fin 4096 → Fin 1024 → EReal}

/-- The chunk of a hidden column and the place there give the column back. -/
theorem fch_eq (f : Fin 4096) (h h') : fch ⟨f.val / 512, h⟩ ⟨f.val % 512, h'⟩ = f :=
  Fin.ext (by show 512 * (f.val / 512) + f.val % 512 = f.val; omega)

section
variable (X T G1 G2 W1 W2)
/-- The gradient of the rows. -/
def arr4 : Vec Ideal S8448x1024 .f32 := fun x => rowDX1 (X (x 0)) (T (x 0)) G1 G2 W1 W2 (valid (x 0).val) (x 1)
/-- The loss, in every entry of its tile. -/
def arr5 : Vec Ideal S8x128 .f32 := fun _ => (∑ n : Fin 8448, rowL (X n) (T n) G1 G2 W1 W2 (valid n.val))
/-- The final gain's gradient. -/
def arr6 : Vec Ideal S1x1024 .f32 := fun x => (∑ n : Fin 8448, rowGF (X n) (T n) G1 G2 W1 W2 (valid n.val) (x 1))
/-- The first gain's gradient. -/
def arr7 : Vec Ideal S1x1024 .f32 := fun x => (∑ n : Fin 8448, rowGM (X n) (T n) G1 G2 W1 W2 (valid n.val) (x 1))
/-- The normalized rows. -/
def arr8 : Vec Ideal S8448x1024 .bf16 := fun x => rowH (X (x 0)) G1 (x 1)
/-- The gradients of the hidden layer. -/
def arr9 : Vec Ideal S8448x4096 .bf16 := fun x => rowDA (X (x 0)) (T (x 0)) G1 G2 W1 W2 (valid (x 0).val) (x 1)
/-- The hidden layer's squares. -/
def arr10 : Vec Ideal S8448x4096 .bf16 := fun x => (rowA (X (x 0)) G1 W1 (x 1) * rowA (X (x 0)) G1 W1 (x 1))
/-- The gradient of the residual sum. -/
def arr11 : Vec Ideal S8448x1024 .bf16 := fun x => rowDX (X (x 0)) (T (x 0)) G1 G2 W1 W2 (valid (x 0).val) (x 1)
end

variable (A : Args m c X T G1 G2 W1 W2)
include A

/-- After all points the first array holds the gradient of the rows. -/
theorem Args.at4 : (dats m 0 c).arrAt 4 cfg0.N = arr4 X T G1 G2 W1 W2 := by
  refine (dats m 0 c).arrAt_eq_of_covers 4 (arr4 X T G1 G2 W1 W2) (by decide +kernel) fun t hf y => ?_
  clear hf
  obtain ⟨t, rfl⟩ := point_of t
  rw [after0_4, pt4, aw_pt]
  blk_simp
  revert y
  show ∀ y : S384x1024.Idx, _
  intro y
  idx_vars y
  refine ((A.holds t).bDX1_at t.val t.isLt y0 y1).trans ?_
  show arr4 X T G1 G2 W1 W2 (ix2 (at384 t y0) y1) = _
  blk_ext [idx t, at384]

/-- The normalized rows. -/
theorem Args.at8 : (dats m 0 c).arrAt 8 cfg0.N = arr8 X G1 := by
  refine (dats m 0 c).arrAt_eq_of_covers 8 (arr8 X G1) (by decide +kernel) fun t hf y => ?_
  clear hf
  obtain ⟨t, rfl⟩ := point_of t
  rw [after0_8, pt8]
  blk_simp
  revert y
  show ∀ y : S384x1024.Idx, _
  intro y
  idx_vars y
  refine ((A.holds t).bH_at y0 y1).trans ?_
  show arr8 X G1 (ix2 (at384 t y0) y1) = _
  blk_ext [idx t, at384]

/-- The gradient of the residual sum. -/
theorem Args.at11 : (dats m 0 c).arrAt 11 cfg0.N = arr11 X T G1 G2 W1 W2 := by
  refine (dats m 0 c).arrAt_eq_of_covers 11 (arr11 X T G1 G2 W1 W2) (by decide +kernel) fun t hf y => ?_
  clear hf
  obtain ⟨t, rfl⟩ := point_of t
  rw [after0_11, pt11, aw_pt]
  blk_simp
  revert y
  show ∀ y : S384x1024.Idx, _
  intro y
  idx_vars y
  refine ((A.holds t).bDXb_at t.val t.isLt y0 y1).trans ?_
  show arr11 X T G1 G2 W1 W2 (ix2 (at384 t y0) y1) = _
  blk_ext [idx t, at384]

/-- The eight chunks of a point's gradient of the hidden layer, side by side. -/
theorem Args.chunks9 (t : Fin 22) (r : Fin 384) (f : Fin 4096) :
    (glue (fun k => bDA (BitVec.ofNat 32 t.val) (iblk m c 0 (pt t)) (iblk m c 1 (pt t)) (iblk m c 2 (pt t)) (iblk m c 3 (pt t))
      (V m c main_v3) (V m c main_v5) k) : Vec Ideal S384x4096 .bf16) (ix2 r f)
      = rowDA (X (at384 t r)) (T (at384 t r)) G1 G2 W1 W2 (valid (at384 t r).val) f := by
  refine ((A.holds t).bDA_at t.val t.isLt r ⟨f.val / 512, _⟩ ⟨f.val % 512, _⟩).trans ?_
  exact congrArg (fun g => (rowDA (X (at384 t r)) (T (at384 t r)) G1 G2 W1 W2 (valid (at384 t r).val) g)) (fch_eq f _ _)

/-- The eight chunks of a point's squares, side by side. -/
theorem Args.chunks10 (t : Fin 22) (r : Fin 384) (f : Fin 4096) :
    (glue (fun k => bS (iblk m c 0 (pt t)) (iblk m c 2 (pt t)) (V m c main_v3) k) : Vec Ideal S384x4096 .bf16) (ix2 r f)
      = (rowA (X (at384 t r)) G1 W1 f * rowA (X (at384 t r)) G1 W1 f) := by
  refine ((A.holds t).bS_at r ⟨f.val / 512, _⟩ ⟨f.val % 512, _⟩).trans ?_
  exact congrArg (fun g => (rowA (X (at384 t r)) G1 W1 g * rowA (X (at384 t r)) G1 W1 g)) (fch_eq f _ _)

/-- The gradients of the hidden layer. -/
theorem Args.at9 : (dats m 0 c).arrAt 9 cfg0.N = arr9 X T G1 G2 W1 W2 := by
  refine (dats m 0 c).arrAt_eq_of_covers 9 (arr9 X T G1 G2 W1 W2) (by decide +kernel) fun t hf y => ?_
  clear hf
  obtain ⟨t, rfl⟩ := point_of t
  rw [after0_9, pt9, aw_pt]
  blk_simp
  revert y
  show ∀ y : S384x4096.Idx, _
  intro y
  idx_vars y
  refine (A.chunks9 t y0 y1).trans ?_
  show arr9 X T G1 G2 W1 W2 (ix2 (at384 t y0) y1) = _
  blk_ext [idx t, at384]

/-- The hidden layer's squares. -/
theorem Args.at10 : (dats m 0 c).arrAt 10 cfg0.N = arr10 X G1 W1 := by
  refine (dats m 0 c).arrAt_eq_of_covers 10 (arr10 X G1 W1) (by decide +kernel) fun t hf y => ?_
  clear hf
  obtain ⟨t, rfl⟩ := point_of t
  rw [after0_10, pt10]
  blk_simp
  revert y
  show ∀ y : S384x4096.Idx, _
  intro y
  idx_vars y
  refine (A.chunks10 t y0 y1).trans ?_
  show arr10 X G1 W1 (ix2 (at384 t y0) y1) = _
  blk_ext [idx t, at384]

omit A in
/-- The loss starts at zero. -/
theorem zero5 (x : S8x128.Idx) : k0_pay4 (F := Ideal) x = 0 := by
  idx_vars x
  pointwise [k0_pay4]

/-- The loss after a point, summed over the points so far. -/
theorem Args.acc5 (p : Fin 8) (q : Fin 128) : ∀ (n : ℕ) (hn : n < 22), (outsAt0 m c n hn).2.1 (ix2 p q)
    = (∑ s : Fin (n + 1), ∑ r : Fin 384, rowL (X (at384 ⟨s.val, Nat.lt_of_lt_of_le s.isLt hn⟩ r)) (T (at384 ⟨s.val, Nat.lt_of_lt_of_le s.isLt hn⟩ r)) G1 G2 W1 W2 (valid (at384 ⟨s.val, Nat.lt_of_lt_of_le s.isLt hn⟩ r).val))
  | 0, hn => by
    rw [Fin.sum_univ_one]
    have e := pt5_zero m c (pt ⟨0, hn⟩) (by show 0 % 22 = 0; omega)
    rw [aw_pt] at e
    refine (congrFun e (ix2 p q)).trans (((A.holds ⟨0, hn⟩).bLoss_at 0 hn _ p q 0 (zero5 _)).trans ?_)
    rw [zero_add]
    rfl
  | n + 1, hn => by
    rw [Fin.sum_univ_castSucc]
    have e := pt5_succ m c (pt ⟨n + 1, hn⟩) (by show ¬ (n + 1) % 22 = 0; omega)
    rw [aw_pt] at e
    exact (congrFun e (ix2 p q)).trans ((A.holds ⟨n + 1, hn⟩).bLoss_at (n + 1) hn _ p q _ (Args.acc5 p q n (Nat.lt_of_succ_lt hn)))

/-- After all points its array holds the loss, summed over all rows. -/
theorem Args.at5 : (dats m 0 c).arrAt 5 cfg0.N = arr5 X T G1 G2 W1 W2 := by
  refine (dats m 0 c).arrAt_eq_of_covers 5 (arr5 X T G1 G2 W1 W2) (by decide +kernel) fun t hf y => ?_
  have ht := (flush0_5 t).mp hf
  clear hf
  obtain ⟨t, rfl⟩ := point_of t
  obtain rfl : t = 21 := Fin.ext (by have h : t.val % 22 = 21 := ht; have := t.isLt; show t.val = 21; omega)
  rw [after0_5]
  blk_simp
  revert y
  show ∀ y : S8x128.Idx, _
  intro y
  idx_vars y
  refine (A.acc5 y0 y1 21 (by omega)).trans ?_
  refine (sum_rows fun n => rowL (X n) (T n) G1 G2 W1 W2 (valid n.val)).symm.trans ?_
  rfl

omit A in
/-- The final gain's gradient starts at zero. -/
theorem zero6 (x : S1x1024.Idx) : k0_pay5 (F := Ideal) x = 0 := by
  idx_vars x
  pointwise [k0_pay5]

/-- The final gain's gradient after a point, summed over the points so far. -/
theorem Args.acc6 (j : Fin 1024) : ∀ (n : ℕ) (hn : n < 22), (outsAt0 m c n hn).2.2.1 (ix2 0 j)
    = (∑ s : Fin (n + 1), ∑ r : Fin 384, rowGF (X (at384 ⟨s.val, Nat.lt_of_lt_of_le s.isLt hn⟩ r)) (T (at384 ⟨s.val, Nat.lt_of_lt_of_le s.isLt hn⟩ r)) G1 G2 W1 W2 (valid (at384 ⟨s.val, Nat.lt_of_lt_of_le s.isLt hn⟩ r).val) j)
  | 0, hn => by
    rw [Fin.sum_univ_one]
    have e := pt6_zero m c (pt ⟨0, hn⟩) (by show 0 % 22 = 0; omega)
    rw [aw_pt] at e
    refine (congrFun e (ix2 0 j)).trans (((A.holds ⟨0, hn⟩).bDgf_at 0 hn _ j 0 (zero6 _)).trans ?_)
    rw [zero_add]
    rfl
  | n + 1, hn => by
    rw [Fin.sum_univ_castSucc]
    have e := pt6_succ m c (pt ⟨n + 1, hn⟩) (by show ¬ (n + 1) % 22 = 0; omega)
    rw [aw_pt] at e
    exact (congrFun e (ix2 0 j)).trans ((A.holds ⟨n + 1, hn⟩).bDgf_at (n + 1) hn _ j _ (Args.acc6 j n (Nat.lt_of_succ_lt hn)))

/-- After all points its array holds the final gain's gradient, summed over all rows. -/
theorem Args.at6 : (dats m 0 c).arrAt 6 cfg0.N = arr6 X T G1 G2 W1 W2 := by
  refine (dats m 0 c).arrAt_eq_of_covers 6 (arr6 X T G1 G2 W1 W2) (by decide +kernel) fun t hf y => ?_
  have ht := (flush0_6 t).mp hf
  clear hf
  obtain ⟨t, rfl⟩ := point_of t
  obtain rfl : t = 21 := Fin.ext (by have h : t.val % 22 = 21 := ht; have := t.isLt; show t.val = 21; omega)
  rw [after0_6]
  blk_simp
  revert y
  show ∀ y : S1x1024.Idx, _
  intro y
  idx_vars y
  obtain rfl : y0 = 0 := Subsingleton.elim _ _
  refine (A.acc6 y1 21 (by omega)).trans ?_
  refine (sum_rows fun n => rowGF (X n) (T n) G1 G2 W1 W2 (valid n.val) y1).symm.trans ?_
  show arr6 X T G1 G2 W1 W2 (ix2 0 y1) = _
  blk_ext [idx 21]

omit A in
/-- The first gain's gradient starts at zero. -/
theorem zero7 (x : S1x1024.Idx) : k0_pay6 (F := Ideal) x = 0 := by
  idx_vars x
  pointwise [k0_pay6]

/-- The first gain's gradient after a point, summed over the points so far. -/
theorem Args.acc7 (j : Fin 1024) : ∀ (n : ℕ) (hn : n < 22), (outsAt0 m c n hn).2.2.2.1 (ix2 0 j)
    = (∑ s : Fin (n + 1), ∑ r : Fin 384, rowGM (X (at384 ⟨s.val, Nat.lt_of_lt_of_le s.isLt hn⟩ r)) (T (at384 ⟨s.val, Nat.lt_of_lt_of_le s.isLt hn⟩ r)) G1 G2 W1 W2 (valid (at384 ⟨s.val, Nat.lt_of_lt_of_le s.isLt hn⟩ r).val) j)
  | 0, hn => by
    rw [Fin.sum_univ_one]
    have e := pt7_zero m c (pt ⟨0, hn⟩) (by show 0 % 22 = 0; omega)
    rw [aw_pt] at e
    refine (congrFun e (ix2 0 j)).trans (((A.holds ⟨0, hn⟩).bDgm_at 0 hn _ j 0 (zero7 _)).trans ?_)
    rw [zero_add]
    rfl
  | n + 1, hn => by
    rw [Fin.sum_univ_castSucc]
    have e := pt7_succ m c (pt ⟨n + 1, hn⟩) (by show ¬ (n + 1) % 22 = 0; omega)
    rw [aw_pt] at e
    exact (congrFun e (ix2 0 j)).trans ((A.holds ⟨n + 1, hn⟩).bDgm_at (n + 1) hn _ j _ (Args.acc7 j n (Nat.lt_of_succ_lt hn)))

/-- After all points its array holds the first gain's gradient, summed over all rows. -/
theorem Args.at7 : (dats m 0 c).arrAt 7 cfg0.N = arr7 X T G1 G2 W1 W2 := by
  refine (dats m 0 c).arrAt_eq_of_covers 7 (arr7 X T G1 G2 W1 W2) (by decide +kernel) fun t hf y => ?_
  have ht := (flush0_7 t).mp hf
  clear hf
  obtain ⟨t, rfl⟩ := point_of t
  obtain rfl : t = 21 := Fin.ext (by have h : t.val % 22 = 21 := ht; have := t.isLt; show t.val = 21; omega)
  rw [after0_7]
  blk_simp
  revert y
  show ∀ y : S1x1024.Idx, _
  intro y
  idx_vars y
  obtain rfl : y0 = 0 := Subsingleton.elim _ _
  refine (A.acc7 y1 21 (by omega)).trans ?_
  refine (sum_rows fun n => rowGM (X n) (T n) G1 G2 W1 W2 (valid n.val) y1).symm.trans ?_
  show arr7 X T G1 G2 W1 W2 (ix2 0 y1) = _
  blk_ext [idx 21]

end Cert.Kernel2Ideal.Mlp

end
-- ==== Proof.MlpRef.lean ====
module

public import proofs.«01_k».proof.Proof.Gen.Reference2Ideal.Read
public import proofs.«01_k».proof.Proof.MlpRow

@[expose] public section

set_option maxRecDepth 16384

noncomputable section

/-!
The perceptron reference's results, entry by entry: every entry is the number that the row functions say.
-/

namespace Cert.Reference2Ideal.Mlp

open Idealize.ShloMosaic Idealize.ShloMosaic.TcCoe
open Cert.Reference2Ideal Cert.Reference2Ideal.Gen Cert.Reference2Ideal.Read Cert.Mlp

/-- A row of the target among all rows: sixteen rows stand in front. -/
def at16 (n : Fin 8192) : Fin 8448 := ⟨16 + n.val, by omega⟩

/-- The arguments as functions: the rows, the target, the gains and the weights. -/
structure Holds (x0 : FVec Ideal S8448x1024 .f32) (x1 : FVec Ideal S8192x1024 .f32) (x2 x3 : FVec Ideal S1024 .f32)
    (x4 : FVec Ideal S1024x4096 .f32) (x5 : FVec Ideal S4096x1024 .f32) (X T : Fin 8448 → Fin 1024 → EReal) (G1 G2 : Fin 1024 → EReal)
    (W1 : Fin 1024 → Fin 4096 → EReal) (W2 : Fin 4096 → Fin 1024 → EReal) : Prop where
  h0 : ∀ n j, x0 (ix2 n j) = X n j
  h1 : ∀ n j, x1 (ix2 n j) = T (at16 n) j
  h2 : ∀ j, x2 (ix1 j) = G1 j
  h3 : ∀ j, x3 (ix1 j) = G2 j
  h4 : ∀ j f, x4 (ix2 j f) = W1 j f
  h5 : ∀ f j, x5 (ix2 f j) = W2 f j

namespace Holds

variable {x0 : FVec Ideal S8448x1024 .f32} {x1 : FVec Ideal S8192x1024 .f32} {x2 x3 : FVec Ideal S1024 .f32}
  {x4 : FVec Ideal S1024x4096 .f32} {x5 : FVec Ideal S4096x1024 .f32} {X T : Fin 8448 → Fin 1024 → EReal} {G1 G2 : Fin 1024 → EReal}
  {W1 : Fin 1024 → Fin 4096 → EReal} {W2 : Fin 4096 → Fin 1024 → EReal} (H : Holds x0 x1 x2 x3 x4 x5 X T G1 G2 W1 W2) (n : Fin 8448)

include H

/-- A row's mean of squares and the constant. -/
theorem v6_at : val_main_v6 (F := Ideal) x0 (ix2 n 0) = ms (X n) := by
  pointwise [val_main_v6, val_main_v5, val_main_v4, val_main_v3, val_main_v2, val_main_v1, val_main_v0, val_main_cst, val_main_cst_0,
    val_main_cst_1, H.h0]
  rw [width_eq, eps_eq, div_width]
  rfl

/-- The inverse root. -/
theorem v7_at : val_main_v7 (F := Ideal) x0 (ix2 n 0) = rs (X n) := by
  pointwise [val_main_v7, H.v6_at]
  rfl

/-- The inverse root's derivative. -/
theorem v10_at : val_main_v10 (F := Ideal) x0 (ix2 n 0) = drs (X n) := by
  pointwise [val_main_v10, val_main_v9, val_main_v8, val_main_cst_2, H.v6_at, H.v7_at]
  rw [neg_half_eq]
  rfl

/-- A normalized row. -/
theorem v12_at (j : Fin 1024) : val_main_v12 (F := Ideal) x0 (ix2 n j) = xh (X n) j := by
  pointwise [val_main_v12, val_main_v11, H.v7_at, H.h0]
  rfl

/-- A normalized row under its gain. -/
theorem v15_at (j : Fin 1024) : val_main_v15 (F := Ideal) x0 x2 (ix2 n j) = rowH (X n) G1 j := by
  pointwise [val_main_v15, val_main_v14, val_main_v13, H.v12_at, H.h2]
  rfl

/-- The first layer's product. -/
theorem v16_at (f : Fin 4096) : val_main_v16 (F := Ideal) x0 x2 x4 (ix2 n f) = (∑ j, rowH (X n) G1 j * W1 j f) := by
  pointwise [val_main_v16, H.v15_at, H.h4]

/-- The hidden layer. -/
theorem v17_at (f : Fin 4096) : val_main_v17 (F := Ideal) x0 x2 x4 (ix2 n f) = rowA (X n) G1 W1 f := by
  pointwise [val_main_v17, val_main_call0_v0, val_main_call0_cst, H.v16_at]
  rfl

/-- The hidden layer's square. -/
theorem v21_at (f : Fin 4096) : val_main_v21 (F := Ideal) x0 x2 x4 (ix2 n f)
    = (rowA (X n) G1 W1 f * rowA (X n) G1 W1 f) := by
  pointwise [val_main_v21, H.v17_at]

/-- The residual sum. -/
theorem v25_at (j : Fin 1024) : val_main_v25 (F := Ideal) x0 x2 x4 x5 (ix2 n j) = rowY (X n) G1 W1 W2 j := by
  pointwise [val_main_v25, val_main_v24, H.v21_at, H.h5, H.h0]
  rfl

/-- The residual sum's mean of squares and the constant. -/
theorem v32_at : val_main_v32 (F := Ideal) x0 x2 x4 x5 (ix2 n 0) = ms (rowY (X n) G1 W1 W2) := by
  pointwise [val_main_v32, val_main_v31, val_main_v30, val_main_v29, val_main_v28, val_main_v27, val_main_v26, val_main_cst_6, val_main_cst_7,
    val_main_cst_8, H.v25_at]
  rw [width_eq, eps_eq, div_width]
  rfl

/-- Its inverse root. -/
theorem v33_at : val_main_v33 (F := Ideal) x0 x2 x4 x5 (ix2 n 0) = rs (rowY (X n) G1 W1 W2) := by
  pointwise [val_main_v33, H.v32_at]
  rfl

/-- Its inverse root's derivative. -/
theorem v36_at : val_main_v36 (F := Ideal) x0 x2 x4 x5 (ix2 n 0)
    = drs (rowY (X n) G1 W1 W2) := by
  pointwise [val_main_v36, val_main_v35, val_main_v34, val_main_cst_9, H.v32_at, H.v33_at]
  rw [neg_half_eq]
  rfl

/-- The normalized residual sum. -/
theorem v38_at (j : Fin 1024) : val_main_v38 (F := Ideal) x0 x2 x4 x5 (ix2 n j) = xh (rowY (X n) G1 W1 W2) j := by
  pointwise [val_main_v38, val_main_v37, H.v33_at, H.v25_at]
  rfl

/-- The same under the final gain. -/
theorem v41_at (j : Fin 1024) : val_main_v41 (F := Ideal) x0 x2 x3 x4 x5 (ix2 n j)
    = (xh (rowY (X n) G1 W1 W2) j * G2 j) := by
  pointwise [val_main_v41, val_main_v40, val_main_v39, H.v38_at, H.h3]

/-- The difference from the target. -/
theorem v43_at (k : Fin 8192) (j : Fin 1024) : val_main_v43 (F := Ideal) x0 x1 x2 x3 x4 x5 (ix2 k j)
    = (xh (rowY (X (at16 k)) G1 W1 W2) j * G2 j - T (at16 k) j) := by
  have e : val_main_v42 (F := Ideal) x0 x2 x3 x4 x5 (ix2 k j) = val_main_v41 (F := Ideal) x0 x2 x3 x4 x5 (ix2 (at16 k) j) := by
    pointwise [val_main_v42, at16]
  pointwise [val_main_v43, e, H.v41_at, H.h1]

/-- The gradient of the difference's squares. -/
theorem v57_at (k : Fin 8192) (j : Fin 1024) : val_main_v57 (F := Ideal) x0 x1 x2 x3 x4 x5 (ix2 k j)
    = ((xh (rowY (X (at16 k)) G1 W1 W2) j * G2 j - T (at16 k) j) * Cert.Mlp.inv) := by
  pointwise [val_main_v57, val_main_v56, val_main_v55, val_main_v54, val_main_v53, val_main_v52, val_main_v46, val_main_v45, val_main_cst_10,
    val_main_cst_15, val_main_cst_16, val_main_cst_17, H.v43_at]
  simp only [width_eq, half_eq, one_eq, two_eq, div_width]
  generalize xh (rowY (X (at16 k)) G1 W1 W2) j * G2 j - T (at16 k) j = e
  calc ((1 / 2 : ℝ) : EReal) * Cert.Mlp.inv * (((2 : ℝ) : EReal) * e) = ((1 / 2 : ℝ) : EReal) * ((2 : ℝ) : EReal) * (e * Cert.Mlp.inv) := by
        generalize ((1 / 2 : ℝ) : EReal) = a
        generalize ((2 : ℝ) : EReal) = b
        ac_rfl
    _ = e * Cert.Mlp.inv := by rw [← EReal.coe_mul, show (1 / 2 * 2 : ℝ) = 1 by norm_num, EReal.coe_one, one_mul]

/-- The loss's gradient before the final gain. -/
theorem v58_at (j : Fin 1024) : val_main_v58 (F := Ideal) x0 x1 x2 x3 x4 x5 (ix2 n j)
    = rowD (X n) (T n) G1 G2 W1 W2 (16 ≤ n.val ∧ n.val < 8208) j := by
  pointwise [val_main_v58, val_main_cst_18, H.v57_at]
  unfold rowD rowE err
  by_cases h : 16 ≤ n.val ∧ n.val - 16 < 8192
  · have e : at16 ⟨n.val - 16, h.2⟩ = n := Fin.ext (by show 16 + (n.val - 16) = n.val; omega)
    rw [dif_pos h, if_pos ⟨h.1, by omega⟩, e]
  · rw [dif_neg h, if_neg (fun h' => h ⟨h'.1, by omega⟩), zero_mul]

/-- The same under the final gain. -/
theorem v63_at (j : Fin 1024) : val_main_v63 (F := Ideal) x0 x1 x2 x3 x4 x5 (ix2 n j)
    = (rowD (X n) (T n) G1 G2 W1 W2 (16 ≤ n.val ∧ n.val < 8208) j * G2 j) := by
  pointwise [val_main_v63, val_main_v62, val_main_v39, H.v58_at, H.h3]

/-- What the final normalization's mean of squares gets. -/
theorem v72_at : val_main_v72 (F := Ideal) x0 x1 x2 x3 x4 x5 (ix2 n 0)
    = ((∑ k, rowY (X n) G1 W1 W2 k * (rowD (X n) (T n) G1 G2 W1 W2 (16 ≤ n.val ∧ n.val < 8208) k * G2 k))
        * drs (rowY (X n) G1 W1 W2) * Cert.Mlp.inv) := by
  pointwise [val_main_v72, val_main_v71, val_main_v70, val_main_v67, val_main_v66, val_main_v65, val_main_cst_21, val_main_cst_22,
    H.v63_at, H.v36_at, H.v25_at]
  rw [width_eq, div_width]

/-- The gradient of the residual sum. -/
theorem v78_at (j : Fin 1024) : val_main_v78 (F := Ideal) x0 x1 x2 x3 x4 x5 (ix2 n j)
    = rowDX (X n) (T n) G1 G2 W1 W2 (16 ≤ n.val ∧ n.val < 8208) j := by
  have e : ∀ x : Fin 1, val_main_v72 (F := Ideal) x0 x1 x2 x3 x4 x5 (ix2 n x) = _ := fun x => by
    rw [Subsingleton.elim x 0, H.v72_at]
  pointwise [val_main_v78, val_main_v77, val_main_v76, val_main_v75, val_main_v74, val_main_v73, val_main_v69, val_main_v68, val_main_cst_23,
    e, H.v63_at, H.v33_at, H.v25_at]
  simp only [Finset.univ_unique, Finset.sum_const, Finset.card_singleton, one_smul]
  exact nb_eq _ _ _ j

/-- The gradient before the hidden layer's positive part. -/
theorem v82_at (f : Fin 4096) : val_main_v82 (F := Ideal) x0 x1 x2 x3 x4 x5 (ix2 n f)
    = rowDA (X n) (T n) G1 G2 W1 W2 (16 ≤ n.val ∧ n.val < 8208) f := by
  pointwise [val_main_v82, val_main_v81, val_main_v80, val_main_v79, val_main_v23, val_main_v22, val_main_v19, val_main_v18, val_main_cst_24,
    val_main_cst_5, val_main_cst_3, H.v78_at, H.v17_at, H.v16_at, H.h5]
  rw [two_eq]
  by_cases h : 0 < ∑ j, rowH (X n) G1 j * W1 j f
  · rw [if_pos h]
    rfl
  · have ha : rowA (X n) G1 W1 f = 0 := max_eq_right (not_lt.mp h)
    rw [if_neg h]
    unfold rowDA dact
    rw [ha, mul_zero, mul_zero]

/-- The gradient of the row after the first normalization. -/
theorem v83_at (j : Fin 1024) : val_main_v83 (F := Ideal) x0 x1 x2 x3 x4 x5 (ix2 n j)
    = rowDH (X n) (T n) G1 G2 W1 W2 (16 ≤ n.val ∧ n.val < 8208) j := by
  pointwise [val_main_v83, H.v82_at, H.h4]
  rfl

/-- The same under the first gain. -/
theorem v88_at (j : Fin 1024) : val_main_v88 (F := Ideal) x0 x1 x2 x3 x4 x5 (ix2 n j)
    = (rowDH (X n) (T n) G1 G2 W1 W2 (16 ≤ n.val ∧ n.val < 8208) j * G1 j) := by
  pointwise [val_main_v88, val_main_v87, val_main_v13, H.v83_at, H.h2]

/-- What the first normalization's mean of squares gets. -/
theorem v97_at : val_main_v97 (F := Ideal) x0 x1 x2 x3 x4 x5 (ix2 n 0)
    = ((∑ k, X n k * (rowDH (X n) (T n) G1 G2 W1 W2 (16 ≤ n.val ∧ n.val < 8208) k * G1 k))
        * drs (X n) * Cert.Mlp.inv) := by
  pointwise [val_main_v97, val_main_v96, val_main_v95, val_main_v92, val_main_v91, val_main_v90, val_main_cst_27, val_main_cst_28,
    H.v88_at, H.v10_at, H.h0]
  rw [width_eq, div_width]

/-- The first normalization's gradient. -/
theorem v103_at (j : Fin 1024) : val_main_v103 (F := Ideal) x0 x1 x2 x3 x4 x5 (ix2 n j)
    = nb (X n) G1 (rowDH (X n) (T n) G1 G2 W1 W2 (16 ≤ n.val ∧ n.val < 8208)) j := by
  have e : ∀ x : Fin 1, val_main_v97 (F := Ideal) x0 x1 x2 x3 x4 x5 (ix2 n x) = _ := fun x => by
    rw [Subsingleton.elim x 0, H.v97_at]
  pointwise [val_main_v103, val_main_v102, val_main_v101, val_main_v100, val_main_v99, val_main_v98, val_main_v94, val_main_v93, val_main_cst_29,
    e, H.v88_at, H.v7_at, H.h0]
  simp only [Finset.univ_unique, Finset.sum_const, Finset.card_singleton, one_smul]
  exact nb_eq _ _ _ j

/-- The gradient of the rows. -/
theorem v105_at (j : Fin 1024) : val_main_v105 (F := Ideal) x0 x1 x2 x3 x4 x5 (ix2 n j)
    = rowDX1 (X n) (T n) G1 G2 W1 W2 (16 ≤ n.val ∧ n.val < 8208) j := by
  pointwise [val_main_v105, H.v103_at, H.v78_at]
  rfl

/-- The normalized rows, stored. -/
theorem v108_at (j : Fin 1024) : val_main_v108 (F := Ideal) x0 x2 (ix2 n j) = rowH (X n) G1 j := H.v15_at n j

/-- The gradients of the hidden layer, stored. -/
theorem v109_at (f : Fin 4096) : val_main_v109 (F := Ideal) x0 x1 x2 x3 x4 x5 (ix2 n f)
    = rowDA (X n) (T n) G1 G2 W1 W2 (16 ≤ n.val ∧ n.val < 8208) f := H.v82_at n f

/-- The hidden layer's squares, stored. -/
theorem v110_at (f : Fin 4096) : val_main_v110 (F := Ideal) x0 x2 x4 (ix2 n f)
    = (rowA (X n) G1 W1 f * rowA (X n) G1 W1 f) := H.v21_at n f

/-- The gradient of the residual sum, stored. -/
theorem v111_at (j : Fin 1024) : val_main_v111 (F := Ideal) x0 x1 x2 x3 x4 x5 (ix2 n j)
    = rowDX (X n) (T n) G1 G2 W1 W2 (16 ≤ n.val ∧ n.val < 8208) j := H.v78_at n j

omit n

/-- The final gain's gradient. -/
theorem v106_at (j : Fin 1024) : val_main_v106 (F := Ideal) x0 x1 x2 x3 x4 x5 (ix2 0 j)
    = (∑ n, rowGF (X n) (T n) G1 G2 W1 W2 (16 ≤ n.val ∧ n.val < 8208) j) := by
  pointwise [val_main_v106, val_main_v64, val_main_v61, val_main_v60, val_main_v59, val_main_cst_19, val_main_cst_20, H.v58_at, H.v38_at]
  simp only [Finset.univ_unique, Finset.sum_const, Finset.card_singleton, one_smul]
  exact Finset.sum_congr rfl fun n _ => mul_comm _ _

/-- The first gain's gradient. -/
theorem v107_at (j : Fin 1024) : val_main_v107 (F := Ideal) x0 x1 x2 x3 x4 x5 (ix2 0 j)
    = (∑ n, rowGM (X n) (T n) G1 G2 W1 W2 (16 ≤ n.val ∧ n.val < 8208) j) := by
  pointwise [val_main_v107, val_main_v89, val_main_v86, val_main_v85, val_main_v84, val_main_cst_25, val_main_cst_26, H.v83_at, H.v12_at]
  simp only [Finset.univ_unique, Finset.sum_const, Finset.card_singleton, one_smul]
  exact Finset.sum_congr rfl fun n _ => mul_comm _ _

/-- The loss. -/
theorem v104_at (p : Fin 8) (q : Fin 128) : val_main_v104 (F := Ideal) x0 x1 x2 x3 x4 x5 (ix2 p q)
    = (∑ n, rowL (X n) (T n) G1 G2 W1 W2 (16 ≤ n.val ∧ n.val < 8208)) := by
  have e : ∀ k : Fin 8192, val_main_v49 (F := Ideal) x0 x1 x2 x3 x4 x5 (ix1 k)
      = (((2 : ℝ) : EReal) * rowL (X (at16 k)) (T (at16 k)) G1 G2 W1 W2 (16 ≤ (at16 k).val ∧ (at16 k).val < 8208)) := by
    intro k
    have hv : 16 ≤ (at16 k).val ∧ (at16 k).val < 8208 := ⟨by show 16 ≤ 16 + k.val; omega, by show 16 + k.val < 8208; omega⟩
    pointwise [val_main_v49, val_main_v48, val_main_v47, val_main_v44, val_main_cst_11, val_main_cst_12, H.v43_at]
    rw [width_eq, div_width]
    unfold rowL rowE err
    simp only [if_pos hv]
    rw [← mul_assoc, ← EReal.coe_mul, show (2 * (1 / 2) : ℝ) = 1 by norm_num, EReal.coe_one, one_mul]
  have z : ∀ n : Fin 8448, n ∉ Set.range at16 → rowL (X n) (T n) G1 G2 W1 W2 (16 ≤ n.val ∧ n.val < 8208) = 0 := by
    intro n hn
    have hv : ¬ (16 ≤ n.val ∧ n.val < 8208) := fun h => hn ⟨⟨n.val - 16, by omega⟩, Fin.ext (by show 16 + (n.val - 16) = n.val; omega)⟩
    unfold rowL rowE err
    simp only [if_neg hv, mul_zero, Finset.sum_const_zero, zero_mul]
  have inj : Function.Injective at16 := fun a b h => Fin.ext (by
    have h' : 16 + a.val = 16 + b.val := congrArg Fin.val h
    omega)
  rw [← Fintype.sum_of_injective at16 inj _ _ z fun _ => rfl]
  pointwise [val_main_v104, val_main_v51, val_main_v50, val_main_cst_13, val_main_cst_14, e]
  rw [half_eq, mul_sum_real _ (by norm_num)]
  refine Finset.sum_congr rfl fun k _ => ?_
  rw [← mul_assoc, ← EReal.coe_mul, show (1 / 2 * 2 : ℝ) = 1 by norm_num, EReal.coe_one, one_mul]

end Holds

end Cert.Reference2Ideal.Mlp

end
-- ==== Proof.MlpSame.lean ====
module

public import proofs.«01_k».proof.Proof.MlpArr
public import proofs.«01_k».proof.Proof.MlpRef

/-!
The perceptron kernel's eight arrays are its reference's eight results.
-/

@[expose] public section

set_option maxRecDepth 16384

noncomputable section

namespace Cert.MlpSame

open Idealize.ShloMosaic Idealize.ShloMosaic.TcCoe
open Cert.Kernel2Ideal Cert.Kernel2Ideal.Gen Cert.Kernel2Ideal.Mlp Cert.Mlp Cert.Reference2Ideal.Read
open Cert.Reference2Ideal.Mlp (at16)

variable (m : (ℓ : Loc nD τ sig) → Buf (Elt Ideal) ℓ) (c : Dev nD)

/-- The six arguments as functions that both sides speak of. -/
theorem args_of : ∃ X T G1 G2 W1 W2, Args m c X T G1 G2 W1 W2 := by
  refine ⟨fun n j => argX m c (ix2 n j), fun n j => if h : 16 ≤ n.val ∧ n.val - 16 < 8192 then argT m c (ix2 ⟨n.val - 16, h.2⟩ j) else 0,
    fun j => argG m c (ix1 j), fun j => argH m c (ix1 j), fun j f => argW m c (ix2 j f), fun f j => argU m c (ix2 f j),
    fun n j => rfl, fun n j => ?_, fun n j h => dif_neg h, fun j => rfl, fun j => rfl, fun j f => rfl, fun f j => rfl⟩
  have hn : 16 ≤ 16 + n.val ∧ 16 + n.val - 16 < 8192 := ⟨by omega, by omega⟩
  show _ = (dite (16 ≤ 16 + n.val ∧ 16 + n.val - 16 < 8192) _ _ : EReal)
  rw [dif_pos hn]
  exact congrArg (fun k => argT m c (ix2 k j)) (Fin.ext (by show n.val = 16 + n.val - 16; omega))

variable {m c} {X T : Fin 8448 → Fin 1024 → EReal} {G1 G2 : Fin 1024 → EReal} {W1 : Fin 1024 → Fin 4096 → EReal}
  {W2 : Fin 4096 → Fin 1024 → EReal} (A : Args m c X T G1 G2 W1 W2)
include A

/-- The reference's arguments are the same functions. -/
theorem ref : Cert.Reference2Ideal.Mlp.Holds (argX m c) (argT m c) (argG m c) (argH m c) (argW m c) (argU m c) X T G1 G2 W1 W2 where
  h0 := A.hx
  h1 := A.ht
  h2 := A.hg
  h3 := A.hh
  h4 := A.hw
  h5 := A.hu

/-- The gradient of the rows. -/
theorem out4 : (dats m 0 c).arrAt 4 cfg0.N = val_main_v105 (F := Ideal) (argX m c) (argT m c) (argG m c) (argH m c) (argW m c) (argU m c) := by
  rw [A.at4]
  funext y
  revert y
  show ∀ y : S8448x1024.Idx, _
  intro y
  idx_vars y
  exact ((ref A).v105_at y0 y1).symm

/-- The loss. -/
theorem out5 : (dats m 0 c).arrAt 5 cfg0.N = val_main_v104 (F := Ideal) (argX m c) (argT m c) (argG m c) (argH m c) (argW m c) (argU m c) := by
  rw [A.at5]
  funext y
  revert y
  show ∀ y : S8x128.Idx, _
  intro y
  idx_vars y
  exact ((ref A).v104_at y0 y1).symm

/-- The final gain's gradient. -/
theorem out6 : (dats m 0 c).arrAt 6 cfg0.N = val_main_v106 (F := Ideal) (argX m c) (argT m c) (argG m c) (argH m c) (argW m c) (argU m c) := by
  rw [A.at6]
  funext y
  revert y
  show ∀ y : S1x1024.Idx, _
  intro y
  idx_vars y
  obtain rfl : y0 = 0 := Subsingleton.elim _ _
  exact ((ref A).v106_at y1).symm

/-- The first gain's gradient. -/
theorem out7 : (dats m 0 c).arrAt 7 cfg0.N = val_main_v107 (F := Ideal) (argX m c) (argT m c) (argG m c) (argH m c) (argW m c) (argU m c) := by
  rw [A.at7]
  funext y
  revert y
  show ∀ y : S1x1024.Idx, _
  intro y
  idx_vars y
  obtain rfl : y0 = 0 := Subsingleton.elim _ _
  exact ((ref A).v107_at y1).symm

/-- The normalized rows. -/
theorem out8 : (dats m 0 c).arrAt 8 cfg0.N = val_main_v108 (F := Ideal) (argX m c) (argG m c) := by
  rw [A.at8]
  funext y
  revert y
  show ∀ y : S8448x1024.Idx, _
  intro y
  idx_vars y
  exact ((ref A).v108_at y0 y1).symm

/-- The gradients of the hidden layer. -/
theorem out9 : (dats m 0 c).arrAt 9 cfg0.N = val_main_v109 (F := Ideal) (argX m c) (argT m c) (argG m c) (argH m c) (argW m c) (argU m c) := by
  rw [A.at9]
  funext y
  revert y
  show ∀ y : S8448x4096.Idx, _
  intro y
  idx_vars y
  exact ((ref A).v109_at y0 y1).symm

/-- The hidden layer's squares. -/
theorem out10 : (dats m 0 c).arrAt 10 cfg0.N = val_main_v110 (F := Ideal) (argX m c) (argG m c) (argW m c) := by
  rw [A.at10]
  funext y
  revert y
  show ∀ y : S8448x4096.Idx, _
  intro y
  idx_vars y
  exact ((ref A).v110_at y0 y1).symm

/-- The gradient of the residual sum. -/
theorem out11 : (dats m 0 c).arrAt 11 cfg0.N = val_main_v111 (F := Ideal) (argX m c) (argT m c) (argG m c) (argH m c) (argW m c) (argU m c) := by
  rw [A.at11]
  funext y
  revert y
  show ∀ y : S8448x1024.Idx, _
  intro y
  idx_vars y
  exact ((ref A).v111_at y0 y1).symm

end Cert.MlpSame

end
-- ==== Proof.Tiles.lean ====
module

public import Idealize.ShloMosaic.Lib.Pipeline.ValueKit

/-!
The rows of the saved arrays in eleven tiles of 768, which the two products that give the perceptron's weights'
gradients walk over.
-/

@[expose] public section

noncomputable section

namespace Cert.Tiles

/-- Row `r` of tile `s`. -/
def at768 (s : Fin 11) (r : Fin 768) : Fin 8448 := ⟨768 * s.val + r.val, by omega⟩

/-- A sum over the rows, tile by tile. -/
theorem sum_rows (f : Fin 8448 → EReal) : ∑ n, f n = ∑ s : Fin 11, ∑ r : Fin 768, f (at768 s r) := by
  rw [← Equiv.sum_comp (finProdFinEquiv (m := 11) (n := 768)) f, Fintype.sum_prod_type]
  refine Finset.sum_congr rfl fun k _ => Finset.sum_congr rfl fun r _ => congrArg f (Fin.ext ?_)
  show r.val + 768 * k.val = 768 * k.val + r.val
  omega

end Cert.Tiles

end
-- ==== Proof.GradIn.lean ====
module

public import proofs.«01_k».proof.Proof.Tiles
public import proofs.«01_k».proof.Proof.Gen.Kernel3Ideal.Value
public import proofs.«01_k».proof.Proof.Gen.Reference3Ideal.Read

/-!
The gradient of the perceptron's first weight: the kernel's product of the two saved arrays, added up over eleven
tiles of rows, is the reference's.
-/

@[expose] public section

set_option maxRecDepth 16384

noncomputable section

namespace Cert.Kernel3Ideal.Grad

open Idealize.ShloMosaic Idealize.ShloMosaic.TcCoe
open Cert.Kernel3Ideal Cert.Kernel3Ideal.Gen Cert.Kernel3Ideal.Value Cert.Tiles

variable (m : (ℓ : Loc nD τ sig) → Buf (Elt Ideal) ℓ) (c : Dev nD)

/-- The saved normalized rows. -/
def argH : Vec Ideal S8448x1024 .bf16 := m ((c : Thread nD τ).loc main_arg0)
/-- The saved gradients of the hidden layer. -/
def argD : Vec Ideal S8448x4096 .bf16 := m ((c : Thread nD τ).loc main_arg1)

/-- The point of column block `q` at tile `s`. -/
def pt (q : Fin 4) (s : Fin 11) : Fin cfg0.N := ⟨11 * q.val + s.val, by rw [show cfg0.N = 44 from N_0]; omega⟩

/-- Column `j` of block `q`. -/
def col (q : Fin 4) (j : Fin 1024) : Fin 4096 := ⟨1024 * q.val + j.val, by omega⟩

/-- Each argument's block number at a point. -/
theorem idx : ∀ (q : Fin 4) (s : Fin 11), win0_0.index (pt q s) = ![s.val, 0] ∧ win0_1.index (pt q s) = ![s.val, q.val] := by
  decide +kernel

/-- The normalized rows' block. -/
theorem blk0 (q : Fin 4) (s : Fin 11) (r : Fin 768) (i : Fin 1024) :
    (iblk m c 0 (pt q s) : Vec Ideal S768x1024 .bf16) (ix2 r i) = argH m c (ix2 (at768 s r) i) := by
  show _ = (V m c main_arg0 : Vec Ideal S8448x1024 .bf16) (ix2 (at768 s r) i)
  blk_ext [iblk, idx q s, at768]

/-- The hidden gradients' block. -/
theorem blk1 (q : Fin 4) (s : Fin 11) (r : Fin 768) (j : Fin 1024) :
    (iblk m c 1 (pt q s) : Vec Ideal S768x1024 .bf16) (ix2 r j) = argD m c (ix2 (at768 s r) (col q j)) := by
  show _ = (V m c main_arg1 : Vec Ideal S8448x4096 .bf16) (ix2 (at768 s r) (col q j))
  blk_ext [iblk, idx q s, at768, col]

/-- The result's block starts at zero. -/
theorem zero (i j : Fin 1024) : k0_pay1 (F := Ideal) (ix2 i j) = 0 := by
  pointwise [k0_pay1]

/-- A point adds the tile's product. -/
theorem add (acc : Vec Ideal S1024x1024 .f32) (a b : Vec Ideal S768x1024 .bf16) (i j : Fin 1024) :
    k0_pay2 acc a b (ix2 i j) = acc (ix2 i j) + ∑ r : Fin 768, a (ix2 r i) * b (ix2 r j) := by
  pointwise [k0_pay2]

/-- The result's block after tile `n`: the sum over the tiles so far. -/
theorem acc (q : Fin 4) (i j : Fin 1024) : ∀ (n : ℕ) (hn : n < 11) (h : 11 * q.val + n < cfg0.N),
    Pipeline.accAt (reset2 m c) (step2 m c) (11 * q.val) n h (ix2 i j)
      = ∑ s : Fin (n + 1), ∑ r : Fin 768, argH m c (ix2 (at768 ⟨s.val, Nat.lt_of_lt_of_le s.isLt hn⟩ r) i)
          * argD m c (ix2 (at768 ⟨s.val, Nat.lt_of_lt_of_le s.isLt hn⟩ r) (col q j))
  | 0, hn, h => by
    rw [Fin.sum_univ_one]
    refine (add _ _ _ i j).trans ?_
    rw [zero, zero_add]
    exact Finset.sum_congr rfl fun r _ => congrArg₂ (· * ·) (blk0 m c q ⟨0, hn⟩ r i) (blk1 m c q ⟨0, hn⟩ r j)
  | n + 1, hn, h => by
    rw [Fin.sum_univ_castSucc, Pipeline.accAt_succ]
    refine (add _ _ _ i j).trans (congrArg₂ (· + ·) (acc q i j n (Nat.lt_of_succ_lt hn) _) ?_)
    exact Finset.sum_congr rfl fun r _ => congrArg₂ (· * ·) (blk0 m c q ⟨n + 1, hn⟩ r i) (blk1 m c q ⟨n + 1, hn⟩ r j)

/-- An entry of the result: the product of the two arrays' columns over all rows. -/
theorem entry (i : Fin 1024) (f : Fin 4096) : (G2 m c : Vec Ideal S1024x4096 .f32) (ix2 i f)
    = ∑ n : Fin 8448, argH m c (ix2 n i) * argD m c (ix2 n f) := by
  have hq : f.val / 1024 < 4 := by omega
  have hr : run2Of (ix2 i f) = f.val / 1024 := by
    show 4 * (i.val / 1024 - 0) + 1 * (f.val / 1024 - 0) = _
    omega
  have hl : loc2Of (ix2 i f) = ix2 i ⟨f.val % 1024, Nat.mod_lt _ (by decide)⟩ := by
    funext a
    apply Fin.ext
    match a with
    | ⟨0, _⟩ => exact Nat.mod_eq_of_lt i.isLt
    | ⟨1, _⟩ => rfl
  have hf : col ⟨f.val / 1024, hq⟩ ⟨f.val % 1024, Nat.mod_lt _ (by decide)⟩ = f :=
    Fin.ext (by show 1024 * (f.val / 1024) + f.val % 1024 = f.val; omega)
  have hN : 11 * (f.val / 1024) + 10 < cfg0.N := by rw [show cfg0.N = 44 from N_0]; omega
  have e : ∀ (b : ℕ) (h : b + 10 < cfg0.N), b = 11 * (f.val / 1024) → Pipeline.accAt (reset2 m c) (step2 m c) b 10 h
      = Pipeline.accAt (reset2 m c) (step2 m c) (11 * (f.val / 1024)) 10 hN := by
    intro b h hb
    subst hb
    rfl
  unfold G2
  rw [dif_pos (by rw [hr]; exact hN), hl, sum_rows]
  refine (congrFun (e _ _ (congrArg (11 * ·) hr)) _).trans ?_
  refine (acc m c ⟨f.val / 1024, hq⟩ i _ 10 (by decide) hN).trans ?_
  rw [hf]

/-- An entry of the reference's result. -/
theorem ref (x : Vec Ideal S8448x1024 .bf16) (d : Vec Ideal S8448x4096 .bf16) (i : Fin 1024) (f : Fin 4096) :
    Cert.Reference3Ideal.Read.val_main_v5 (F := Ideal) x d (ix2 i f) = ∑ n : Fin 8448, x (ix2 n i) * d (ix2 n f) := by
  rw [Cert.Reference3Ideal.Read.val_main_v5_apply, Cert.Reference3Ideal.Read.val_main_v4_apply]
  refine Finset.sum_congr rfl fun n _ => (mul_comm (G := EReal) _ _).trans (congrArg₂ (fun a b : EReal => a * b) ?_ ?_)
  · exact congrArg x (by funext a; match a with | ⟨0, _⟩ => rfl | ⟨1, _⟩ => rfl)
  · exact congrArg d (by funext a; match a with | ⟨0, _⟩ => rfl | ⟨1, _⟩ => rfl)

/-- The kernel's result is the reference's. -/
theorem same : (G2 m c : Vec Ideal S1024x4096 .f32)
    = Cert.Reference3Ideal.Read.val_main_v5 (F := Ideal) (argH m c) (argD m c) := by
  funext y
  revert y
  show ∀ y : S1024x4096.Idx, _
  intro y
  idx_vars y
  exact (entry m c y0 y1).trans (ref _ _ y0 y1).symm

end Cert.Kernel3Ideal.Grad

end
-- ==== Proof.GradOut.lean ====
module

public import proofs.«01_k».proof.Proof.Tiles
public import proofs.«01_k».proof.Proof.Gen.Kernel4Ideal.Value
public import proofs.«01_k».proof.Proof.Gen.Reference4Ideal.Read

/-!
The gradient of the perceptron's second weight: the kernel's product of the two saved arrays, added up over eleven
tiles of rows, is the reference's.
-/

@[expose] public section

set_option maxRecDepth 16384

noncomputable section

namespace Cert.Kernel4Ideal.Grad

open Idealize.ShloMosaic Idealize.ShloMosaic.TcCoe
open Cert.Kernel4Ideal Cert.Kernel4Ideal.Gen Cert.Kernel4Ideal.Value Cert.Tiles

variable (m : (ℓ : Loc nD τ sig) → Buf (Elt Ideal) ℓ) (c : Dev nD)

/-- The saved squares of the hidden layer. -/
def argS : Vec Ideal S8448x4096 .bf16 := m ((c : Thread nD τ).loc main_arg0)
/-- The saved gradient of the residual sum. -/
def argX : Vec Ideal S8448x1024 .bf16 := m ((c : Thread nD τ).loc main_arg1)

/-- The point of row block `q` of the result at tile `s`. -/
def pt (q : Fin 4) (s : Fin 11) : Fin cfg0.N := ⟨11 * q.val + s.val, by rw [show cfg0.N = 44 from N_0]; omega⟩

/-- Hidden column `i` of block `q`. -/
def col (q : Fin 4) (i : Fin 1024) : Fin 4096 := ⟨1024 * q.val + i.val, by omega⟩

/-- Each argument's block number at a point. -/
theorem idx : ∀ (q : Fin 4) (s : Fin 11), win0_0.index (pt q s) = ![s.val, q.val] ∧ win0_1.index (pt q s) = ![s.val, 0] := by
  decide +kernel

/-- The squares' block. -/
theorem blk0 (q : Fin 4) (s : Fin 11) (r : Fin 768) (i : Fin 1024) :
    (iblk m c 0 (pt q s) : Vec Ideal S768x1024 .bf16) (ix2 r i) = argS m c (ix2 (at768 s r) (col q i)) := by
  show _ = (V m c main_arg0 : Vec Ideal S8448x4096 .bf16) (ix2 (at768 s r) (col q i))
  blk_ext [iblk, idx q s, at768, col]

/-- The residual gradient's block. -/
theorem blk1 (q : Fin 4) (s : Fin 11) (r : Fin 768) (j : Fin 1024) :
    (iblk m c 1 (pt q s) : Vec Ideal S768x1024 .bf16) (ix2 r j) = argX m c (ix2 (at768 s r) j) := by
  show _ = (V m c main_arg1 : Vec Ideal S8448x1024 .bf16) (ix2 (at768 s r) j)
  blk_ext [iblk, idx q s, at768]

/-- The result's block starts at zero. -/
theorem zero (i j : Fin 1024) : k0_pay1 (F := Ideal) (ix2 i j) = 0 := by
  pointwise [k0_pay1]

/-- A point adds the tile's product. -/
theorem add (acc : Vec Ideal S1024x1024 .f32) (a b : Vec Ideal S768x1024 .bf16) (i j : Fin 1024) :
    k0_pay2 acc a b (ix2 i j) = acc (ix2 i j) + ∑ r : Fin 768, a (ix2 r i) * b (ix2 r j) := by
  pointwise [k0_pay2]

/-- The result's block after tile `n`: the sum over the tiles so far. -/
theorem acc (q : Fin 4) (i j : Fin 1024) : ∀ (n : ℕ) (hn : n < 11) (h : 11 * q.val + n < cfg0.N),
    Pipeline.accAt (reset2 m c) (step2 m c) (11 * q.val) n h (ix2 i j)
      = ∑ s : Fin (n + 1), ∑ r : Fin 768, argS m c (ix2 (at768 ⟨s.val, Nat.lt_of_lt_of_le s.isLt hn⟩ r) (col q i))
          * argX m c (ix2 (at768 ⟨s.val, Nat.lt_of_lt_of_le s.isLt hn⟩ r) j)
  | 0, hn, h => by
    rw [Fin.sum_univ_one]
    refine (add _ _ _ i j).trans ?_
    rw [zero, zero_add]
    exact Finset.sum_congr rfl fun r _ => congrArg₂ (· * ·) (blk0 m c q ⟨0, hn⟩ r i) (blk1 m c q ⟨0, hn⟩ r j)
  | n + 1, hn, h => by
    rw [Fin.sum_univ_castSucc, Pipeline.accAt_succ]
    refine (add _ _ _ i j).trans (congrArg₂ (· + ·) (acc q i j n (Nat.lt_of_succ_lt hn) _) ?_)
    exact Finset.sum_congr rfl fun r _ => congrArg₂ (· * ·) (blk0 m c q ⟨n + 1, hn⟩ r i) (blk1 m c q ⟨n + 1, hn⟩ r j)

/-- An entry of the result: the product of the two arrays' columns over all rows. -/
theorem entry (f : Fin 4096) (j : Fin 1024) : (G2 m c : Vec Ideal S4096x1024 .f32) (ix2 f j)
    = ∑ n : Fin 8448, argS m c (ix2 n f) * argX m c (ix2 n j) := by
  have hq : f.val / 1024 < 4 := by omega
  have hr : run2Of (ix2 f j) = f.val / 1024 := by
    show 1 * (f.val / 1024 - 0) + 1 * (j.val / 1024 - 0) = _
    omega
  have hl : loc2Of (ix2 f j) = ix2 ⟨f.val % 1024, Nat.mod_lt _ (by decide)⟩ j := by
    funext a
    apply Fin.ext
    match a with
    | ⟨0, _⟩ => rfl
    | ⟨1, _⟩ => exact Nat.mod_eq_of_lt j.isLt
  have hf : col ⟨f.val / 1024, hq⟩ ⟨f.val % 1024, Nat.mod_lt _ (by decide)⟩ = f :=
    Fin.ext (by show 1024 * (f.val / 1024) + f.val % 1024 = f.val; omega)
  have hN : 11 * (f.val / 1024) + 10 < cfg0.N := by rw [show cfg0.N = 44 from N_0]; omega
  have e : ∀ (b : ℕ) (h : b + 10 < cfg0.N), b = 11 * (f.val / 1024) → Pipeline.accAt (reset2 m c) (step2 m c) b 10 h
      = Pipeline.accAt (reset2 m c) (step2 m c) (11 * (f.val / 1024)) 10 hN := by
    intro b h hb
    subst hb
    rfl
  unfold G2
  rw [dif_pos (by rw [hr]; exact hN), hl, sum_rows]
  refine (congrFun (e _ _ (congrArg (11 * ·) hr)) _).trans ?_
  refine (acc m c ⟨f.val / 1024, hq⟩ _ j 10 (by decide) hN).trans ?_
  rw [hf]

/-- An entry of the reference's result. -/
theorem ref (s : Vec Ideal S8448x4096 .bf16) (x : Vec Ideal S8448x1024 .bf16) (f : Fin 4096) (j : Fin 1024) :
    Cert.Reference4Ideal.Read.val_main_v5 (F := Ideal) s x (ix2 f j) = ∑ n : Fin 8448, s (ix2 n f) * x (ix2 n j) := by
  rw [Cert.Reference4Ideal.Read.val_main_v5_apply, Cert.Reference4Ideal.Read.val_main_v4_apply]
  refine Finset.sum_congr rfl fun n _ => (mul_comm (G := EReal) _ _).trans (congrArg₂ (fun a b : EReal => a * b) ?_ ?_)
  · exact congrArg s (by funext a; match a with | ⟨0, _⟩ => rfl | ⟨1, _⟩ => rfl)
  · exact congrArg x (by funext a; match a with | ⟨0, _⟩ => rfl | ⟨1, _⟩ => rfl)

/-- The kernel's result is the reference's. -/
theorem same : (G2 m c : Vec Ideal S4096x1024 .f32)
    = Cert.Reference4Ideal.Read.val_main_v5 (F := Ideal) (argS m c) (argX m c) := by
  funext y
  revert y
  show ∀ y : S4096x1024.Idx, _
  intro y
  idx_vars y
  exact (entry m c y0 y1).trans (ref _ _ y0 y1).symm

end Cert.Kernel4Ideal.Grad

end
-- ==== Proof.AdamEarly.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

/-!
The optimiser's call on the packed shards: the sum of the eight devices' parts, the step, and the two new moments
that the kernel leaves are the reference's.
-/

@[expose] public section

set_option maxRecDepth 16384

noncomputable section

namespace Cert.Kernel5Ideal.Adam

open Idealize.ShloMosaic Idealize.ShloMosaic.TcCoe
open Cert.Kernel5Ideal Cert.Kernel5Ideal.Gen Cert.Kernel5Ideal.Value Cert.Reference5Ideal.Read

variable (m : (ℓ : Loc nD τ sig) → Buf (Elt Ideal) ℓ) (c : Dev nD)

/-- The eight devices' parts of the gradient. -/
def argG : Vec Ideal S8x528x1024 .bf16 := m ((c : Thread nD τ).loc main_arg0)
/-- The weights. -/
def argP : Vec Ideal S528x1024 .f32 := m ((c : Thread nD τ).loc main_arg1)
/-- The first moments. -/
def argM : Vec Ideal S528x1024 .f32 := m ((c : Thread nD τ).loc main_arg2)
/-- The second moments. -/
def argV : Vec Ideal S528x1024 .f32 := m ((c : Thread nD τ).loc main_arg3)

/-- Row `r` of block `t`. -/
def at176 (t : Fin 3) (r : Fin 176) : Fin 528 := ⟨176 * t.val + r.val, by omega⟩

/-- The grid's point of block `t`. -/
def pt (t : Fin 3) : Fin cfg0.N := ⟨t.val, by rw [show cfg0.N = 3 from N_0]; omega⟩

/-- Every point of the grid is some block's. -/
theorem point_of (t : Fin cfg0.N) : ∃ s : Fin 3, t = pt s :=
  ⟨⟨t.val, lt_of_lt_of_eq t.isLt (show cfg0.N = 3 from N_0)⟩, rfl⟩

/-- Each argument's block number at a point. -/
theorem idx : ∀ t : Fin 3, win0_0.index (pt t) = ![0, t.val, 0] ∧ win0_1.index (pt t) = ![t.val, 0]
    ∧ win0_2.index (pt t) = ![t.val, 0] ∧ win0_3.index (pt t) = ![t.val, 0] ∧ win0_4.index (pt t) = ![t.val, 0]
    ∧ win0_5.index (pt t) = ![t.val, 0] ∧ win0_6.index (pt t) = ![t.val, 0] ∧ win0_7.index (pt t) = ![t.val, 0] := by
  decide +kernel

/-- The parts' block. -/
theorem blk0 (t : Fin 3) (k : Fin 8) (r : Fin 176) (j : Fin 1024) :
    (iblk m c 0 (pt t) : Vec Ideal S8x176x1024 .bf16) (ix3 k r j) = argG m c (ix3 k (at176 t r) j) := by
  show _ = (V m c main_arg0 : Vec Ideal S8x528x1024 .bf16) (ix3 k (at176 t r) j)
  blk_ext [iblk, idx t, at176]

/-- The weights' block. -/
theorem blk1 (t : Fin 3) (r : Fin 176) (j : Fin 1024) :
    (iblk m c 1 (pt t) : Vec Ideal S176x1024 .f32) (ix2 r j) = argP m c (ix2 (at176 t r) j) := by
  show _ = (V m c main_arg1 : Vec Ideal S528x1024 .f32) (ix2 (at176 t r) j)
  blk_ext [iblk, idx t, at176]

/-- The first moments' block. -/
theorem blk2 (t : Fin 3) (r : Fin 176) (j : Fin 1024) :
    (iblk m c 2 (pt t) : Vec Ideal S176x1024 .f32) (ix2 r j) = argM m c (ix2 (at176 t r) j) := by
  show _ = (V m c main_arg2 : Vec Ideal S528x1024 .f32) (ix2 (at176 t r) j)
  blk_ext [iblk, idx t, at176]

/-- The second moments' block. -/
theorem blk3 (t : Fin 3) (r : Fin 176) (j : Fin 1024) :
    (iblk m c 3 (pt t) : Vec Ideal S176x1024 .f32) (ix2 r j) = argV m c (ix2 (at176 t r) j) := by
  show _ = (V m c main_arg3 : Vec Ideal S528x1024 .f32) (ix2 (at176 t r) j)
  blk_ext [iblk, idx t, at176]

/-- The sum that a block's body forms of its eight parts. -/
def sumOf (P : Vec Ideal S8x176x1024 .bf16) : Vec Ideal S176x1024 .f32 :=
  k0_pay4 (View.ld P r0_0) (View.ld P r0_1) (View.ld P r0_2) (View.ld P r0_3) (View.ld P r0_4) (View.ld P r0_5)
    (View.ld P r0_6) (View.ld P r0_7)

/-- One part's slab, read as rows. -/
theorem slab (P : Vec Ideal S8x176x1024 .bf16) (k : Fin 8) (h) (r : Fin 176) (j : Fin 1024) :
    View.ld P (Rect.unit (s := S8x176x1024) ![k.val, 0, 0] S1x176x1024.size h) (ix3 0 r j) = P (ix3 k r j) := by
  refine View.ld_unit_apply_of P _ _ h _ _ fun a => ?_
  match a with
  | ⟨0, _⟩ => rfl
  | ⟨1, _⟩ => exact (Nat.zero_add _).symm
  | ⟨2, _⟩ => exact (Nat.zero_add _).symm

/-- A load of a whole block reads the block. -/
theorem whole (b : Vec Ideal S176x1024 .f32) : View.ld b r0_8 = b :=
  View.ld_unit_zero (by decide) inb_S176x1024_S176x1024_0_0 b

/-- It is the sum over the parts. -/
theorem sumOf_at (P : Vec Ideal S8x176x1024 .bf16) (r : Fin 176) (j : Fin 1024) :
    sumOf P (ix2 r j) = ∑ k : Fin 8, P (ix3 k r j) := by
  rw [Fin.sum_univ_eight]
  unfold sumOf
  pointwise [k0_pay4]

/-- The reference's sum at an entry. -/
theorem ref_g (t : Fin 3) (r : Fin 176) (j : Fin 1024) :
    Cert.Reference5Ideal.Read.val_main_v1 (F := Ideal) (argG m c) (ix2 (at176 t r) j)
      = sumOf (iblk m c 0 (pt t)) (ix2 r j) := by
  rw [sumOf_at, Cert.Reference5Ideal.Read.val_main_v1_apply]
  refine (congrArg (· + _) (Ideal.ofBits_zero .f32)).trans ((zero_add _).trans (Finset.sum_congr rfl fun k _ => ?_))
  refine Eq.trans ?_ (blk0 m c t k r j).symm
  exact congrArg (argG m c) (funext fun a => match a with | ⟨0, _⟩ => rfl | ⟨1, _⟩ => rfl | ⟨2, _⟩ => rfl)

/-- The sum of the parts. -/
theorem at4 : (dats m 0 c).arrAt 4 cfg0.N = Cert.Reference5Ideal.Read.val_main_v1 (F := Ideal) (argG m c) := by
  refine (dats m 0 c).arrAt_eq_of_covers 4 (Cert.Reference5Ideal.Read.val_main_v1 (F := Ideal) (argG m c)) (by decide +kernel) fun t hf y => ?_
  clear hf
  obtain ⟨t, rfl⟩ := point_of t
  rw [after0_4, out0_4, View.canon_unit_zero (by decide)]
  blk_simp
  revert y
  show ∀ y : S176x1024.Idx, _
  intro y
  idx_vars y
  refine (ref_g m c t y0 y1).symm.trans ?_
  blk_ext [idx t, at176]

/-- The new first moments, at an entry of a block. -/
theorem ref6 (t : Fin 3) (r : Fin 176) (j : Fin 1024) :
    Cert.Reference5Ideal.Read.val_main_v6 (F := Ideal) (argG m c) (argM m c) (ix2 (at176 t r) j)
      = k0_pay1 (sumOf (iblk m c 0 (pt t))) (iblk m c 2 (pt t)) (ix2 r j) := by
  have hg := ref_g m c t r j
  have h1 := blk1 m c t r j
  have h2 := blk2 m c t r j
  have h3 := blk3 m c t r j
  revert hg h1 h2 h3
  generalize sumOf (iblk m c 0 (pt t)) = g
  generalize (iblk m c 1 (pt t) : Vec Ideal S176x1024 .f32) = b1
  generalize (iblk m c 2 (pt t) : Vec Ideal S176x1024 .f32) = b2
  generalize (iblk m c 3 (pt t) : Vec Ideal S176x1024 .f32) = b3
  intro hg h1 h2 h3
  pointwise [k0_pay1, k0_pay2, k0_pay3]
  simp only [val_main_cst_apply, val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply, val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply, hg, h1, h2, h3]
  rfl

/-- The new first moments. -/
theorem at6 : (dats m 0 c).arrAt 6 cfg0.N = Cert.Reference5Ideal.Read.val_main_v6 (F := Ideal) (argG m c) (argM m c) := by
  refine (dats m 0 c).arrAt_eq_of_covers 6 (Cert.Reference5Ideal.Read.val_main_v6 (F := Ideal) (argG m c) (argM m c)) (by decide +kernel) fun t hf y => ?_
  clear hf
  obtain ⟨t, rfl⟩ := point_of t
  rw [after0_6]
  unfold_out out0_6
  rw [View.canon_unit_zero (by decide)]
  simp only [whole]
  blk_simp
  revert y
  show ∀ y : S176x1024.Idx, _
  intro y
  idx_vars y
  refine (ref6 m c t y0 y1).symm.trans ?_
  blk_ext [idx t, at176]

/-- The new second moments, at an entry of a block. -/
theorem ref7 (t : Fin 3) (r : Fin 176) (j : Fin 1024) :
    Cert.Reference5Ideal.Read.val_main_v12 (F := Ideal) (argG m c) (argV m c) (ix2 (at176 t r) j)
      = k0_pay2 (sumOf (iblk m c 0 (pt t))) (iblk m c 3 (pt t)) (ix2 r j) := by
  have hg := ref_g m c t r j
  have h1 := blk1 m c t r j
  have h2 := blk2 m c t r j
  have h3 := blk3 m c t r j
  revert hg h1 h2 h3
  generalize sumOf (iblk m c 0 (pt t)) = g
  generalize (iblk m c 1 (pt t) : Vec Ideal S176x1024 .f32) = b1
  generalize (iblk m c 2 (pt t) : Vec Ideal S176x1024 .f32) = b2
  generalize (iblk m c 3 (pt t) : Vec Ideal S176x1024 .f32) = b3
  intro hg h1 h2 h3
  pointwise [k0_pay1, k0_pay2, k0_pay3]
  simp only [val_main_cst_apply, val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply, val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply, hg, h1, h2, h3]
  rfl

/-- The new second moments. -/
theorem at7 : (dats m 0 c).arrAt 7 cfg0.N = Cert.Reference5Ideal.Read.val_main_v12 (F := Ideal) (argG m c) (argV m c) := by
  refine (dats m 0 c).arrAt_eq_of_covers 7 (Cert.Reference5Ideal.Read.val_main_v12 (F := Ideal) (argG m c) (argV m c)) (by decide +kernel) fun t hf y => ?_
  clear hf
  obtain ⟨t, rfl⟩ := point_of t
  rw [after0_7]
  unfold_out out0_7
  rw [View.canon_unit_zero (by decide)]
  simp only [whole]
  blk_simp
  revert y
  show ∀ y : S176x1024.Idx, _
  intro y
  idx_vars y
  refine (ref7 m c t y0 y1).symm.trans ?_
  blk_ext [idx t, at176]

/-- The step, at an entry of a block. -/
theorem ref5 (t : Fin 3) (r : Fin 176) (j : Fin 1024) :
    Cert.Reference5Ideal.Read.val_main_v25 (F := Ideal) (argG m c) (argP m c) (argM m c) (argV m c) (ix2 (at176 t r) j)
      = k0_pay3 (sumOf (iblk m c 0 (pt t))) (iblk m c 2 (pt t)) (iblk m c 3 (pt t)) (iblk m c 1 (pt t)) (ix2 r j) := by
  have hg := ref_g m c t r j
  have h1 := blk1 m c t r j
  have h2 := blk2 m c t r j
  have h3 := blk3 m c t r j
  revert hg h1 h2 h3
  generalize sumOf (iblk m c 0 (pt t)) = g
  generalize (iblk m c 1 (pt t) : Vec Ideal S176x1024 .f32) = b1
  generalize (iblk m c 2 (pt t) : Vec Ideal S176x1024 .f32) = b2
  generalize (iblk m c 3 (pt t) : Vec Ideal S176x1024 .f32) = b3
  intro hg h1 h2 h3
  pointwise [k0_pay1, k0_pay2, k0_pay3]
  simp only [val_main_cst_apply, val_main_cst_0_apply, val_main_v2_apply, val_main_v3_apply, val_main_cst_1_apply, val_main_v4_apply, val_main_v5_apply, val_main_v6_apply, val_main_cst_2_apply, val_main_v7_apply, val_main_v8_apply, val_main_v9_apply, val_main_cst_3_apply, val_main_v10_apply, val_main_v11_apply, val_main_v12_apply, val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply, hg, h1, h2, h3]
  rfl

/-- The step. -/
theorem at5 : (dats m 0 c).arrAt 5 cfg0.N = Cert.Reference5Ideal.Read.val_main_v25 (F := Ideal) (argG m c) (argP m c) (argM m c) (argV m c) := by
  refine (dats m 0 c).arrAt_eq_of_covers 5 (Cert.Reference5Ideal.Read.val_main_v25 (F := Ideal) (argG m c) (argP m c) (argM m c) (argV m c)) (by decide +kernel) fun t hf y => ?_
  clear hf
  obtain ⟨t, rfl⟩ := point_of t
  rw [after0_5]
  unfold_out out0_5
  rw [View.canon_unit_zero (by decide)]
  simp only [whole]
  blk_simp
  revert y
  show ∀ y : S176x1024.Idx, _
  intro y
  idx_vars y
  refine (ref5 m c t y0 y1).symm.trans ?_
  blk_ext [idx t, at176]

end Cert.Kernel5Ideal.Adam
-- ==== Proof.AdamSmall.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

/-!
The optimiser's call on the packed small weights: the sum of the eight devices' parts, the step, and the two new moments
that the kernel leaves are the reference's.
-/

@[expose] public section

set_option maxRecDepth 16384

noncomputable section

namespace Cert.Kernel6Ideal.Adam

open Idealize.ShloMosaic Idealize.ShloMosaic.TcCoe
open Cert.Kernel6Ideal Cert.Kernel6Ideal.Gen Cert.Kernel6Ideal.Value Cert.Reference6Ideal.Read

variable (m : (ℓ : Loc nD τ sig) → Buf (Elt Ideal) ℓ) (c : Dev nD)

/-- The eight devices' parts of the gradient. -/
def argG : Vec Ideal S8x272x1024 .f32 := m ((c : Thread nD τ).loc main_arg0)
/-- The weights. -/
def argP : Vec Ideal S272x1024 .f32 := m ((c : Thread nD τ).loc main_arg1)
/-- The first moments. -/
def argM : Vec Ideal S272x1024 .f32 := m ((c : Thread nD τ).loc main_arg2)
/-- The second moments. -/
def argV : Vec Ideal S272x1024 .f32 := m ((c : Thread nD τ).loc main_arg3)

/-- Row `r` of block `t`. -/
def at272 (t : Fin 1) (r : Fin 272) : Fin 272 := ⟨272 * t.val + r.val, by omega⟩

/-- The grid's point of block `t`. -/
def pt (t : Fin 1) : Fin cfg0.N := ⟨t.val, by rw [show cfg0.N = 1 from N_0]; omega⟩

/-- Every point of the grid is some block's. -/
theorem point_of (t : Fin cfg0.N) : ∃ s : Fin 1, t = pt s :=
  ⟨⟨t.val, lt_of_lt_of_eq t.isLt (show cfg0.N = 1 from N_0)⟩, rfl⟩

/-- Each argument's block number at a point. -/
theorem idx : ∀ t : Fin 1, win0_0.index (pt t) = ![0, t.val, 0] ∧ win0_1.index (pt t) = ![t.val, 0]
    ∧ win0_2.index (pt t) = ![t.val, 0] ∧ win0_3.index (pt t) = ![t.val, 0] ∧ win0_4.index (pt t) = ![t.val, 0]
    ∧ win0_5.index (pt t) = ![t.val, 0] ∧ win0_6.index (pt t) = ![t.val, 0] ∧ win0_7.index (pt t) = ![t.val, 0] := by
  decide +kernel

/-- The parts' block. -/
theorem blk0 (t : Fin 1) (k : Fin 8) (r : Fin 272) (j : Fin 1024) :
    (iblk m c 0 (pt t) : Vec Ideal S8x272x1024 .f32) (ix3 k r j) = argG m c (ix3 k (at272 t r) j) := by
  show _ = (V m c main_arg0 : Vec Ideal S8x272x1024 .f32) (ix3 k (at272 t r) j)
  blk_ext [iblk, idx t, at272]

/-- The weights' block. -/
theorem blk1 (t : Fin 1) (r : Fin 272) (j : Fin 1024) :
    (iblk m c 1 (pt t) : Vec Ideal S272x1024 .f32) (ix2 r j) = argP m c (ix2 (at272 t r) j) := by
  show _ = (V m c main_arg1 : Vec Ideal S272x1024 .f32) (ix2 (at272 t r) j)
  blk_ext [iblk, idx t, at272]

/-- The first moments' block. -/
theorem blk2 (t : Fin 1) (r : Fin 272) (j : Fin 1024) :
    (iblk m c 2 (pt t) : Vec Ideal S272x1024 .f32) (ix2 r j) = argM m c (ix2 (at272 t r) j) := by
  show _ = (V m c main_arg2 : Vec Ideal S272x1024 .f32) (ix2 (at272 t r) j)
  blk_ext [iblk, idx t, at272]

/-- The second moments' block. -/
theorem blk3 (t : Fin 1) (r : Fin 272) (j : Fin 1024) :
    (iblk m c 3 (pt t) : Vec Ideal S272x1024 .f32) (ix2 r j) = argV m c (ix2 (at272 t r) j) := by
  show _ = (V m c main_arg3 : Vec Ideal S272x1024 .f32) (ix2 (at272 t r) j)
  blk_ext [iblk, idx t, at272]

/-- The sum that a block's body forms of its eight parts. -/
def sumOf (P : Vec Ideal S8x272x1024 .f32) : Vec Ideal S272x1024 .f32 :=
  k0_pay4 (View.ld P r0_0) (View.ld P r0_1) (View.ld P r0_2) (View.ld P r0_3) (View.ld P r0_4) (View.ld P r0_5)
    (View.ld P r0_6) (View.ld P r0_7)

/-- One part's slab, read as rows. -/
theorem slab (P : Vec Ideal S8x272x1024 .f32) (k : Fin 8) (h) (r : Fin 272) (j : Fin 1024) :
    View.ld P (Rect.unit (s := S8x272x1024) ![k.val, 0, 0] S1x272x1024.size h) (ix3 0 r j) = P (ix3 k r j) := by
  refine View.ld_unit_apply_of P _ _ h _ _ fun a => ?_
  match a with
  | ⟨0, _⟩ => rfl
  | ⟨1, _⟩ => exact (Nat.zero_add _).symm
  | ⟨2, _⟩ => exact (Nat.zero_add _).symm

/-- A load of a whole block reads the block. -/
theorem whole (b : Vec Ideal S272x1024 .f32) : View.ld b r0_8 = b :=
  View.ld_unit_zero (by decide) inb_S272x1024_S272x1024_0_0 b

/-- It is the sum over the parts. -/
theorem sumOf_at (P : Vec Ideal S8x272x1024 .f32) (r : Fin 272) (j : Fin 1024) :
    sumOf P (ix2 r j) = ∑ k : Fin 8, P (ix3 k r j) := by
  rw [Fin.sum_univ_eight]
  unfold sumOf
  pointwise [k0_pay4]

/-- The reference's sum at an entry. -/
theorem ref_g (t : Fin 1) (r : Fin 272) (j : Fin 1024) :
    Cert.Reference6Ideal.Read.val_main_v0 (F := Ideal) (argG m c) (ix2 (at272 t r) j)
      = sumOf (iblk m c 0 (pt t)) (ix2 r j) := by
  rw [sumOf_at, Cert.Reference6Ideal.Read.val_main_v0_apply]
  refine (congrArg (· + _) (Ideal.ofBits_zero .f32)).trans ((zero_add _).trans (Finset.sum_congr rfl fun k _ => ?_))
  refine Eq.trans ?_ (blk0 m c t k r j).symm
  exact congrArg (argG m c) (funext fun a => match a with | ⟨0, _⟩ => rfl | ⟨1, _⟩ => rfl | ⟨2, _⟩ => rfl)

/-- The sum of the parts. -/
theorem at4 : (dats m 0 c).arrAt 4 cfg0.N = Cert.Reference6Ideal.Read.val_main_v0 (F := Ideal) (argG m c) := by
  refine (dats m 0 c).arrAt_eq_of_covers 4 (Cert.Reference6Ideal.Read.val_main_v0 (F := Ideal) (argG m c)) (by decide +kernel) fun t hf y => ?_
  clear hf
  obtain ⟨t, rfl⟩ := point_of t
  rw [after0_4, out0_4, View.canon_unit_zero (by decide)]
  blk_simp
  revert y
  show ∀ y : S272x1024.Idx, _
  intro y
  idx_vars y
  refine (ref_g m c t y0 y1).symm.trans ?_
  blk_ext [idx t, at272]

/-- The new first moments, at an entry of a block. -/
theorem ref6 (t : Fin 1) (r : Fin 272) (j : Fin 1024) :
    Cert.Reference6Ideal.Read.val_main_v5 (F := Ideal) (argG m c) (argM m c) (ix2 (at272 t r) j)
      = k0_pay1 (sumOf (iblk m c 0 (pt t))) (k0_pay5 (iblk m c 2 (pt t))) (k0_pay6 (F := Ideal)) (ix2 r j) := by
  have hg := ref_g m c t r j
  have h1 := blk1 m c t r j
  have h2 := blk2 m c t r j
  have h3 := blk3 m c t r j
  revert hg h1 h2 h3
  generalize sumOf (iblk m c 0 (pt t)) = g
  generalize (iblk m c 1 (pt t) : Vec Ideal S272x1024 .f32) = b1
  generalize (iblk m c 2 (pt t) : Vec Ideal S272x1024 .f32) = b2
  generalize (iblk m c 3 (pt t) : Vec Ideal S272x1024 .f32) = b3
  intro hg h1 h2 h3
  pointwise [k0_pay1, k0_pay2, k0_pay3, k0_pay5, k0_pay6]
  simp only [val_main_cst_apply, val_main_cst_0_apply, val_main_v1_apply, val_main_v2_apply, val_main_cst_1_apply, val_main_v3_apply, val_main_v4_apply, val_main_v5_apply, val_main_cst_2_apply, val_main_v6_apply, val_main_v7_apply, val_main_v8_apply, val_main_cst_3_apply, val_main_v9_apply, val_main_v10_apply, val_main_v11_apply, val_main_cst_4_apply, val_main_v12_apply, val_main_v13_apply, val_main_cst_5_apply, val_main_v14_apply, val_main_v15_apply, val_main_v16_apply, val_main_cst_6_apply, val_main_v17_apply, val_main_v18_apply, val_main_v19_apply, val_main_cst_7_apply, val_main_v20_apply, val_main_v21_apply, val_main_v22_apply, val_main_cst_8_apply, val_main_v23_apply, val_main_v24_apply, hg, h1, h2, h3]
  rfl

/-- The new first moments. -/
theorem at6 : (dats m 0 c).arrAt 6 cfg0.N = Cert.Reference6Ideal.Read.val_main_v5 (F := Ideal) (argG m c) (argM m c) := by
  refine (dats m 0 c).arrAt_eq_of_covers 6 (Cert.Reference6Ideal.Read.val_main_v5 (F := Ideal) (argG m c) (argM m c)) (by decide +kernel) fun t hf y => ?_
  clear hf
  obtain ⟨t, rfl⟩ := point_of t
  rw [after0_6]
  unfold_out out0_6
  rw [View.canon_unit_zero (by decide)]
  simp only [whole]
  blk_simp
  revert y
  show ∀ y : S272x1024.Idx, _
  intro y
  idx_vars y
  refine (ref6 m c t y0 y1).symm.trans ?_
  blk_ext [idx t, at272]

/-- The new second moments, at an entry of a block. -/
theorem ref7 (t : Fin 1) (r : Fin 272) (j : Fin 1024) :
    Cert.Reference6Ideal.Read.val_main_v11 (F := Ideal) (argG m c) (argV m c) (ix2 (at272 t r) j)
      = k0_pay2 (sumOf (iblk m c 0 (pt t))) (iblk m c 3 (pt t)) (ix2 r j) := by
  have hg := ref_g m c t r j
  have h1 := blk1 m c t r j
  have h2 := blk2 m c t r j
  have h3 := blk3 m c t r j
  revert hg h1 h2 h3
  generalize sumOf (iblk m c 0 (pt t)) = g
  generalize (iblk m c 1 (pt t) : Vec Ideal S272x1024 .f32) = b1
  generalize (iblk m c 2 (pt t) : Vec Ideal S272x1024 .f32) = b2
  generalize (iblk m c 3 (pt t) : Vec Ideal S272x1024 .f32) = b3
  intro hg h1 h2 h3
  pointwise [k0_pay1, k0_pay2, k0_pay3, k0_pay5, k0_pay6]
  simp only [val_main_cst_apply, val_main_cst_0_apply, val_main_v1_apply, val_main_v2_apply, val_main_cst_1_apply, val_main_v3_apply, val_main_v4_apply, val_main_v5_apply, val_main_cst_2_apply, val_main_v6_apply, val_main_v7_apply, val_main_v8_apply, val_main_cst_3_apply, val_main_v9_apply, val_main_v10_apply, val_main_v11_apply, val_main_cst_4_apply, val_main_v12_apply, val_main_v13_apply, val_main_cst_5_apply, val_main_v14_apply, val_main_v15_apply, val_main_v16_apply, val_main_cst_6_apply, val_main_v17_apply, val_main_v18_apply, val_main_v19_apply, val_main_cst_7_apply, val_main_v20_apply, val_main_v21_apply, val_main_v22_apply, val_main_cst_8_apply, val_main_v23_apply, val_main_v24_apply, hg, h1, h2, h3]
  rfl

/-- The new second moments. -/
theorem at7 : (dats m 0 c).arrAt 7 cfg0.N = Cert.Reference6Ideal.Read.val_main_v11 (F := Ideal) (argG m c) (argV m c) := by
  refine (dats m 0 c).arrAt_eq_of_covers 7 (Cert.Reference6Ideal.Read.val_main_v11 (F := Ideal) (argG m c) (argV m c)) (by decide +kernel) fun t hf y => ?_
  clear hf
  obtain ⟨t, rfl⟩ := point_of t
  rw [after0_7]
  unfold_out out0_7
  rw [View.canon_unit_zero (by decide)]
  simp only [whole]
  blk_simp
  revert y
  show ∀ y : S272x1024.Idx, _
  intro y
  idx_vars y
  refine (ref7 m c t y0 y1).symm.trans ?_
  blk_ext [idx t, at272]

/-- The step, at an entry of a block. -/
theorem ref5 (t : Fin 1) (r : Fin 272) (j : Fin 1024) :
    Cert.Reference6Ideal.Read.val_main_v24 (F := Ideal) (argG m c) (argP m c) (argM m c) (argV m c) (ix2 (at272 t r) j)
      = k0_pay3 (sumOf (iblk m c 0 (pt t))) (k0_pay5 (iblk m c 2 (pt t))) (k0_pay6 (F := Ideal)) (iblk m c 3 (pt t)) (iblk m c 1 (pt t)) (ix2 r j) := by
  have hg := ref_g m c t r j
  have h1 := blk1 m c t r j
  have h2 := blk2 m c t r j
  have h3 := blk3 m c t r j
  revert hg h1 h2 h3
  generalize sumOf (iblk m c 0 (pt t)) = g
  generalize (iblk m c 1 (pt t) : Vec Ideal S272x1024 .f32) = b1
  generalize (iblk m c 2 (pt t) : Vec Ideal S272x1024 .f32) = b2
  generalize (iblk m c 3 (pt t) : Vec Ideal S272x1024 .f32) = b3
  intro hg h1 h2 h3
  pointwise [k0_pay1, k0_pay2, k0_pay3, k0_pay5, k0_pay6]
  simp only [val_main_cst_apply, val_main_cst_0_apply, val_main_v1_apply, val_main_v2_apply, val_main_cst_1_apply, val_main_v3_apply, val_main_v4_apply, val_main_v5_apply, val_main_cst_2_apply, val_main_v6_apply, val_main_v7_apply, val_main_v8_apply, val_main_cst_3_apply, val_main_v9_apply, val_main_v10_apply, val_main_v11_apply, val_main_cst_4_apply, val_main_v12_apply, val_main_v13_apply, val_main_cst_5_apply, val_main_v14_apply, val_main_v15_apply, val_main_v16_apply, val_main_cst_6_apply, val_main_v17_apply, val_main_v18_apply, val_main_v19_apply, val_main_cst_7_apply, val_main_v20_apply, val_main_v21_apply, val_main_v22_apply, val_main_cst_8_apply, val_main_v23_apply, val_main_v24_apply, hg, h1, h2, h3]
  rfl

/-- The step. -/
theorem at5 : (dats m 0 c).arrAt 5 cfg0.N = Cert.Reference6Ideal.Read.val_main_v24 (F := Ideal) (argG m c) (argP m c) (argM m c) (argV m c) := by
  refine (dats m 0 c).arrAt_eq_of_covers 5 (Cert.Reference6Ideal.Read.val_main_v24 (F := Ideal) (argG m c) (argP m c) (argM m c) (argV m c)) (by decide +kernel) fun t hf y => ?_
  clear hf
  obtain ⟨t, rfl⟩ := point_of t
  rw [after0_5]
  unfold_out out0_5
  rw [View.canon_unit_zero (by decide)]
  simp only [whole]
  blk_simp
  revert y
  show ∀ y : S272x1024.Idx, _
  intro y
  idx_vars y
  refine (ref5 m c t y0 y1).symm.trans ?_
  blk_ext [idx t, at272]

end Cert.Kernel6Ideal.Adam
-- ==== Proof.MergeRow.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise

/-!
The merging of the two branches, row by row over the extended reals: the GELU, the half gate, the two projections with
their gates, the output projection and the sum with the row that came in. A grid step of the kernel and the reference both
compute it.
-/

@[expose] public section

set_option maxRecDepth 16384

noncomputable section

namespace Cert.Merge

open Idealize.ShloMosaic Idealize.ShloMosaic.TcCoe

/-- The logistic function. -/
def sg (x : EReal) : EReal := FloatOps.logistic (F := Ideal) (φ := .f32) x

/-- The GELU, by the error function. -/
def act (y : EReal) : EReal :=
  FloatOps.ofBits (F := Ideal) .f32 0x3F000000#32 * y * (1 + Ideal.erf (y * FloatOps.ofBits (F := Ideal) .f32 0x3F3504F3#32))

/-- The scan's output after the GELU: the skip, then the two directions. -/
def zz (u f b d : Fin 512 → EReal) (l : Fin 512) : EReal := act (u l * d l + f l + b l)

/-- The half gate. -/
def glu (z : Fin 512 → EReal) (w : Fin 512 → Fin 512 → EReal) (g : Fin 512 → EReal) (l : Fin 512) : EReal :=
  z l * sg (∑ k, z k * w k l + g l)

/-- The state-space branch, projected. -/
def proj (u f b d : Fin 512 → EReal) (w : Fin 512 → Fin 512 → EReal) (g : Fin 512 → EReal) (p : Fin 512 → Fin 1024 → EReal)
    (j : Fin 1024) : EReal := ∑ l, glu (zz u f b d) w g l * p l j

/-- A place in the first half of the gates. -/
def lo (j : Fin 1024) : Fin 2048 := ⟨j.val, by omega⟩
/-- A place in the second half of the gates. -/
def hi (j : Fin 1024) : Fin 2048 := ⟨1024 + j.val, by omega⟩

/-- The two gated branches, added, projected, and added to the row. -/
def row (x : Fin 1024 → EReal) (s : Fin 1024 → EReal) (y : Fin 1024 → EReal) (h : Fin 2048 → EReal)
    (p o : Fin 1024 → Fin 1024 → EReal) (j : Fin 1024) : EReal :=
  x j + ∑ k, (sg (h (lo k)) * s k + sg (h (hi k)) * ∑ l, y l * p l k) * o k j

/-- Equal parts give an equal projected branch. -/
theorem proj_congr {u u' f f' b b' d d' : Fin 512 → EReal} {w w' : Fin 512 → Fin 512 → EReal} {g g' : Fin 512 → EReal}
    {p p' : Fin 512 → Fin 1024 → EReal} (h1 : u = u') (h2 : f = f') (h3 : b = b') (h4 : d = d') (h5 : w = w') (h6 : g = g')
    (h7 : p = p') : proj u f b d w g p = proj u' f' b' d' w' g' p' := by
  subst h1 h2 h3 h4 h5 h6 h7
  rfl

/-- Equal parts give an equal row. -/
theorem row_congr {x x' s s' y y' : Fin 1024 → EReal} {h h' : Fin 2048 → EReal} {p p' o o' : Fin 1024 → Fin 1024 → EReal}
    (h1 : x = x') (h2 : s = s') (h3 : y = y') (h4 : h = h') (h5 : p = p') (h6 : o = o') :
    row x s y h p o = row x' s' y' h' p' o' := by
  subst h1 h2 h3 h4 h5 h6
  rfl

section
open Cert.Kernel7Ideal Cert.Kernel7Ideal.Gen

/-- The kernel's projected state-space branch. -/
theorem pay3 (u f b : Vec Ideal S384x512 .f32) (d : Vec Ideal S1x512 .f32) (w : Vec Ideal S512x512 .bf16)
    (g : Vec Ideal S1x512 .f32) (p : Vec Ideal S512x1024 .bf16) (r : Fin 384) (j : Fin 1024) :
    k0_pay3 u f b d w g p (ix2 r j)
      = proj (fun l => u (ix2 r l)) (fun l => f (ix2 r l)) (fun l => b (ix2 r l)) (fun l => d (ix2 0 l))
          (fun k l => w (ix2 k l)) (fun l => g (ix2 0 l)) (fun l j => p (ix2 l j)) j := by
  unfold proj glu zz act sg
  pointwise [k0_pay3]
  rfl

/-- The kernel's result from the projected branch. -/
theorem pay1 (y : FVec Ideal S1024x384 .bf16) (h : Vec Ideal S384x2048 .f32) (s : FVec Ideal S384x1024 .f32)
    (p : Vec Ideal S1024x1024 .bf16) (x : Vec Ideal S384x1024 .f32) (o : Vec Ideal S1024x1024 .bf16) (r : Fin 384) (j : Fin 1024) :
    k0_pay1 (k0_pay2 y) h s p x o (ix2 r j)
      = row (fun j => x (ix2 r j)) (fun j => s (ix2 r j)) (fun l => y (ix2 l r)) (fun j => h (ix2 r j))
          (fun k l => p (ix2 k l)) (fun k l => o (ix2 k l)) j := by
  unfold row sg lo hi
  pointwise [k0_pay1, k0_pay2]

end

section
open Cert.Reference7Ideal Cert.Reference7Ideal.Read

variable (x0 : (⟨S8448x1024, .f32⟩ : BufTy).Contents (Elt Ideal)) (x1 x2 x3 : (⟨S8448x512, .f32⟩ : BufTy).Contents (Elt Ideal))
  (x4 : (⟨S8448x1024, .f32⟩ : BufTy).Contents (Elt Ideal)) (x5 : (⟨S8448x2048, .f32⟩ : BufTy).Contents (Elt Ideal))
  (x6 : (⟨S512, .f32⟩ : BufTy).Contents (Elt Ideal)) (x7 : (⟨S512x512, .f32⟩ : BufTy).Contents (Elt Ideal))
  (x8 : (⟨S512, .f32⟩ : BufTy).Contents (Elt Ideal)) (x9 : (⟨S512x1024, .f32⟩ : BufTy).Contents (Elt Ideal))
  (x10 x11 : (⟨S1024x1024, .f32⟩ : BufTy).Contents (Elt Ideal))

/-- The reference's logistic function, written as a quotient. -/
theorem quot (x : EReal) : FloatOps.hostDivf (F := Ideal) (φ := .f32) (FloatOps.ofBits .f32 0x3F800000#32)
    (FloatOps.addf (FloatOps.ofBits .f32 0x3F800000#32) (FloatOps.hostUnary .exp (FloatOps.hostNegf x))) = sg x := by
  unfold sg
  pointwise []
  rfl

/-- The reference's GELU, by the complement of the error function at the negated argument. -/
theorem gelu (y : EReal) : FloatOps.mulf (F := Ideal) (φ := .f32) (FloatOps.mulf (FloatOps.ofBits .f32 0x3F000000#32) y)
    (FloatOps.hostUnary .erfc (FloatOps.mulf (FloatOps.hostNegf y) (FloatOps.ofBits .f32 0x3F3504F3#32))) = act y := by
  unfold act
  simp only [Ideal.mulf_def, Ideal.hostUnary_erfc_def, Ideal.hostNegf_def, Ideal.negf_def, EReal.neg_mul, Ideal.erfc_neg]

/-- The reference's scan output after the GELU. -/
theorem ref11 (n : Fin 8448) (l : Fin 512) : val_main_v11 (F := Ideal) x1 x2 x3 x6 (ix2 n l)
    = zz (fun l => x1 (ix2 n l)) (fun l => x2 (ix2 n l)) (fun l => x3 (ix2 n l)) (fun l => x6 (ix1 l)) l := by
  refine (gelu _).trans (congrArg act ?_)
  have g : idx_main_v0 (idx_main_v1 (ix2 n l)) = ix1 l := by
    funext a; match a with | ⟨0, _⟩ => rfl
  rw [val_main_v4_apply, val_main_v3_apply, val_main_v2_apply, val_main_v1_apply, val_main_v0_apply, g]
  rfl

/-- The reference's half gate. -/
theorem ref22 (n : Fin 8448) (l : Fin 512) : val_main_v22 (F := Ideal) x1 x2 x3 x6 x7 x8 (ix2 n l)
    = glu (zz (fun l => x1 (ix2 n l)) (fun l => x2 (ix2 n l)) (fun l => x3 (ix2 n l)) (fun l => x6 (ix1 l)))
        (fun k l => x7 (ix2 k l)) (fun l => x8 (ix1 l)) l := by
  have e : ∀ k, val_main_v11 (F := Ideal) x1 x2 x3 x6 (lidx_main_v12 (ix2 n l) k) = _ := fun k =>
    (congrArg _ (by funext a; match a with | ⟨0, _⟩ => rfl | ⟨1, _⟩ => rfl)).trans (ref11 x1 x2 x3 x6 n k)
  have f : ∀ k, ridx_main_v12 (ix2 n l) k = ix2 k l := fun k => by
    funext a; match a with | ⟨0, _⟩ => rfl | ⟨1, _⟩ => rfl
  have g : idx_main_v13 (idx_main_v14 (ix2 n l)) = ix1 l := by
    funext a; match a with | ⟨0, _⟩ => rfl
  have q : val_main_v21 (F := Ideal) x1 x2 x3 x6 x7 x8 (ix2 n l) = sg (val_main_v15 (F := Ideal) x1 x2 x3 x6 x7 x8 (ix2 n l)) :=
    quot _
  rw [val_main_v22_apply, ref11, q, val_main_v15_apply, val_main_v12_apply, val_main_v14_apply, val_main_v13_apply, g]
  simp only [e, f]
  rfl

/-- The reference's projected state-space branch. -/
theorem ref31 (n : Fin 8448) (j : Fin 1024) : val_main_v31 (F := Ideal) x1 x2 x3 x6 x7 x8 x9 (ix2 n j)
    = proj (fun l => x1 (ix2 n l)) (fun l => x2 (ix2 n l)) (fun l => x3 (ix2 n l)) (fun l => x6 (ix1 l))
        (fun k l => x7 (ix2 k l)) (fun l => x8 (ix1 l)) (fun l j => x9 (ix2 l j)) j := by
  have e : ∀ k, val_main_v22 (F := Ideal) x1 x2 x3 x6 x7 x8 (lidx_main_v31 (ix2 n j) k) = _ := fun k =>
    (congrArg _ (by funext a; match a with | ⟨0, _⟩ => rfl | ⟨1, _⟩ => rfl)).trans (ref22 x1 x2 x3 x6 x7 x8 n k)
  have f : ∀ k, ridx_main_v31 (ix2 n j) k = ix2 k j := fun k => by
    funext a; match a with | ⟨0, _⟩ => rfl | ⟨1, _⟩ => rfl
  rw [val_main_v31_apply]
  simp only [e, f]
  rfl

/-- The reference's merged row, before the output projection. -/
theorem ref41 (n : Fin 8448) (k : Fin 1024) : val_main_v41 (F := Ideal) x1 x2 x3 x4 x5 x6 x7 x8 x9 x10 (ix2 n k)
    = sg (x5 (ix2 n (lo k))) * proj (fun l => x1 (ix2 n l)) (fun l => x2 (ix2 n l)) (fun l => x3 (ix2 n l)) (fun l => x6 (ix1 l))
        (fun k l => x7 (ix2 k l)) (fun l => x8 (ix1 l)) (fun l j => x9 (ix2 l j)) k
      + sg (x5 (ix2 n (hi k))) * ∑ l, x4 (ix2 n l) * x10 (ix2 l k) := by
  have q : val_main_v30 (F := Ideal) x5 (ix2 n k) = sg (val_main_v23 (F := Ideal) x5 (ix2 n k)) := quot _
  have q' : val_main_v38 (F := Ideal) x5 (ix2 n k) = sg (val_main_v24 (F := Ideal) x5 (ix2 n k)) := quot _
  have g : idx_main_v23 (ix2 n k) = ix2 n (lo k) := by funext a; match a with | ⟨0, _⟩ => rfl | ⟨1, _⟩ => rfl
  have g' : idx_main_v24 (ix2 n k) = ix2 n (hi k) := by funext a; match a with | ⟨0, _⟩ => rfl | ⟨1, _⟩ => rfl
  have e : ∀ l, lidx_main_v39 (ix2 n k) l = ix2 n l := fun l => by
    funext a; match a with | ⟨0, _⟩ => rfl | ⟨1, _⟩ => rfl
  have f : ∀ l, ridx_main_v39 (ix2 n k) l = ix2 l k := fun l => by
    funext a; match a with | ⟨0, _⟩ => rfl | ⟨1, _⟩ => rfl
  rw [val_main_v41_apply, val_main_v32_apply, val_main_v40_apply, q, q', val_main_v23_apply, val_main_v24_apply, g, g',
    ref31, val_main_v39_apply]
  simp only [e, f]
  rfl

/-- The reference's result, row by row. -/
theorem ref43 (n : Fin 8448) (j : Fin 1024) : val_main_v43 (F := Ideal) x0 x1 x2 x3 x4 x5 x6 x7 x8 x9 x10 x11 (ix2 n j)
    = row (fun j => x0 (ix2 n j)) (proj (fun l => x1 (ix2 n l)) (fun l => x2 (ix2 n l)) (fun l => x3 (ix2 n l)) (fun l => x6 (ix1 l))
        (fun k l => x7 (ix2 k l)) (fun l => x8 (ix1 l)) (fun l j => x9 (ix2 l j)))
        (fun l => x4 (ix2 n l)) (fun j => x5 (ix2 n j)) (fun k l => x10 (ix2 k l)) (fun k l => x11 (ix2 k l)) j := by
  have e : ∀ k, val_main_v41 (F := Ideal) x1 x2 x3 x4 x5 x6 x7 x8 x9 x10 (lidx_main_v42 (ix2 n j) k) = _ := fun k =>
    (congrArg _ (by funext a; match a with | ⟨0, _⟩ => rfl | ⟨1, _⟩ => rfl)).trans (ref41 x1 x2 x3 x4 x5 x6 x7 x8 x9 x10 n k)
  have f : ∀ k, ridx_main_v42 (ix2 n j) k = ix2 k j := fun k => by
    funext a; match a with | ⟨0, _⟩ => rfl | ⟨1, _⟩ => rfl
  rw [val_main_v43_apply, val_main_v42_apply]
  simp only [e, f]
  rfl

end

end Cert.Merge

end
-- ==== Proof.Merge.lean ====
module

public import proofs.«01_k».proof.Proof.MergeRow
public import Idealize.ShloMosaic.Lib.StableHlo.ReadAt

/-!
The merging call: the arrays that the host code prepares, the blocks of a point, and the equation of the kernel's result
with the reference's.
-/

@[expose] public section

set_option maxRecDepth 16384

noncomputable section

namespace Cert.Kernel7Ideal.Merge

open Idealize.ShloMosaic Idealize.ShloMosaic.TcCoe
open Cert.Kernel7Ideal Cert.Kernel7Ideal.Gen Cert.Kernel7Ideal.Value Cert.Merge

variable (m : (ℓ : Loc nD τ sig) → Buf (Elt Ideal) ℓ) (c : Dev nD)

/-- The rows. -/
abbrev argX : FVec Ideal S8448x1024 .f32 := m ((c : Thread nD τ).loc main_arg0)
/-- The scan's input. -/
abbrev argU : FVec Ideal S8448x512 .f32 := m ((c : Thread nD τ).loc main_arg1)
/-- The scan's forward output. -/
abbrev argF : FVec Ideal S8448x512 .f32 := m ((c : Thread nD τ).loc main_arg2)
/-- The scan's backward output. -/
abbrev argB : FVec Ideal S8448x512 .f32 := m ((c : Thread nD τ).loc main_arg3)
/-- The attention's output. -/
abbrev argY : FVec Ideal S8448x1024 .f32 := m ((c : Thread nD τ).loc main_arg4)
/-- The gates. -/
abbrev argH : FVec Ideal S8448x2048 .f32 := m ((c : Thread nD τ).loc main_arg5)
/-- The skip. -/
abbrev argD : FVec Ideal S512 .f32 := m ((c : Thread nD τ).loc main_arg6)
/-- The half gate's weight. -/
abbrev argW : FVec Ideal S512x512 .f32 := m ((c : Thread nD τ).loc main_arg7)
/-- The half gate's bias. -/
abbrev argG : FVec Ideal S512 .f32 := m ((c : Thread nD τ).loc main_arg8)
/-- The state-space branch's projection. -/
abbrev argP : FVec Ideal S512x1024 .f32 := m ((c : Thread nD τ).loc main_arg9)
/-- The attention's projection. -/
abbrev argQ : FVec Ideal S1024x1024 .f32 := m ((c : Thread nD τ).loc main_arg10)
/-- The output projection. -/
abbrev argO : FVec Ideal S1024x1024 .f32 := m ((c : Thread nD τ).loc main_arg11)

/-- The arrays at the call are those that the host code leaves. -/
theorem V_eq (b : Ref sig .tc) : V m c b = StableHlo.after hostOps0 (fun b => m (c, b)) b := rfl

/-- The attention's output, transposed. -/
theorem y_at (l : Fin 1024) (n : Fin 8448) : (V m c main_v1 : Vec Ideal S1024x8448 .bf16) (ix2 l n) = argY m c (ix2 n l) := by
  rw [V_eq]
  after_reads_at

/-- The skip, as a row. -/
theorem d_at (l : Fin 512) : (V m c main_v2 : Vec Ideal S1x512 .f32) (ix2 0 l) = argD m c (ix1 l) := by
  rw [V_eq]
  after_reads_at

/-- The half gate's weight. -/
theorem w_at (k l : Fin 512) : (V m c main_v3 : Vec Ideal S512x512 .bf16) (ix2 k l) = argW m c (ix2 k l) := by
  rw [V_eq]
  after_reads_at

/-- The half gate's bias, as a row. -/
theorem g_at (l : Fin 512) : (V m c main_v4 : Vec Ideal S1x512 .f32) (ix2 0 l) = argG m c (ix1 l) := by
  rw [V_eq]
  after_reads_at

/-- The state-space branch's projection. -/
theorem p_at (l : Fin 512) (j : Fin 1024) : (V m c main_v5 : Vec Ideal S512x1024 .bf16) (ix2 l j) = argP m c (ix2 l j) := by
  rw [V_eq]
  after_reads_at

/-- The attention's projection. -/
theorem q_at (l j : Fin 1024) : (V m c main_v6 : Vec Ideal S1024x1024 .bf16) (ix2 l j) = argQ m c (ix2 l j) := by
  rw [V_eq]
  after_reads_at

/-- The output projection. -/
theorem o_at (l j : Fin 1024) : (V m c main_v7 : Vec Ideal S1024x1024 .bf16) (ix2 l j) = argO m c (ix2 l j) := by
  rw [V_eq]
  after_reads_at

/-! ## The blocks of a point -/

/-- Row `r` of block `t` of twenty-two. -/
def at384 (t : Fin 22) (r : Fin 384) : Fin 8448 := ⟨384 * t.val + r.val, by omega⟩

/-- A point of the grid. -/
def pt (t : Fin 22) : Fin cfg0.N := ⟨t.val, by rw [show cfg0.N = 22 from N_0]; exact t.isLt⟩

/-- Every point is one of the twenty-two. -/
theorem point_of (t : Fin cfg0.N) : ∃ s : Fin 22, t = pt s := ⟨⟨t.val, lt_of_lt_of_eq t.isLt (show cfg0.N = 22 from N_0)⟩, rfl⟩

/-- Each window's block number at a point of the grid. -/
theorem idx : ∀ t : Fin 22, win0_0.index (pt t) = ![t.val, 0] ∧ win0_1.index (pt t) = ![t.val, 0]
    ∧ win0_2.index (pt t) = ![t.val, 0] ∧ win0_3.index (pt t) = ![t.val, 0]
    ∧ win0_4.index (pt t) = ![0, t.val] ∧ win0_5.index (pt t) = ![t.val, 0]
    ∧ win0_6.index (pt t) = ![0, 0] ∧ win0_7.index (pt t) = ![0, 0]
    ∧ win0_8.index (pt t) = ![0, 0] ∧ win0_9.index (pt t) = ![0, 0]
    ∧ win0_10.index (pt t) = ![0, 0] ∧ win0_11.index (pt t) = ![0, 0]
    ∧ win0_12.index (pt t) = ![t.val, 0] := by
  decide +kernel

variable (t : Fin 22)

/-- The rows' block. -/
theorem blk0 (r : Fin 384) (j : Fin 1024) : (iblk m c 0 (pt t) : Vec Ideal S384x1024 .f32) (ix2 r j) = argX m c (ix2 (at384 t r) j) := by
  have e : (iblk m c 0 (pt t) : Vec Ideal S384x1024 .f32) (ix2 r j) = (V m c main_arg0 : Vec Ideal S8448x1024 .f32) (ix2 (at384 t r) j) := by
    blk_ext [iblk, idx t, at384]
  rw [e]
  exact congrFun (V_main_arg0 m c) _

/-- The scan's input's block. -/
theorem blk1 (r : Fin 384) (l : Fin 512) : (iblk m c 1 (pt t) : Vec Ideal S384x512 .f32) (ix2 r l) = argU m c (ix2 (at384 t r) l) := by
  have e : (iblk m c 1 (pt t) : Vec Ideal S384x512 .f32) (ix2 r l) = (V m c main_arg1 : Vec Ideal S8448x512 .f32) (ix2 (at384 t r) l) := by
    blk_ext [iblk, idx t, at384]
  rw [e]
  exact congrFun (V_main_arg1 m c) _

/-- The forward output's block. -/
theorem blk2 (r : Fin 384) (l : Fin 512) : (iblk m c 2 (pt t) : Vec Ideal S384x512 .f32) (ix2 r l) = argF m c (ix2 (at384 t r) l) := by
  have e : (iblk m c 2 (pt t) : Vec Ideal S384x512 .f32) (ix2 r l) = (V m c main_arg2 : Vec Ideal S8448x512 .f32) (ix2 (at384 t r) l) := by
    blk_ext [iblk, idx t, at384]
  rw [e]
  exact congrFun (V_main_arg2 m c) _

/-- The backward output's block. -/
theorem blk3 (r : Fin 384) (l : Fin 512) : (iblk m c 3 (pt t) : Vec Ideal S384x512 .f32) (ix2 r l) = argB m c (ix2 (at384 t r) l) := by
  have e : (iblk m c 3 (pt t) : Vec Ideal S384x512 .f32) (ix2 r l) = (V m c main_arg3 : Vec Ideal S8448x512 .f32) (ix2 (at384 t r) l) := by
    blk_ext [iblk, idx t, at384]
  rw [e]
  exact congrFun (V_main_arg3 m c) _

/-- The attention's block, columns of the transposed array. -/
theorem blk4 (r : Fin 384) (l : Fin 1024) : (iblk m c 4 (pt t) : Vec Ideal S1024x384 .bf16) (ix2 l r) = argY m c (ix2 (at384 t r) l) := by
  have e : (iblk m c 4 (pt t) : Vec Ideal S1024x384 .bf16) (ix2 l r) = (V m c main_v1 : Vec Ideal S1024x8448 .bf16) (ix2 l (at384 t r)) := by
    blk_ext [iblk, idx t, at384]
  rw [e]
  exact y_at m c l (at384 t r)

/-- The gates' block. -/
theorem blk5 (r : Fin 384) (j : Fin 2048) : (iblk m c 5 (pt t) : Vec Ideal S384x2048 .f32) (ix2 r j) = argH m c (ix2 (at384 t r) j) := by
  have e : (iblk m c 5 (pt t) : Vec Ideal S384x2048 .f32) (ix2 r j) = (V m c main_arg5 : Vec Ideal S8448x2048 .f32) (ix2 (at384 t r) j) := by
    blk_ext [iblk, idx t, at384]
  rw [e]
  exact congrFun (V_main_arg5 m c) _

/-- The skip, whole. -/
theorem blk6 (l : Fin 512) : (iblk m c 6 (pt t) : Vec Ideal S1x512 .f32) (ix2 0 l) = argD m c (ix1 l) := by
  have e : (iblk m c 6 (pt t) : Vec Ideal S1x512 .f32) (ix2 0 l) = (V m c main_v2 : Vec Ideal S1x512 .f32) (ix2 0 l) := by
    blk_ext [iblk, idx t, at384]
  rw [e]
  exact d_at m c l

/-- The half gate's weight, whole. -/
theorem blk7 (k l : Fin 512) : (iblk m c 7 (pt t) : Vec Ideal S512x512 .bf16) (ix2 k l) = argW m c (ix2 k l) := by
  have e : (iblk m c 7 (pt t) : Vec Ideal S512x512 .bf16) (ix2 k l) = (V m c main_v3 : Vec Ideal S512x512 .bf16) (ix2 k l) := by
    blk_ext [iblk, idx t, at384]
  rw [e]
  exact w_at m c k l

/-- The half gate's bias, whole. -/
theorem blk8 (l : Fin 512) : (iblk m c 8 (pt t) : Vec Ideal S1x512 .f32) (ix2 0 l) = argG m c (ix1 l) := by
  have e : (iblk m c 8 (pt t) : Vec Ideal S1x512 .f32) (ix2 0 l) = (V m c main_v4 : Vec Ideal S1x512 .f32) (ix2 0 l) := by
    blk_ext [iblk, idx t, at384]
  rw [e]
  exact g_at m c l

/-- The state-space branch's projection, whole. -/
theorem blk9 (l : Fin 512) (j : Fin 1024) : (iblk m c 9 (pt t) : Vec Ideal S512x1024 .bf16) (ix2 l j) = argP m c (ix2 l j) := by
  have e : (iblk m c 9 (pt t) : Vec Ideal S512x1024 .bf16) (ix2 l j) = (V m c main_v5 : Vec Ideal S512x1024 .bf16) (ix2 l j) := by
    blk_ext [iblk, idx t, at384]
  rw [e]
  exact p_at m c l j

/-- The attention's projection, whole. -/
theorem blk10 (l j : Fin 1024) : (iblk m c 10 (pt t) : Vec Ideal S1024x1024 .bf16) (ix2 l j) = argQ m c (ix2 l j) := by
  have e : (iblk m c 10 (pt t) : Vec Ideal S1024x1024 .bf16) (ix2 l j) = (V m c main_v6 : Vec Ideal S1024x1024 .bf16) (ix2 l j) := by
    blk_ext [iblk, idx t, at384]
  rw [e]
  exact q_at m c l j

/-- The output projection, whole. -/
theorem blk11 (l j : Fin 1024) : (iblk m c 11 (pt t) : Vec Ideal S1024x1024 .bf16) (ix2 l j) = argO m c (ix2 l j) := by
  have e : (iblk m c 11 (pt t) : Vec Ideal S1024x1024 .bf16) (ix2 l j) = (V m c main_v7 : Vec Ideal S1024x1024 .bf16) (ix2 l j) := by
    blk_ext [iblk, idx t, at384]
  rw [e]
  exact o_at m c l j

/-- A load of the whole buffer of 384 × 512 gives it. -/
theorem whole0 (b : Vec Ideal S384x512 .f32) : View.ld b r0_0 = b := View.ld_unit_zero (by decide) inb_S384x512_S384x512_0_0 b

/-- A load of the whole buffer of 1024 × 384 gives it. -/
theorem whole1 (b : Vec Ideal S1024x384 .bf16) : View.ld b r0_1 = b := View.ld_unit_zero (by decide) inb_S1024x384_S1024x384_0_0 b

/-- A load of the whole buffer of 384 × 2048 gives it. -/
theorem whole2 (b : Vec Ideal S384x2048 .f32) : View.ld b r0_2 = b := View.ld_unit_zero (by decide) inb_S384x2048_S384x2048_0_0 b

/-- A load of the whole buffer of 1 × 512 gives it. -/
theorem whole3 (b : Vec Ideal S1x512 .f32) : View.ld b r0_3 = b := View.ld_unit_zero (by decide) inb_S1x512_S1x512_0_0 b

/-- A load of the whole buffer of 512 × 512 gives it. -/
theorem whole4 (b : Vec Ideal S512x512 .bf16) : View.ld b r0_4 = b := View.ld_unit_zero (by decide) inb_S512x512_S512x512_0_0 b

/-- A load of the whole buffer of 512 × 1024 gives it. -/
theorem whole5 (b : Vec Ideal S512x1024 .bf16) : View.ld b r0_5 = b := View.ld_unit_zero (by decide) inb_S512x1024_S512x1024_0_0 b

/-- A load of the whole buffer of 1024 × 1024 gives it. -/
theorem whole6 (b : Vec Ideal S1024x1024 .bf16) : View.ld b r0_6 = b := View.ld_unit_zero (by decide) inb_S1024x1024_S1024x1024_0_0 b

/-- A load of the whole buffer of 384 × 1024 gives it. -/
theorem whole7 (b : Vec Ideal S384x1024 .f32) : View.ld b r0_7 = b := View.ld_unit_zero (by decide) inb_S384x1024_S384x1024_0_0 b

/-- A point's entry: the merged row. -/
theorem entry (r : Fin 384) (j : Fin 1024) :
    k0_pay1 (k0_pay2 (iblk m c 4 (pt t))) (iblk m c 5 (pt t))
        (k0_pay3 (iblk m c 1 (pt t)) (iblk m c 2 (pt t)) (iblk m c 3 (pt t)) (iblk m c 6 (pt t)) (iblk m c 7 (pt t))
          (iblk m c 8 (pt t)) (iblk m c 9 (pt t)))
        (iblk m c 10 (pt t)) (iblk m c 0 (pt t)) (iblk m c 11 (pt t)) (ix2 r j)
      = row (fun j => argX m c (ix2 (at384 t r) j))
          (proj (fun l => argU m c (ix2 (at384 t r) l)) (fun l => argF m c (ix2 (at384 t r) l)) (fun l => argB m c (ix2 (at384 t r) l))
            (fun l => argD m c (ix1 l)) (fun k l => argW m c (ix2 k l)) (fun l => argG m c (ix1 l)) (fun l j => argP m c (ix2 l j)))
          (fun l => argY m c (ix2 (at384 t r) l)) (fun j => argH m c (ix2 (at384 t r) j))
          (fun k l => argQ m c (ix2 k l)) (fun k l => argO m c (ix2 k l)) j := by
  refine (pay1 _ _ _ _ _ _ r j).trans ?_
  simp only [pay3]
  have h0 : (fun j => (iblk m c 0 (pt t) : Vec Ideal S384x1024 .f32) (ix2 r j)) = fun j => argX m c (ix2 (at384 t r) j) :=
    funext fun j => blk0 m c t r j
  have h1 : (fun l => (iblk m c 1 (pt t) : Vec Ideal S384x512 .f32) (ix2 r l)) = fun l => argU m c (ix2 (at384 t r) l) :=
    funext fun l => blk1 m c t r l
  have h2 : (fun l => (iblk m c 2 (pt t) : Vec Ideal S384x512 .f32) (ix2 r l)) = fun l => argF m c (ix2 (at384 t r) l) :=
    funext fun l => blk2 m c t r l
  have h3 : (fun l => (iblk m c 3 (pt t) : Vec Ideal S384x512 .f32) (ix2 r l)) = fun l => argB m c (ix2 (at384 t r) l) :=
    funext fun l => blk3 m c t r l
  have h4 : (fun l => (iblk m c 4 (pt t) : Vec Ideal S1024x384 .bf16) (ix2 l r)) = fun l => argY m c (ix2 (at384 t r) l) :=
    funext fun l => blk4 m c t r l
  have h5 : (fun j => (iblk m c 5 (pt t) : Vec Ideal S384x2048 .f32) (ix2 r j)) = fun j => argH m c (ix2 (at384 t r) j) :=
    funext fun j => blk5 m c t r j
  have h6 : (fun l => (iblk m c 6 (pt t) : Vec Ideal S1x512 .f32) (ix2 0 l)) = fun l => argD m c (ix1 l) :=
    funext fun l => blk6 m c t l
  have h7 : (fun k l => (iblk m c 7 (pt t) : Vec Ideal S512x512 .bf16) (ix2 k l)) = fun k l => argW m c (ix2 k l) :=
    funext fun k => funext fun l => blk7 m c t k l
  have h8 : (fun l => (iblk m c 8 (pt t) : Vec Ideal S1x512 .f32) (ix2 0 l)) = fun l => argG m c (ix1 l) :=
    funext fun l => blk8 m c t l
  have h9 : (fun l j => (iblk m c 9 (pt t) : Vec Ideal S512x1024 .bf16) (ix2 l j)) = fun l j => argP m c (ix2 l j) :=
    funext fun l => funext fun j => blk9 m c t l j
  have h10 : (fun k l => (iblk m c 10 (pt t) : Vec Ideal S1024x1024 .bf16) (ix2 k l)) = fun k l => argQ m c (ix2 k l) :=
    funext fun k => funext fun l => blk10 m c t k l
  have h11 : (fun k l => (iblk m c 11 (pt t) : Vec Ideal S1024x1024 .bf16) (ix2 k l)) = fun k l => argO m c (ix2 k l) :=
    funext fun k => funext fun l => blk11 m c t k l
  refine congrFun (row_congr h0 ?_ h4 h5 h10 h11) j
  exact proj_congr h1 h2 h3 h6 h7 h8 h9

/-- The result's array at the end is the reference's. -/
theorem at12 : (dats m 0 c).arrAt 12 cfg0.N = Cert.Reference7Ideal.Read.val_main_v43 (F := Ideal) (argX m c) (argU m c) (argF m c)
    (argB m c) (argY m c) (argH m c) (argD m c) (argW m c) (argG m c) (argP m c) (argQ m c) (argO m c) := by
  refine (dats m 0 c).arrAt_eq_of_covers 12 (Cert.Reference7Ideal.Read.val_main_v43 (F := Ideal) (argX m c) (argU m c) (argF m c)
    (argB m c) (argY m c) (argH m c) (argD m c) (argW m c) (argG m c) (argP m c) (argQ m c) (argO m c))
    (by decide +kernel) fun t hf y => ?_
  clear hf
  obtain ⟨t, rfl⟩ := point_of t
  rw [after0_12]
  unfold out0_12
  rw [View.canon_unit_zero (by decide)]
  simp only [whole0, whole1, whole2, whole3, whole4, whole5, whole6, whole7]
  blk_simp
  revert y
  show ∀ y : S384x1024.Idx, _
  intro y
  idx_vars y
  refine (entry m c t y0 y1).trans ?_
  refine (ref43 _ _ _ _ _ _ _ _ _ _ _ _ (at384 t y0) y1).symm.trans ?_
  blk_ext [idx t, at384]

end Cert.Kernel7Ideal.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Frame
public import proofs.«01_k».proof.Proof.Same
public import proofs.«01_k».proof.Proof.Twin
public import proofs.«01_k».proof.Proof.MlpSame
public import proofs.«01_k».proof.Proof.GradIn
public import proofs.«01_k».proof.Proof.GradOut
public import proofs.«01_k».proof.Proof.AdamEarly
public import proofs.«01_k».proof.Proof.AdamSmall
public import proofs.«01_k».proof.Proof.Merge
public import Idealize.ShloMosaic.Lib.QuiescentFlight
public import Idealize.ShloMosaic.Adequacy
public import Idealize.ShloMosaic.Init

@[expose] public section

noncomputable section

namespace Cert.Proof

open Idealize.ShloMosaic Idealize.SL.Sem

/-- The precondition's shape relations. -/
local instance : Cert.Pre_finite.Facts := Cert.Pre_finite.facts

/-- The program at the bits runs, leaves its arguments and every counter as they were: the run is stated over any float
values, and the two programs have the same text. -/
theorem frame_kernel : Cert.quiescent_Kernel := by
  intro m ρ _
  rw [Cert.Twin.defs, Cert.Twin.main]
  exact Cert.KernelIdeal.Run.frame (F := Bits) m ρ

/-- The program at the ideal values, the same. -/
theorem frame_ideal : Cert.quiescent_KernelIdeal := fun m ρ _ => Cert.KernelIdeal.Run.frame m ρ

/-- The reference, the same: it declares no counter. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- At real arguments the three results are the reference's. -/
theorem algebraic : Cert.algebraic_KernelIdeal_ReferenceIdeal_pre_finite := by
  intro m ρ m' ρ' hpre hargs
  have R : ∀ c, Attn.Reals (Cert.KernelIdeal.Run.argQ m c) (Cert.KernelIdeal.Run.argK m c)
      (Cert.KernelIdeal.Run.argV m c) (Cert.KernelIdeal.Run.argC m c) := fun c =>
    (Cert.Same.reals_of _ _ _ _ (Cert.Pre_finite.reals _ _ _ _ (fun i => i.elim0) (congrFun (hpre c) _))).some
  refine ⟨fun c => Cert.KernelIdeal.Run.final m c Cert.KernelIdeal.main_v63,
    fun c => Cert.KernelIdeal.Run.final m c Cert.KernelIdeal.main_v66,
    fun c => Cert.KernelIdeal.Run.final m c Cert.KernelIdeal.main_v69, ?_, ?_⟩
  · refine (θ_run Cert.KernelIdeal.defs _ _).mono (fun r h c => ?_)
      (θ_run_and (Cert.KernelIdeal.Run.results m ρ) (Cert.KernelIdeal.Run.frame m ρ))
    exact ⟨(h.1.2 c).1, (h.1.2 c).2.1, (h.1.2 c).2.2, h.2.1 c⟩
  · refine (θ_run Cert.ReferenceIdeal.defs _ _).mono (fun r h c => ?_)
      (Cert.ReferenceIdeal.Value.run (F := Ideal) m' ρ')
    obtain ⟨h0, h1, h2, h3⟩ := h c
    obtain ⟨a0, a1, a2, a3⟩ := hargs c
    refine ⟨h0.trans ?_, h1.trans ?_, h2.trans ?_, h3⟩
    · rw [Cert.ReferenceIdeal.Read.val_main_v61_eq, a0, a1, a2, a3]
      exact (Cert.Same.dq m c (R c)).symm
    · rw [Cert.ReferenceIdeal.Read.val_main_v60_eq, a0, a1, a2, a3]
      exact (Cert.Same.dk m c (R c)).symm
    · rw [Cert.ReferenceIdeal.Read.val_main_v40_eq, a0, a1, a3]
      exact (Cert.Same.dv m c (R c)).symm

/-- The perceptron program at the bits runs, leaves its arguments and every counter as they were. -/
theorem frame_kernel2 : Cert.quiescent_Kernel2 := fun m ρ _ => Cert.Kernel2.Gen.frame m ρ

/-- The perceptron program at the ideal values, the same. -/
theorem frame_ideal2 : Cert.quiescent_Kernel2Ideal := fun m ρ _ => Cert.Kernel2Ideal.Gen.frame m ρ

/-- The perceptron reference, the same: it declares no counter. -/
theorem frame_reference2 : Cert.quiescent_Reference2Ideal := fun m ρ _ =>
  (θ_run Cert.Reference2Ideal.defs _ _).mono
    (fun r h => ⟨fun c => (h c).2.2.2.2.2.2.2.2, sem_eq_zero_of_no_sems (by decide) r.2⟩)
    (Cert.Reference2Ideal.Value.run (F := Ideal) m ρ)

/-- The perceptron's eight results are its reference's. -/
theorem algebraic2 : Cert.algebraic_Kernel2Ideal_Reference2Ideal := by
  intro m ρ m' ρ' _ hargs
  refine ⟨fun c => (Cert.Kernel2Ideal.Gen.dats m 0 c).arrAt 5 Cert.Kernel2Ideal.cfg0.N,
    fun c => (Cert.Kernel2Ideal.Gen.dats m 0 c).arrAt 4 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N, ?_, ?_⟩
  · refine (θ_run Cert.Kernel2Ideal.defs _ _).mono (fun r h c => ?_) (Cert.Kernel2Ideal.Value.run_blocks (F := Ideal) m ρ)
    obtain ⟨h4, h5, h6, h7, h8, h9, h10, h11, ha⟩ := h c
    exact ⟨h5, h4, h6, h7, h8, h9, h10, h11, ha⟩
  · refine (θ_run Cert.Reference2Ideal.defs _ _).mono (fun r h c => ?_)
      (Cert.Reference2Ideal.Value.run (F := Ideal) m' ρ')
    obtain ⟨h5, h4, h6, h7, h8, h9, h10, h11, ha⟩ := h c
    obtain ⟨a0, a1, a2, a3, a4, a5⟩ := hargs c
    have b0 : StableHlo.launchContents m' c (Proc.devRef .tc Cert.Reference2Ideal.main_arg0) = Cert.Kernel2Ideal.Mlp.argX m c := a0
    have b1 : StableHlo.launchContents m' c (Proc.devRef .tc Cert.Reference2Ideal.main_arg1) = Cert.Kernel2Ideal.Mlp.argT m c := a1
    have b2 : StableHlo.launchContents m' c (Proc.devRef .tc Cert.Reference2Ideal.main_arg2) = Cert.Kernel2Ideal.Mlp.argG m c := a2
    have b3 : StableHlo.launchContents m' c (Proc.devRef .tc Cert.Reference2Ideal.main_arg3) = Cert.Kernel2Ideal.Mlp.argH m c := a3
    have b4 : StableHlo.launchContents m' c (Proc.devRef .tc Cert.Reference2Ideal.main_arg4) = Cert.Kernel2Ideal.Mlp.argW m c := a4
    have b5 : StableHlo.launchContents m' c (Proc.devRef .tc Cert.Reference2Ideal.main_arg5) = Cert.Kernel2Ideal.Mlp.argU m c := a5
    obtain ⟨X, T, G1, G2, W1, W2, A⟩ := Cert.MlpSame.args_of m c
    refine ⟨h5.trans ?_, h4.trans ?_, h6.trans ?_, h7.trans ?_, h8.trans ?_, h9.trans ?_, h10.trans ?_, h11.trans ?_, ha⟩
    · rw [Cert.Reference2Ideal.Read.val_main_v104_eq, b0, b1, b2, b3, b4, b5]
      exact (Cert.MlpSame.out5 A).symm
    · rw [Cert.Reference2Ideal.Read.val_main_v105_eq, b0, b1, b2, b3, b4, b5]
      exact (Cert.MlpSame.out4 A).symm
    · rw [Cert.Reference2Ideal.Read.val_main_v106_eq, b0, b1, b2, b3, b4, b5]
      exact (Cert.MlpSame.out6 A).symm
    · rw [Cert.Reference2Ideal.Read.val_main_v107_eq, b0, b1, b2, b3, b4, b5]
      exact (Cert.MlpSame.out7 A).symm
    · rw [Cert.Reference2Ideal.Read.val_main_v108_eq, b0, b2]
      exact (Cert.MlpSame.out8 A).symm
    · rw [Cert.Reference2Ideal.Read.val_main_v109_eq, b0, b1, b2, b3, b4, b5]
      exact (Cert.MlpSame.out9 A).symm
    · rw [Cert.Reference2Ideal.Read.val_main_v110_eq, b0, b2, b4]
      exact (Cert.MlpSame.out10 A).symm
    · rw [Cert.Reference2Ideal.Read.val_main_v111_eq, b0, b1, b2, b3, b4, b5]
      exact (Cert.MlpSame.out11 A).symm

/-- The program of the first weight's gradient, at the bits, runs, leaves its arguments and every counter as they were. -/
theorem frame_kernel3 : Cert.quiescent_Kernel3 := fun m ρ _ => Cert.Kernel3.Gen.frame m ρ

/-- The program of the first weight's gradient, at the ideal values, the same. -/
theorem frame_ideal3 : Cert.quiescent_Kernel3Ideal := fun m ρ _ => Cert.Kernel3Ideal.Gen.frame m ρ

/-- The reference of the first weight's gradient, the same: it declares no counter. -/
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The first weight's gradient is its reference's. -/
theorem algebraic3 : Cert.algebraic_Kernel3Ideal_Reference3Ideal := by
  intro m ρ m' ρ' _ hargs
  refine ⟨fun c => Cert.Kernel3Ideal.Value.G2 m c, ?_, ?_⟩
  · exact Cert.Kernel3Ideal.Value.run (F := Ideal) m ρ
  · refine (θ_run Cert.Reference3Ideal.defs _ _).mono (fun r h c => ?_)
      (Cert.Reference3Ideal.Value.run (F := Ideal) m' ρ')
    obtain ⟨h0, ha⟩ := h c
    obtain ⟨a0, a1⟩ := hargs c
    refine ⟨h0.trans ?_, ha⟩
    rw [Cert.Reference3Ideal.Read.val_main_v5_eq, a0, a1]
    exact (Cert.Kernel3Ideal.Grad.same m c).symm

/-- The program of the second weight's gradient, at the bits, runs, leaves its arguments and every counter as they were. -/
theorem frame_kernel4 : Cert.quiescent_Kernel4 := fun m ρ _ => Cert.Kernel4.Gen.frame m ρ

/-- The program of the second weight's gradient, at the ideal values, the same. -/
theorem frame_ideal4 : Cert.quiescent_Kernel4Ideal := fun m ρ _ => Cert.Kernel4Ideal.Gen.frame m ρ

/-- The reference of the second weight's gradient, the same: it declares no counter. -/
theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The second weight's gradient is its reference's. -/
theorem algebraic4 : Cert.algebraic_Kernel4Ideal_Reference4Ideal := by
  intro m ρ m' ρ' _ hargs
  refine ⟨fun c => Cert.Kernel4Ideal.Value.G2 m c, ?_, ?_⟩
  · exact Cert.Kernel4Ideal.Value.run (F := Ideal) m ρ
  · refine (θ_run Cert.Reference4Ideal.defs _ _).mono (fun r h c => ?_)
      (Cert.Reference4Ideal.Value.run (F := Ideal) m' ρ')
    obtain ⟨h0, ha⟩ := h c
    obtain ⟨a0, a1⟩ := hargs c
    refine ⟨h0.trans ?_, ha⟩
    rw [Cert.Reference4Ideal.Read.val_main_v5_eq, a0, a1]
    exact (Cert.Kernel4Ideal.Grad.same m c).symm

/-- The optimiser's program on the packed shards, at the bits, runs, leaves its arguments and every counter as they were. -/
theorem frame_kernel5 : Cert.quiescent_Kernel5 := fun m ρ _ => Cert.Kernel5.Gen.frame m ρ

/-- The optimiser's program on the packed shards, at the ideal values, the same. -/
theorem frame_ideal5 : Cert.quiescent_Kernel5Ideal := fun m ρ _ => Cert.Kernel5Ideal.Gen.frame m ρ

/-- The optimiser's reference on the packed shards, the same: it declares no counter. -/
theorem frame_reference5 : Cert.quiescent_Reference5Ideal := fun m ρ _ =>
  (θ_run Cert.Reference5Ideal.defs _ _).mono
    (fun r h => ⟨fun c => (h c).2.2.2.2, sem_eq_zero_of_no_sems (by decide) r.2⟩)
    (Cert.Reference5Ideal.Value.run (F := Ideal) m ρ)

/-- The gradient, the step and the two new moments of the packed shards are their reference's. -/
theorem algebraic5 : Cert.algebraic_Kernel5Ideal_Reference5Ideal := by
  intro m ρ m' ρ' _ hargs
  refine ⟨fun c => (Cert.Kernel5Ideal.Gen.dats m 0 c).arrAt 4 Cert.Kernel5Ideal.cfg0.N,
    fun c => (Cert.Kernel5Ideal.Gen.dats m 0 c).arrAt 5 Cert.Kernel5Ideal.cfg0.N,
    fun c => (Cert.Kernel5Ideal.Gen.dats m 0 c).arrAt 6 Cert.Kernel5Ideal.cfg0.N,
    fun c => (Cert.Kernel5Ideal.Gen.dats m 0 c).arrAt 7 Cert.Kernel5Ideal.cfg0.N, ?_, ?_⟩
  · exact Cert.Kernel5Ideal.Value.run_blocks (F := Ideal) m ρ
  · refine (θ_run Cert.Reference5Ideal.defs _ _).mono (fun r h c => ?_)
      (Cert.Reference5Ideal.Value.run (F := Ideal) m' ρ')
    obtain ⟨h4, h5, h6, h7, ha⟩ := h c
    obtain ⟨a0, a1, a2, a3⟩ := hargs c
    refine ⟨h4.trans ?_, h5.trans ?_, h6.trans ?_, h7.trans ?_, ha⟩
    · rw [Cert.Reference5Ideal.Read.val_main_v1_eq, a0]
      exact (Cert.Kernel5Ideal.Adam.at4 m c).symm
    · rw [Cert.Reference5Ideal.Read.val_main_v25_eq, a0, a1, a2, a3]
      exact (Cert.Kernel5Ideal.Adam.at5 m c).symm
    · rw [Cert.Reference5Ideal.Read.val_main_v6_eq, a0, a2]
      exact (Cert.Kernel5Ideal.Adam.at6 m c).symm
    · rw [Cert.Reference5Ideal.Read.val_main_v12_eq, a0, a3]
      exact (Cert.Kernel5Ideal.Adam.at7 m c).symm

/-- The optimiser's program on the packed small weights, at the bits, runs, leaves its arguments and every counter as they were. -/
theorem frame_kernel6 : Cert.quiescent_Kernel6 := fun m ρ _ => Cert.Kernel6.Gen.frame m ρ

/-- The optimiser's program on the packed small weights, at the ideal values, the same. -/
theorem frame_ideal6 : Cert.quiescent_Kernel6Ideal := fun m ρ _ => Cert.Kernel6Ideal.Gen.frame m ρ

/-- The optimiser's reference on the packed small weights, the same: it declares no counter. -/
theorem frame_reference6 : Cert.quiescent_Reference6Ideal := fun m ρ _ =>
  (θ_run Cert.Reference6Ideal.defs _ _).mono
    (fun r h => ⟨fun c => (h c).2.2.2.2, sem_eq_zero_of_no_sems (by decide) r.2⟩)
    (Cert.Reference6Ideal.Value.run (F := Ideal) m ρ)

/-- The gradient, the step and the two new moments of the packed small weights are their reference's. -/
theorem algebraic6 : Cert.algebraic_Kernel6Ideal_Reference6Ideal := by
  intro m ρ m' ρ' _ hargs
  refine ⟨fun c => (Cert.Kernel6Ideal.Gen.dats m 0 c).arrAt 4 Cert.Kernel6Ideal.cfg0.N,
    fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N, ?_, ?_⟩
  · exact Cert.Kernel6Ideal.Value.run_blocks (F := Ideal) m ρ
  · refine (θ_run Cert.Reference6Ideal.defs _ _).mono (fun r h c => ?_)
      (Cert.Reference6Ideal.Value.run (F := Ideal) m' ρ')
    obtain ⟨h4, h5, h6, h7, ha⟩ := h c
    obtain ⟨a0, a1, a2, a3⟩ := hargs c
    refine ⟨h4.trans ?_, h5.trans ?_, h6.trans ?_, h7.trans ?_, ha⟩
    · rw [Cert.Reference6Ideal.Read.val_main_v0_eq, a0]
      exact (Cert.Kernel6Ideal.Adam.at4 m c).symm
    · rw [Cert.Reference6Ideal.Read.val_main_v24_eq, a0, a1, a2, a3]
      exact (Cert.Kernel6Ideal.Adam.at5 m c).symm
    · rw [Cert.Reference6Ideal.Read.val_main_v5_eq, a0, a2]
      exact (Cert.Kernel6Ideal.Adam.at6 m c).symm
    · rw [Cert.Reference6Ideal.Read.val_main_v11_eq, a0, a3]
      exact (Cert.Kernel6Ideal.Adam.at7 m c).symm

/-- The merging program, at the bits, runs, leaves its arguments and every counter as they were. -/
theorem frame_kernel7 : Cert.quiescent_Kernel7 := fun m ρ _ => Cert.Kernel7.Gen.frame m ρ

/-- The merging program, at the ideal values, the same. -/
theorem frame_ideal7 : Cert.quiescent_Kernel7Ideal := fun m ρ _ => Cert.Kernel7Ideal.Gen.frame m ρ

/-- The merging reference, the same: it declares no counter. -/
theorem frame_reference7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The rows after the token mixer are their reference's. -/
theorem algebraic7 : Cert.algebraic_Kernel7Ideal_Reference7Ideal := by
  intro m ρ m' ρ' _ hargs
  refine ⟨fun c => (Cert.Kernel7Ideal.Gen.dats m 0 c).arrAt 12 Cert.Kernel7Ideal.cfg0.N, ?_, ?_⟩
  · exact Cert.Kernel7Ideal.Value.run_blocks (F := Ideal) m ρ
  · refine (θ_run Cert.Reference7Ideal.defs _ _).mono (fun r h c => ?_)
      (Cert.Reference7Ideal.Value.run (F := Ideal) m' ρ')
    obtain ⟨h0, ha⟩ := h c
    obtain ⟨a0, a1, a2, a3, a4, a5, a6, a7, a8, a9, a10, a11⟩ := hargs c
    refine ⟨h0.trans ?_, ha⟩
    rw [Cert.Reference7Ideal.Read.val_main_v43_eq, a0, a1, a2, a3, a4, a5, a6, a7, a8, a9, a10, a11]
    exact (Cert.Kernel7Ideal.Merge.at12 m c).symm

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Pre_finite.facts,
    frame_kernel, frame_ideal, fun m ρ _ => frame_ideal m ρ trivial, frame_reference,
    fun m ρ _ => frame_reference m ρ trivial,
    frame_kernel2, frame_ideal2, frame_reference2, frame_kernel3, frame_ideal3, frame_reference3,
    frame_kernel4, frame_ideal4, frame_reference4, frame_kernel5, frame_ideal5, frame_reference5,
    frame_kernel6, frame_ideal6, frame_reference6, frame_kernel7, frame_ideal7, frame_reference7,
    trivial, algebraic, trivial, algebraic2, trivial, algebraic3, trivial, algebraic4,
    trivial, algebraic5, trivial, algebraic6, trivial, algebraic7⟩

end Cert.Proof

end
